-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_no_split_tie [hPre_finite_and_no_split_tie : Cert.Pre_finite_and_no_split_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_no_split_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_and_no_split_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_finite_and_no_split_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_no_split_tie [hPre_finite_and_no_split_tie : Cert.Pre_finite_and_no_split_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_no_split_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_and_no_split_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_finite_and_no_split_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_no_split_tie [hKernelIdeal : Cert.KernelIdeal.Facts] [hPre_finite_and_no_split_tie : Cert.Pre_finite_and_no_split_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_no_split_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_no_split_tie [hReferenceIdeal : Cert.ReferenceIdeal.Facts] [hPre_finite_and_no_split_tie : Cert.Pre_finite_and_no_split_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_no_split_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "ninth" .f32 0x3DE38E39#32 ((1 / 9 : ℝ) : EReal)

def algebraic_KernelIdeal_ReferenceIdeal_pre_finite_and_no_split_tie [hKernelIdeal : Cert.KernelIdeal.Facts] [hReferenceIdeal : Cert.ReferenceIdeal.Facts] [hPre_finite_and_no_split_tie : Cert.Pre_finite_and_no_split_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_no_split_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_no_split_tie : Cert.Pre_finite_and_no_split_tie.Facts),
    quiescent_Kernel (hKernel := hKernel)
    ∧ quiescent_KernelIdeal (hKernelIdeal := hKernelIdeal)
    ∧ quiescent_KernelIdeal_pre_finite_and_no_split_tie (hKernelIdeal := hKernelIdeal) (hPre_finite_and_no_split_tie := hPre_finite_and_no_split_tie)
    ∧ quiescent_ReferenceIdeal (hReferenceIdeal := hReferenceIdeal)
    ∧ quiescent_ReferenceIdeal_pre_finite_and_no_split_tie (hReferenceIdeal := hReferenceIdeal) (hPre_finite_and_no_split_tie := hPre_finite_and_no_split_tie)
    ∧ preserves_Kernel_KernelIdeal
    ∧ algebraic_KernelIdeal_ReferenceIdeal_pre_finite_and_no_split_tie (hKernelIdeal := hKernelIdeal) (hReferenceIdeal := hReferenceIdeal) (hPre_finite_and_no_split_tie := hPre_finite_and_no_split_tie)
-- ==== Pre_finite_and_no_split_tie.lean ====
abbrev S4x3x224x224 : Shape := ⟨4, ![4, 3, 224, 224]⟩
abbrev S4x2x3x224x224 : Shape := ⟨5, ![4, 2, 3, 224, 224]⟩
abbrev S56x224 : Shape := ⟨2, ![56, 224]⟩
abbrev S3x224 : Shape := ⟨2, ![3, 224]⟩
abbrev S3x224x1 : Shape := ⟨3, ![3, 224, 1]⟩
abbrev S3x56 : Shape := ⟨2, ![3, 56]⟩
abbrev S3x56x1 : Shape := ⟨3, ![3, 56, 1]⟩
abbrev S7x56 : Shape := ⟨2, ![7, 56]⟩
abbrev S7x56x1 : Shape := ⟨3, ![7, 56, 1]⟩
abbrev S4x6x224x224 : Shape := ⟨4, ![4, 6, 224, 224]⟩
abbrev S4x9x224x224 : Shape := ⟨4, ![4, 9, 224, 224]⟩
abbrev S4x9x3x224x224 : Shape := ⟨5, ![4, 9, 3, 224, 224]⟩
abbrev S4x9x3x224x3x224 : Shape := ⟨6, ![4, 9, 3, 224, 3, 224]⟩
abbrev S4x9x3x3x224x224 : Shape := ⟨6, ![4, 9, 3, 3, 224, 224]⟩
abbrev S4x9x9x224x224 : Shape := ⟨5, ![4, 9, 9, 224, 224]⟩
abbrev S4x9x1x224x224 : Shape := ⟨5, ![4, 9, 1, 224, 224]⟩
abbrev S_ : Shape := ⟨0, ![]⟩
abbrev S56x224x1 : Shape := ⟨3, ![56, 224, 1]⟩
abbrev S1x1x56x224x1 : Shape := ⟨5, ![1, 1, 56, 224, 1]⟩
abbrev S4x9x56x224x224 : Shape := ⟨5, ![4, 9, 56, 224, 224]⟩
abbrev S4x9x56x224 : Shape := ⟨4, ![4, 9, 56, 224]⟩
abbrev S4x9x56x1x224 : Shape := ⟨5, ![4, 9, 56, 1, 224]⟩
abbrev S1x1x1x56x224 : Shape := ⟨5, ![1, 1, 1, 56, 224]⟩
abbrev S4x9x56x56x224 : Shape := ⟨5, ![4, 9, 56, 56, 224]⟩
abbrev S4x9x56x56 : Shape := ⟨4, ![4, 9, 56, 56]⟩
abbrev S4x9x3x56x56 : Shape := ⟨5, ![4, 9, 3, 56, 56]⟩
abbrev S4x9x3x56x3x56 : Shape := ⟨6, ![4, 9, 3, 56, 3, 56]⟩
abbrev S4x9x3x3x56x56 : Shape := ⟨6, ![4, 9, 3, 3, 56, 56]⟩
abbrev S4x9x9x56x56 : Shape := ⟨5, ![4, 9, 9, 56, 56]⟩
abbrev S4x81x56x56 : Shape := ⟨4, ![4, 81, 56, 56]⟩
abbrev S4x54x56x56 : Shape := ⟨4, ![4, 54, 56, 56]⟩
abbrev S4x54x7x56x56 : Shape := ⟨5, ![4, 54, 7, 56, 56]⟩
abbrev S4x54x7x56x7x56 : Shape := ⟨6, ![4, 54, 7, 56, 7, 56]⟩
abbrev S4x54x7x7x56x56 : Shape := ⟨6, ![4, 54, 7, 7, 56, 56]⟩
abbrev S4x54x49x56x56 : Shape := ⟨5, ![4, 54, 49, 56, 56]⟩
abbrev S4x27x56x56 : Shape := ⟨4, ![4, 27, 56, 56]⟩
abbrev S4x27x49x56x56 : Shape := ⟨5, ![4, 27, 49, 56, 56]⟩
abbrev S4x27x98x56x56 : Shape := ⟨5, ![4, 27, 98, 56, 56]⟩
abbrev S4x27x1x56x56 : Shape := ⟨5, ![4, 27, 1, 56, 56]⟩
abbrev S4x98x56x56 : Shape := ⟨4, ![4, 98, 56, 56]⟩
abbrev S4x56x56 : Shape := ⟨3, ![4, 56, 56]⟩

class Facts : Prop where
  bcast_S3x224_S3x224x1_0_1 : S3x224.BroadcastsInDim S3x224x1 (![0, 1] : Fin 2 → Fin S3x224x1.rank)
  bcast_S3x56_S3x56x1_0_1 : S3x56.BroadcastsInDim S3x56x1 (![0, 1] : Fin 2 → Fin S3x56x1.rank)
  bcast_S7x56_S7x56x1_0_1 : S7x56.BroadcastsInDim S7x56x1 (![0, 1] : Fin 2 → Fin S7x56x1.rank)
  shapeCasts_S4x2x3x224x224_S4x6x224x224 : S4x2x3x224x224.ShapeCasts S4x6x224x224
  concatenates_S4x3x224x224_S4x6x224x224_S4x9x224x224_d1 : Shape.Concatenates [S4x3x224x224, S4x6x224x224] S4x9x224x224 1
  transposes_S4x9x3x224x3x224_S4x9x3x3x224x224_0_1_2_4_3_5 : S4x9x3x224x3x224.Transposes [0, 1, 2, 4, 3, 5] S4x9x3x3x224x224
  shapeCasts_S4x9x3x3x224x224_S4x9x9x224x224 : S4x9x3x3x224x224.ShapeCasts S4x9x9x224x224
  bcast_S4x9x224x224_S4x9x1x224x224_0_1_3_4 : S4x9x224x224.BroadcastsInDim S4x9x1x224x224 (![0, 1, 3, 4] : Fin 4 → Fin S4x9x1x224x224.rank)
  bcast_S4x9x1x224x224_S4x9x9x224x224_0_1_2_3_4 : S4x9x1x224x224.BroadcastsInDim S4x9x9x224x224 (![0, 1, 2, 3, 4] : Fin 5 → Fin S4x9x9x224x224.rank)
  reducesTo_S4x9x9x224x224_S4x9x224x224_d2 : S4x9x9x224x224.ReducesTo [2] S4x9x224x224
  h_S_ : 0 < S_.numel
  bcast_S_S4x9x224x224 : S_.BroadcastsInDim S4x9x224x224 (![] : Fin 0 → Fin S4x9x224x224.rank)
  bcast_S56x224_S56x224x1_0_1 : S56x224.BroadcastsInDim S56x224x1 (![0, 1] : Fin 2 → Fin S56x224x1.rank)
  bcast_S56x224x1_S1x1x56x224x1_2_3_4 : S56x224x1.BroadcastsInDim S1x1x56x224x1 (![2, 3, 4] : Fin 3 → Fin S1x1x56x224x1.rank)
  bcast_S1x1x56x224x1_S4x9x56x224x224_0_1_2_3_4 : S1x1x56x224x1.BroadcastsInDim S4x9x56x224x224 (![0, 1, 2, 3, 4] : Fin 5 → Fin S4x9x56x224x224.rank)
  bcast_S4x9x1x224x224_S4x9x56x224x224_0_1_2_3_4 : S4x9x1x224x224.BroadcastsInDim S4x9x56x224x224 (![0, 1, 2, 3, 4] : Fin 5 → Fin S4x9x56x224x224.rank)
  reducesTo_S4x9x56x224x224_S4x9x56x224_d3 : S4x9x56x224x224.ReducesTo [3] S4x9x56x224
  bcast_S4x9x56x224_S4x9x56x1x224_0_1_2_4 : S4x9x56x224.BroadcastsInDim S4x9x56x1x224 (![0, 1, 2, 4] : Fin 4 → Fin S4x9x56x1x224.rank)
  bcast_S56x224_S1x1x1x56x224_3_4 : S56x224.BroadcastsInDim S1x1x1x56x224 (![3, 4] : Fin 2 → Fin S1x1x1x56x224.rank)
  bcast_S1x1x1x56x224_S4x9x56x56x224_0_1_2_3_4 : S1x1x1x56x224.BroadcastsInDim S4x9x56x56x224 (![0, 1, 2, 3, 4] : Fin 5 → Fin S4x9x56x56x224.rank)
  bcast_S4x9x56x1x224_S4x9x56x56x224_0_1_2_3_4 : S4x9x56x1x224.BroadcastsInDim S4x9x56x56x224 (![0, 1, 2, 3, 4] : Fin 5 → Fin S4x9x56x56x224.rank)
  reducesTo_S4x9x56x56x224_S4x9x56x56_d4 : S4x9x56x56x224.ReducesTo [4] S4x9x56x56
  transposes_S4x9x3x56x3x56_S4x9x3x3x56x56_0_1_2_4_3_5 : S4x9x3x56x3x56.Transposes [0, 1, 2, 4, 3, 5] S4x9x3x3x56x56
  shapeCasts_S4x9x3x3x56x56_S4x9x9x56x56 : S4x9x3x3x56x56.ShapeCasts S4x9x9x56x56
  shapeCasts_S4x9x9x56x56_S4x81x56x56 : S4x9x9x56x56.ShapeCasts S4x81x56x56
  slices_S4x81x56x56_S4x54x56x56_0_27_0_0 : S4x81x56x56.Slices ![0, 27, 0, 0] S4x54x56x56
  transposes_S4x54x7x56x7x56_S4x54x7x7x56x56_0_1_2_4_3_5 : S4x54x7x56x7x56.Transposes [0, 1, 2, 4, 3, 5] S4x54x7x7x56x56
  shapeCasts_S4x54x7x7x56x56_S4x54x49x56x56 : S4x54x7x7x56x56.ShapeCasts S4x54x49x56x56
  slices_S4x81x56x56_S4x27x56x56_0_0_0_0 : S4x81x56x56.Slices ![0, 0, 0, 0] S4x27x56x56
  slices_S4x54x49x56x56_S4x27x49x56x56_0_0_0_0_0 : S4x54x49x56x56.Slices ![0, 0, 0, 0, 0] S4x27x49x56x56
  slices_S4x54x49x56x56_S4x27x49x56x56_0_27_0_0_0 : S4x54x49x56x56.Slices ![0, 27, 0, 0, 0] S4x27x49x56x56
  concatenates_S4x27x49x56x56_S4x27x49x56x56_S4x27x98x56x56_d2 : Shape.Concatenates [S4x27x49x56x56, S4x27x49x56x56] S4x27x98x56x56 2
  bcast_S4x27x56x56_S4x27x1x56x56_0_1_3_4 : S4x27x56x56.BroadcastsInDim S4x27x1x56x56 (![0, 1, 3, 4] : Fin 4 → Fin S4x27x1x56x56.rank)
  bcast_S4x27x1x56x56_S4x27x98x56x56_0_1_2_3_4 : S4x27x1x56x56.BroadcastsInDim S4x27x98x56x56 (![0, 1, 2, 3, 4] : Fin 5 → Fin S4x27x98x56x56.rank)
  reducesTo_S4x27x98x56x56_S4x98x56x56_d1 : S4x27x98x56x56.ReducesTo [1] S4x98x56x56
  reducesTo_S4x98x56x56_S4x56x56_d1 : S4x98x56x56.ReducesTo [1] S4x56x56
  bcast_S4x56x56_S4x98x56x56_0_2_3 : S4x56x56.BroadcastsInDim S4x98x56x56 (![0, 2, 3] : Fin 3 → Fin S4x98x56x56.rank)
  bcast_S_S4x98x56x56 : S_.BroadcastsInDim S4x98x56x56 (![] : Fin 0 → Fin S4x98x56x56.rank)
  bcast_S_S4x3x224x224 : S_.BroadcastsInDim S4x3x224x224 (![] : Fin 0 → Fin S4x3x224x224.rank)
  bcast_S_S4x2x3x224x224 : S_.BroadcastsInDim S4x2x3x224x224 (![] : Fin 0 → Fin S4x2x3x224x224.rank)
  gather_S4x9x224x224_S3x224x1_S4x9x3x224x224_014_2_n_n_2_2_491224_wf : GatherDims.WF S4x9x224x224 S3x224x1 S4x9x3x224x224 [0, 1, 4] [2] [] [2] [] 2 ![4, 9, 1, 224]
  gather_S4x9x3x224x224_S3x224x1_S4x9x3x224x3x224_0123_4_n_n_4_2_4932241_wf : GatherDims.WF S4x9x3x224x224 S3x224x1 S4x9x3x224x3x224 [0, 1, 2, 3] [4] [] [4] [] 2 ![4, 9, 3, 224, 1]
  gather_S4x9x56x56_S3x56x1_S4x9x3x56x56_014_2_n_n_2_2_49156_wf : GatherDims.WF S4x9x56x56 S3x56x1 S4x9x3x56x56 [0, 1, 4] [2] [] [2] [] 2 ![4, 9, 1, 56]
  gather_S4x9x3x56x56_S3x56x1_S4x9x3x56x3x56_0123_4_n_n_4_2_493561_wf : GatherDims.WF S4x9x3x56x56 S3x56x1 S4x9x3x56x3x56 [0, 1, 2, 3] [4] [] [4] [] 2 ![4, 9, 3, 56, 1]
  gather_S4x54x56x56_S7x56x1_S4x54x7x56x56_014_2_n_n_2_2_454156_wf : GatherDims.WF S4x54x56x56 S7x56x1 S4x54x7x56x56 [0, 1, 4] [2] [] [2] [] 2 ![4, 54, 1, 56]
  gather_S4x54x7x56x56_S7x56x1_S4x54x7x56x7x56_0123_4_n_n_4_2_4547561_wf : GatherDims.WF S4x54x7x56x56 S7x56x1 S4x54x7x56x7x56 [0, 1, 2, 3] [4] [] [4] [] 2 ![4, 54, 7, 56, 1]

variable [Facts]

def gather_S4x9x224x224_S3x224x1_S4x9x3x224x224_014_2_n_n_2_2_491224 : GatherDims S4x9x224x224 S3x224x1 S4x9x3x224x224 where
  offsetDims := [0, 1, 4]
  collapsedSliceDims := [2]
  operandBatchingDims := []
  startIndicesBatchingDims := []
  startIndexMap := [2]
  indexVectorDim := 2
  sliceSizes := ![4, 9, 1, 224]
  wf := gather_S4x9x224x224_S3x224x1_S4x9x3x224x224_014_2_n_n_2_2_491224_wf
def gather_S4x9x3x224x224_S3x224x1_S4x9x3x224x3x224_0123_4_n_n_4_2_4932241 : GatherDims S4x9x3x224x224 S3x224x1 S4x9x3x224x3x224 where
  offsetDims := [0, 1, 2, 3]
  collapsedSliceDims := [4]
  operandBatchingDims := []
  startIndicesBatchingDims := []
  startIndexMap := [4]
  indexVectorDim := 2
  sliceSizes := ![4, 9, 3, 224, 1]
  wf := gather_S4x9x3x224x224_S3x224x1_S4x9x3x224x3x224_0123_4_n_n_4_2_4932241_wf
def gather_S4x9x56x56_S3x56x1_S4x9x3x56x56_014_2_n_n_2_2_49156 : GatherDims S4x9x56x56 S3x56x1 S4x9x3x56x56 where
  offsetDims := [0, 1, 4]
  collapsedSliceDims := [2]
  operandBatchingDims := []
  startIndicesBatchingDims := []
  startIndexMap := [2]
  indexVectorDim := 2
  sliceSizes := ![4, 9, 1, 56]
  wf := gather_S4x9x56x56_S3x56x1_S4x9x3x56x56_014_2_n_n_2_2_49156_wf
def gather_S4x9x3x56x56_S3x56x1_S4x9x3x56x3x56_0123_4_n_n_4_2_493561 : GatherDims S4x9x3x56x56 S3x56x1 S4x9x3x56x3x56 where
  offsetDims := [0, 1, 2, 3]
  collapsedSliceDims := [4]
  operandBatchingDims := []
  startIndicesBatchingDims := []
  startIndexMap := [4]
  indexVectorDim := 2
  sliceSizes := ![4, 9, 3, 56, 1]
  wf := gather_S4x9x3x56x56_S3x56x1_S4x9x3x56x3x56_0123_4_n_n_4_2_493561_wf
def gather_S4x54x56x56_S7x56x1_S4x54x7x56x56_014_2_n_n_2_2_454156 : GatherDims S4x54x56x56 S7x56x1 S4x54x7x56x56 where
  offsetDims := [0, 1, 4]
  collapsedSliceDims := [2]
  operandBatchingDims := []
  startIndicesBatchingDims := []
  startIndexMap := [2]
  indexVectorDim := 2
  sliceSizes := ![4, 54, 1, 56]
  wf := gather_S4x54x56x56_S7x56x1_S4x54x7x56x56_014_2_n_n_2_2_454156_wf
def gather_S4x54x7x56x56_S7x56x1_S4x54x7x56x7x56_0123_4_n_n_4_2_4547561 : GatherDims S4x54x7x56x56 S7x56x1 S4x54x7x56x7x56 where
  offsetDims := [0, 1, 2, 3]
  collapsedSliceDims := [4]
  operandBatchingDims := []
  startIndicesBatchingDims := []
  startIndexMap := [4]
  indexVectorDim := 2
  sliceSizes := ![4, 54, 7, 56, 1]
  wf := gather_S4x54x7x56x56_S7x56x1_S4x54x7x56x7x56_0123_4_n_n_4_2_4547561_wf

noncomputable abbrev lit0t0_0 (i : Nat) : BitVec 32 := match i % 128 with
  | 0 => 0x3E49D1F2#32
  | 1 => 0x3E85B05B#32
  | 2 => 0x3E85B05B#32
  | 3 => 0x3E49D1F2#32
  | 4 => 0x3DD82D83#32
  | 5 => 0x3CC98C99#32
  | 6 => 0xBC54629B#32
  | 7 => 0xBCA28A29#32
  | 8 => 0xBC430C31#32
  | 9 => 0xBAF2B9D6#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_1 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0xBC941E9D#32
  | 97 => 0xBC418AFC#32
  | 98 => 0x3CB7AB14#32
  | 99 => 0x3DC4FFC1#32
  | 100 => 0x3E37EA47#32
  | 101 => 0x3E73A81E#32
  | 102 => 0x3E73A81E#32
  | 103 => 0x3E37EA47#32
  | 104 => 0x3DC4FFC1#32
  | 105 => 0x3CB7AB14#32
  | 106 => 0xBC418AFC#32
  | 107 => 0xBC941E9D#32
  | 108 => 0xBC31BE55#32
  | 109 => 0xBADD3120#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_2 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_3 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0xBAE00000#32
  | 67 => 0xBC340000#32
  | 68 => 0xBC960000#32
  | 69 => 0xBC440000#32
  | 70 => 0x3CBA0000#32
  | 71 => 0x3DC78000#32
  | 72 => 0x3E3A4000#32
  | 73 => 0x3E76C000#32
  | 74 => 0x3E76C000#32
  | 75 => 0x3E3A4000#32
  | 76 => 0x3DC78000#32
  | 77 => 0x3CBA0000#32
  | 78 => 0xBC440000#32
  | 79 => 0xBC960000#32
  | 80 => 0xBC340000#32
  | 81 => 0xBAE00000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_4 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_5 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0xBAE00000#32
  | 39 => 0xBC340000#32
  | 40 => 0xBC960000#32
  | 41 => 0xBC440000#32
  | 42 => 0x3CBA0000#32
  | 43 => 0x3DC78000#32
  | 44 => 0x3E3A4000#32
  | 45 => 0x3E76C000#32
  | 46 => 0x3E76C000#32
  | 47 => 0x3E3A4000#32
  | 48 => 0x3DC78000#32
  | 49 => 0x3CBA0000#32
  | 50 => 0xBC440000#32
  | 51 => 0xBC960000#32
  | 52 => 0xBC340000#32
  | 53 => 0xBAE00000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_6 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_7 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0xBAE00000#32
  | 11 => 0xBC340000#32
  | 12 => 0xBC960000#32
  | 13 => 0xBC440000#32
  | 14 => 0x3CBA0000#32
  | 15 => 0x3DC78000#32
  | 16 => 0x3E3A4000#32
  | 17 => 0x3E76C000#32
  | 18 => 0x3E76C000#32
  | 19 => 0x3E3A4000#32
  | 20 => 0x3DC78000#32
  | 21 => 0x3CBA0000#32
  | 22 => 0xBC440000#32
  | 23 => 0xBC960000#32
  | 24 => 0xBC340000#32
  | 25 => 0xBAE00000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_8 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0xBAE00000#32
  | 111 => 0xBC340000#32
  | 112 => 0xBC960000#32
  | 113 => 0xBC440000#32
  | 114 => 0x3CBA0000#32
  | 115 => 0x3DC78000#32
  | 116 => 0x3E3A4000#32
  | 117 => 0x3E76C000#32
  | 118 => 0x3E76C000#32
  | 119 => 0x3E3A4000#32
  | 120 => 0x3DC78000#32
  | 121 => 0x3CBA0000#32
  | 122 => 0xBC440000#32
  | 123 => 0xBC960000#32
  | 124 => 0xBC340000#32
  | 125 => 0xBAE00000#32
  | 126 => 0x00000000#32
  | 127 => 0x00000000#32
  | _ => 0#32

noncomputable abbrev lit0t0_9 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_10 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0xBAE00000#32
  | 83 => 0xBC340000#32
  | 84 => 0xBC960000#32
  | 85 => 0xBC440000#32
  | 86 => 0x3CBA0000#32
  | 87 => 0x3DC78000#32
  | 88 => 0x3E3A4000#32
  | 89 => 0x3E76C000#32
  | 90 => 0x3E76C000#32
  | 91 => 0x3E3A4000#32
  | 92 => 0x3DC78000#32
  | 93 => 0x3CBA0000#32
  | 94 => 0xBC440000#32
  | 95 => 0xBC960000#32
  | 96 => 0xBC340000#32
  | 97 => 0xBAE00000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_11 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_12 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0xBAE00000#32
  | 55 => 0xBC340000#32
  | 56 => 0xBC960000#32
  | 57 => 0xBC440000#32
  | 58 => 0x3CBA0000#32
  | 59 => 0x3DC78000#32
  | 60 => 0x3E3A4000#32
  | 61 => 0x3E76C000#32
  | 62 => 0x3E76C000#32
  | 63 => 0x3E3A4000#32
  | 64 => 0x3DC78000#32
  | 65 => 0x3CBA0000#32
  | 66 => 0xBC440000#32
  | 67 => 0xBC960000#32
  | 68 => 0xBC340000#32
  | 69 => 0xBAE00000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_13 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_14 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0xBAE00000#32
  | 27 => 0xBC340000#32
  | 28 => 0xBC960000#32
  | 29 => 0xBC440000#32
  | 30 => 0x3CBA0000#32
  | 31 => 0x3DC78000#32
  | 32 => 0x3E3A4000#32
  | 33 => 0x3E76C000#32
  | 34 => 0x3E76C000#32
  | 35 => 0x3E3A4000#32
  | 36 => 0x3DC78000#32
  | 37 => 0x3CBA0000#32
  | 38 => 0xBC440000#32
  | 39 => 0xBC960000#32
  | 40 => 0xBC340000#32
  | 41 => 0xBAE00000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_15 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0xBAE00000#32
  | 127 => 0xBC340000#32
  | _ => 0#32

noncomputable abbrev lit0t0_16 (i : Nat) : BitVec 32 := match i % 128 with
  | 0 => 0xBC960000#32
  | 1 => 0xBC440000#32
  | 2 => 0x3CBA0000#32
  | 3 => 0x3DC78000#32
  | 4 => 0x3E3A4000#32
  | 5 => 0x3E76C000#32
  | 6 => 0x3E76C000#32
  | 7 => 0x3E3A4000#32
  | 8 => 0x3DC78000#32
  | 9 => 0x3CBA0000#32
  | 10 => 0xBC440000#32
  | 11 => 0xBC960000#32
  | 12 => 0xBC340000#32
  | 13 => 0xBAE00000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_17 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0xBAE00000#32
  | 99 => 0xBC340000#32
  | 100 => 0xBC960000#32
  | 101 => 0xBC440000#32
  | 102 => 0x3CBA0000#32
  | 103 => 0x3DC78000#32
  | 104 => 0x3E3A4000#32
  | 105 => 0x3E76C000#32
  | 106 => 0x3E76C000#32
  | 107 => 0x3E3A4000#32
  | 108 => 0x3DC78000#32
  | 109 => 0x3CBA0000#32
  | 110 => 0xBC440000#32
  | 111 => 0xBC960000#32
  | 112 => 0xBC340000#32
  | 113 => 0xBAE00000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_18 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_19 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0xBAE00000#32
  | 71 => 0xBC340000#32
  | 72 => 0xBC960000#32
  | 73 => 0xBC440000#32
  | 74 => 0x3CBA0000#32
  | 75 => 0x3DC78000#32
  | 76 => 0x3E3A4000#32
  | 77 => 0x3E76C000#32
  | 78 => 0x3E76C000#32
  | 79 => 0x3E3A4000#32
  | 80 => 0x3DC78000#32
  | 81 => 0x3CBA0000#32
  | 82 => 0xBC440000#32
  | 83 => 0xBC960000#32
  | 84 => 0xBC340000#32
  | 85 => 0xBAE00000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_20 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_21 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0xBAE00000#32
  | 43 => 0xBC340000#32
  | 44 => 0xBC960000#32
  | 45 => 0xBC440000#32
  | 46 => 0x3CBA0000#32
  | 47 => 0x3DC78000#32
  | 48 => 0x3E3A4000#32
  | 49 => 0x3E76C000#32
  | 50 => 0x3E76C000#32
  | 51 => 0x3E3A4000#32
  | 52 => 0x3DC78000#32
  | 53 => 0x3CBA0000#32
  | 54 => 0xBC440000#32
  | 55 => 0xBC960000#32
  | 56 => 0xBC340000#32
  | 57 => 0xBAE00000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_22 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_23 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0xBAE00000#32
  | 15 => 0xBC340000#32
  | 16 => 0xBC960000#32
  | 17 => 0xBC440000#32
  | 18 => 0x3CBA0000#32
  | 19 => 0x3DC78000#32
  | 20 => 0x3E3A4000#32
  | 21 => 0x3E76C000#32
  | 22 => 0x3E76C000#32
  | 23 => 0x3E3A4000#32
  | 24 => 0x3DC78000#32
  | 25 => 0x3CBA0000#32
  | 26 => 0xBC440000#32
  | 27 => 0xBC960000#32
  | 28 => 0xBC340000#32
  | 29 => 0xBAE00000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_24 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0xBAE00000#32
  | 115 => 0xBC340000#32
  | 116 => 0xBC960000#32
  | 117 => 0xBC440000#32
  | 118 => 0x3CBA0000#32
  | 119 => 0x3DC78000#32
  | 120 => 0x3E3A4000#32
  | 121 => 0x3E76C000#32
  | 122 => 0x3E76C000#32
  | 123 => 0x3E3A4000#32
  | 124 => 0x3DC78000#32
  | 125 => 0x3CBA0000#32
  | 126 => 0xBC440000#32
  | 127 => 0xBC960000#32
  | _ => 0#32

noncomputable abbrev lit0t0_25 (i : Nat) : BitVec 32 := match i % 128 with
  | 0 => 0xBC340000#32
  | 1 => 0xBAE00000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_26 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0xBAE00000#32
  | 87 => 0xBC340000#32
  | 88 => 0xBC960000#32
  | 89 => 0xBC440000#32
  | 90 => 0x3CBA0000#32
  | 91 => 0x3DC78000#32
  | 92 => 0x3E3A4000#32
  | 93 => 0x3E76C000#32
  | 94 => 0x3E76C000#32
  | 95 => 0x3E3A4000#32
  | 96 => 0x3DC78000#32
  | 97 => 0x3CBA0000#32
  | 98 => 0xBC440000#32
  | 99 => 0xBC960000#32
  | 100 => 0xBC340000#32
  | 101 => 0xBAE00000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_27 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_28 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0xBAE00000#32
  | 59 => 0xBC340000#32
  | 60 => 0xBC960000#32
  | 61 => 0xBC440000#32
  | 62 => 0x3CBA0000#32
  | 63 => 0x3DC78000#32
  | 64 => 0x3E3A4000#32
  | 65 => 0x3E76C000#32
  | 66 => 0x3E76C000#32
  | 67 => 0x3E3A4000#32
  | 68 => 0x3DC78000#32
  | 69 => 0x3CBA0000#32
  | 70 => 0xBC440000#32
  | 71 => 0xBC960000#32
  | 72 => 0xBC340000#32
  | 73 => 0xBAE00000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_29 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_30 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0xBAE00000#32
  | 31 => 0xBC340000#32
  | 32 => 0xBC960000#32
  | 33 => 0xBC440000#32
  | 34 => 0x3CBA0000#32
  | 35 => 0x3DC78000#32
  | 36 => 0x3E3A4000#32
  | 37 => 0x3E76C000#32
  | 38 => 0x3E76C000#32
  | 39 => 0x3E3A4000#32
  | 40 => 0x3DC78000#32
  | 41 => 0x3CBA0000#32
  | 42 => 0xBC440000#32
  | 43 => 0xBC960000#32
  | 44 => 0xBC340000#32
  | 45 => 0xBAE00000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_31 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_32 (i : Nat) : BitVec 32 := match i % 128 with
  | 0 => 0x00000000#32
  | 1 => 0x00000000#32
  | 2 => 0xBAE00000#32
  | 3 => 0xBC340000#32
  | 4 => 0xBC960000#32
  | 5 => 0xBC440000#32
  | 6 => 0x3CBA0000#32
  | 7 => 0x3DC78000#32
  | 8 => 0x3E3A4000#32
  | 9 => 0x3E76C000#32
  | 10 => 0x3E76C000#32
  | 11 => 0x3E3A4000#32
  | 12 => 0x3DC78000#32
  | 13 => 0x3CBA0000#32
  | 14 => 0xBC440000#32
  | 15 => 0xBC960000#32
  | 16 => 0xBC340000#32
  | 17 => 0xBAE00000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_33 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0xBAE00000#32
  | 103 => 0xBC340000#32
  | 104 => 0xBC960000#32
  | 105 => 0xBC440000#32
  | 106 => 0x3CBA0000#32
  | 107 => 0x3DC78000#32
  | 108 => 0x3E3A4000#32
  | 109 => 0x3E76C000#32
  | 110 => 0x3E76C000#32
  | 111 => 0x3E3A4000#32
  | 112 => 0x3DC78000#32
  | 113 => 0x3CBA0000#32
  | 114 => 0xBC440000#32
  | 115 => 0xBC960000#32
  | 116 => 0xBC340000#32
  | 117 => 0xBAE00000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_34 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_35 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0xBAE00000#32
  | 75 => 0xBC340000#32
  | 76 => 0xBC960000#32
  | 77 => 0xBC440000#32
  | 78 => 0x3CBA0000#32
  | 79 => 0x3DC78000#32
  | 80 => 0x3E3A4000#32
  | 81 => 0x3E76C000#32
  | 82 => 0x3E76C000#32
  | 83 => 0x3E3A4000#32
  | 84 => 0x3DC78000#32
  | 85 => 0x3CBA0000#32
  | 86 => 0xBC440000#32
  | 87 => 0xBC960000#32
  | 88 => 0xBC340000#32
  | 89 => 0xBAE00000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_36 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_37 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0xBAE00000#32
  | 47 => 0xBC340000#32
  | 48 => 0xBC960000#32
  | 49 => 0xBC440000#32
  | 50 => 0x3CBA0000#32
  | 51 => 0x3DC78000#32
  | 52 => 0x3E3A4000#32
  | 53 => 0x3E76C000#32
  | 54 => 0x3E76C000#32
  | 55 => 0x3E3A4000#32
  | 56 => 0x3DC78000#32
  | 57 => 0x3CBA0000#32
  | 58 => 0xBC440000#32
  | 59 => 0xBC960000#32
  | 60 => 0xBC340000#32
  | 61 => 0xBAE00000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_38 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_39 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0xBAE00000#32
  | 19 => 0xBC340000#32
  | 20 => 0xBC960000#32
  | 21 => 0xBC440000#32
  | 22 => 0x3CBA0000#32
  | 23 => 0x3DC78000#32
  | 24 => 0x3E3A4000#32
  | 25 => 0x3E76C000#32
  | 26 => 0x3E76C000#32
  | 27 => 0x3E3A4000#32
  | 28 => 0x3DC78000#32
  | 29 => 0x3CBA0000#32
  | 30 => 0xBC440000#32
  | 31 => 0xBC960000#32
  | 32 => 0xBC340000#32
  | 33 => 0xBAE00000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_40 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0xBAE00000#32
  | 119 => 0xBC340000#32
  | 120 => 0xBC960000#32
  | 121 => 0xBC440000#32
  | 122 => 0x3CBA0000#32
  | 123 => 0x3DC78000#32
  | 124 => 0x3E3A4000#32
  | 125 => 0x3E76C000#32
  | 126 => 0x3E76C000#32
  | 127 => 0x3E3A4000#32
  | _ => 0#32

noncomputable abbrev lit0t0_41 (i : Nat) : BitVec 32 := match i % 128 with
  | 0 => 0x3DC78000#32
  | 1 => 0x3CBA0000#32
  | 2 => 0xBC440000#32
  | 3 => 0xBC960000#32
  | 4 => 0xBC340000#32
  | 5 => 0xBAE00000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_42 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0xBAE00000#32
  | 91 => 0xBC340000#32
  | 92 => 0xBC960000#32
  | 93 => 0xBC440000#32
  | 94 => 0x3CBA0000#32
  | 95 => 0x3DC78000#32
  | 96 => 0x3E3A4000#32
  | 97 => 0x3E76C000#32
  | 98 => 0x3E76C000#32
  | 99 => 0x3E3A4000#32
  | 100 => 0x3DC78000#32
  | 101 => 0x3CBA0000#32
  | 102 => 0xBC440000#32
  | 103 => 0xBC960000#32
  | 104 => 0xBC340000#32
  | 105 => 0xBAE00000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_43 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_44 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0xBAE00000#32
  | 63 => 0xBC340000#32
  | 64 => 0xBC960000#32
  | 65 => 0xBC440000#32
  | 66 => 0x3CBA0000#32
  | 67 => 0x3DC78000#32
  | 68 => 0x3E3A4000#32
  | 69 => 0x3E76C000#32
  | 70 => 0x3E76C000#32
  | 71 => 0x3E3A4000#32
  | 72 => 0x3DC78000#32
  | 73 => 0x3CBA0000#32
  | 74 => 0xBC440000#32
  | 75 => 0xBC960000#32
  | 76 => 0xBC340000#32
  | 77 => 0xBAE00000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_45 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_46 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0xBAE00000#32
  | 35 => 0xBC340000#32
  | 36 => 0xBC960000#32
  | 37 => 0xBC440000#32
  | 38 => 0x3CBA0000#32
  | 39 => 0x3DC78000#32
  | 40 => 0x3E3A4000#32
  | 41 => 0x3E76C000#32
  | 42 => 0x3E76C000#32
  | 43 => 0x3E3A4000#32
  | 44 => 0x3DC78000#32
  | 45 => 0x3CBA0000#32
  | 46 => 0xBC440000#32
  | 47 => 0xBC960000#32
  | 48 => 0xBC340000#32
  | 49 => 0xBAE00000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_47 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_48 (i : Nat) : BitVec 32 := match i % 128 with
  | 0 => 0x00000000#32
  | 1 => 0x00000000#32
  | 2 => 0x00000000#32
  | 3 => 0x00000000#32
  | 4 => 0x00000000#32
  | 5 => 0x00000000#32
  | 6 => 0xBAE00000#32
  | 7 => 0xBC340000#32
  | 8 => 0xBC960000#32
  | 9 => 0xBC440000#32
  | 10 => 0x3CBA0000#32
  | 11 => 0x3DC78000#32
  | 12 => 0x3E3A4000#32
  | 13 => 0x3E76C000#32
  | 14 => 0x3E76C000#32
  | 15 => 0x3E3A4000#32
  | 16 => 0x3DC78000#32
  | 17 => 0x3CBA0000#32
  | 18 => 0xBC440000#32
  | 19 => 0xBC960000#32
  | 20 => 0xBC340000#32
  | 21 => 0xBAE00000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_49 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0xBAE00000#32
  | 107 => 0xBC340000#32
  | 108 => 0xBC960000#32
  | 109 => 0xBC440000#32
  | 110 => 0x3CBA0000#32
  | 111 => 0x3DC78000#32
  | 112 => 0x3E3A4000#32
  | 113 => 0x3E76C000#32
  | 114 => 0x3E76C000#32
  | 115 => 0x3E3A4000#32
  | 116 => 0x3DC78000#32
  | 117 => 0x3CBA0000#32
  | 118 => 0xBC440000#32
  | 119 => 0xBC960000#32
  | 120 => 0xBC340000#32
  | 121 => 0xBAE00000#32
  | 122 => 0x00000000#32
  | 123 => 0x00000000#32
  | 124 => 0x00000000#32
  | 125 => 0x00000000#32
  | 126 => 0x00000000#32
  | 127 => 0x00000000#32
  | _ => 0#32

noncomputable abbrev lit0t0_50 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_51 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0xBAE00000#32
  | 79 => 0xBC340000#32
  | 80 => 0xBC960000#32
  | 81 => 0xBC440000#32
  | 82 => 0x3CBA0000#32
  | 83 => 0x3DC78000#32
  | 84 => 0x3E3A4000#32
  | 85 => 0x3E76C000#32
  | 86 => 0x3E76C000#32
  | 87 => 0x3E3A4000#32
  | 88 => 0x3DC78000#32
  | 89 => 0x3CBA0000#32
  | 90 => 0xBC440000#32
  | 91 => 0xBC960000#32
  | 92 => 0xBC340000#32
  | 93 => 0xBAE00000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_52 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_53 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0xBAE00000#32
  | 51 => 0xBC340000#32
  | 52 => 0xBC960000#32
  | 53 => 0xBC440000#32
  | 54 => 0x3CBA0000#32
  | 55 => 0x3DC78000#32
  | 56 => 0x3E3A4000#32
  | 57 => 0x3E76C000#32
  | 58 => 0x3E76C000#32
  | 59 => 0x3E3A4000#32
  | 60 => 0x3DC78000#32
  | 61 => 0x3CBA0000#32
  | 62 => 0xBC440000#32
  | 63 => 0xBC960000#32
  | 64 => 0xBC340000#32
  | 65 => 0xBAE00000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_54 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_55 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0xBAE00000#32
  | 23 => 0xBC340000#32
  | 24 => 0xBC960000#32
  | 25 => 0xBC440000#32
  | 26 => 0x3CBA0000#32
  | 27 => 0x3DC78000#32
  | 28 => 0x3E3A4000#32
  | 29 => 0x3E76C000#32
  | 30 => 0x3E76C000#32
  | 31 => 0x3E3A4000#32
  | 32 => 0x3DC78000#32
  | 33 => 0x3CBA0000#32
  | 34 => 0xBC440000#32
  | 35 => 0xBC960000#32
  | 36 => 0xBC340000#32
  | 37 => 0xBAE00000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_56 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0xBAE00000#32
  | 123 => 0xBC340000#32
  | 124 => 0xBC960000#32
  | 125 => 0xBC440000#32
  | 126 => 0x3CBA0000#32
  | 127 => 0x3DC78000#32
  | _ => 0#32

noncomputable abbrev lit0t0_57 (i : Nat) : BitVec 32 := match i % 128 with
  | 0 => 0x3E3A4000#32
  | 1 => 0x3E76C000#32
  | 2 => 0x3E76C000#32
  | 3 => 0x3E3A4000#32
  | 4 => 0x3DC78000#32
  | 5 => 0x3CBA0000#32
  | 6 => 0xBC440000#32
  | 7 => 0xBC960000#32
  | 8 => 0xBC340000#32
  | 9 => 0xBAE00000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_58 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0xBAE00000#32
  | 95 => 0xBC340000#32
  | 96 => 0xBC960000#32
  | 97 => 0xBC440000#32
  | 98 => 0x3CBA0000#32
  | 99 => 0x3DC78000#32
  | 100 => 0x3E3A4000#32
  | 101 => 0x3E76C000#32
  | 102 => 0x3E76C000#32
  | 103 => 0x3E3A4000#32
  | 104 => 0x3DC78000#32
  | 105 => 0x3CBA0000#32
  | 106 => 0xBC440000#32
  | 107 => 0xBC960000#32
  | 108 => 0xBC340000#32
  | 109 => 0xBAE00000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_59 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_60 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0xBAE00000#32
  | 67 => 0xBC340000#32
  | 68 => 0xBC960000#32
  | 69 => 0xBC440000#32
  | 70 => 0x3CBA0000#32
  | 71 => 0x3DC78000#32
  | 72 => 0x3E3A4000#32
  | 73 => 0x3E76C000#32
  | 74 => 0x3E76C000#32
  | 75 => 0x3E3A4000#32
  | 76 => 0x3DC78000#32
  | 77 => 0x3CBA0000#32
  | 78 => 0xBC440000#32
  | 79 => 0xBC960000#32
  | 80 => 0xBC340000#32
  | 81 => 0xBAE00000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_61 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_62 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0xBAE00000#32
  | 39 => 0xBC340000#32
  | 40 => 0xBC960000#32
  | 41 => 0xBC440000#32
  | 42 => 0x3CBA0000#32
  | 43 => 0x3DC78000#32
  | 44 => 0x3E3A4000#32
  | 45 => 0x3E76C000#32
  | 46 => 0x3E76C000#32
  | 47 => 0x3E3A4000#32
  | 48 => 0x3DC78000#32
  | 49 => 0x3CBA0000#32
  | 50 => 0xBC440000#32
  | 51 => 0xBC960000#32
  | 52 => 0xBC340000#32
  | 53 => 0xBAE00000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_63 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_64 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0xBAE00000#32
  | 11 => 0xBC340000#32
  | 12 => 0xBC960000#32
  | 13 => 0xBC440000#32
  | 14 => 0x3CBA0000#32
  | 15 => 0x3DC78000#32
  | 16 => 0x3E3A4000#32
  | 17 => 0x3E76C000#32
  | 18 => 0x3E76C000#32
  | 19 => 0x3E3A4000#32
  | 20 => 0x3DC78000#32
  | 21 => 0x3CBA0000#32
  | 22 => 0xBC440000#32
  | 23 => 0xBC960000#32
  | 24 => 0xBC340000#32
  | 25 => 0xBAE00000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_65 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0xBAE00000#32
  | 111 => 0xBC340000#32
  | 112 => 0xBC960000#32
  | 113 => 0xBC440000#32
  | 114 => 0x3CBA0000#32
  | 115 => 0x3DC78000#32
  | 116 => 0x3E3A4000#32
  | 117 => 0x3E76C000#32
  | 118 => 0x3E76C000#32
  | 119 => 0x3E3A4000#32
  | 120 => 0x3DC78000#32
  | 121 => 0x3CBA0000#32
  | 122 => 0xBC440000#32
  | 123 => 0xBC960000#32
  | 124 => 0xBC340000#32
  | 125 => 0xBAE00000#32
  | 126 => 0x00000000#32
  | 127 => 0x00000000#32
  | _ => 0#32

noncomputable abbrev lit0t0_66 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_67 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0xBAE00000#32
  | 83 => 0xBC340000#32
  | 84 => 0xBC960000#32
  | 85 => 0xBC440000#32
  | 86 => 0x3CBA0000#32
  | 87 => 0x3DC78000#32
  | 88 => 0x3E3A4000#32
  | 89 => 0x3E76C000#32
  | 90 => 0x3E76C000#32
  | 91 => 0x3E3A4000#32
  | 92 => 0x3DC78000#32
  | 93 => 0x3CBA0000#32
  | 94 => 0xBC440000#32
  | 95 => 0xBC960000#32
  | 96 => 0xBC340000#32
  | 97 => 0xBAE00000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_68 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_69 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0xBAE00000#32
  | 55 => 0xBC340000#32
  | 56 => 0xBC960000#32
  | 57 => 0xBC440000#32
  | 58 => 0x3CBA0000#32
  | 59 => 0x3DC78000#32
  | 60 => 0x3E3A4000#32
  | 61 => 0x3E76C000#32
  | 62 => 0x3E76C000#32
  | 63 => 0x3E3A4000#32
  | 64 => 0x3DC78000#32
  | 65 => 0x3CBA0000#32
  | 66 => 0xBC440000#32
  | 67 => 0xBC960000#32
  | 68 => 0xBC340000#32
  | 69 => 0xBAE00000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_70 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_71 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0xBAE00000#32
  | 27 => 0xBC340000#32
  | 28 => 0xBC960000#32
  | 29 => 0xBC440000#32
  | 30 => 0x3CBA0000#32
  | 31 => 0x3DC78000#32
  | 32 => 0x3E3A4000#32
  | 33 => 0x3E76C000#32
  | 34 => 0x3E76C000#32
  | 35 => 0x3E3A4000#32
  | 36 => 0x3DC78000#32
  | 37 => 0x3CBA0000#32
  | 38 => 0xBC440000#32
  | 39 => 0xBC960000#32
  | 40 => 0xBC340000#32
  | 41 => 0xBAE00000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_72 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0xBAE00000#32
  | 127 => 0xBC340000#32
  | _ => 0#32

noncomputable abbrev lit0t0_73 (i : Nat) : BitVec 32 := match i % 128 with
  | 0 => 0xBC960000#32
  | 1 => 0xBC440000#32
  | 2 => 0x3CBA0000#32
  | 3 => 0x3DC78000#32
  | 4 => 0x3E3A4000#32
  | 5 => 0x3E76C000#32
  | 6 => 0x3E76C000#32
  | 7 => 0x3E3A4000#32
  | 8 => 0x3DC78000#32
  | 9 => 0x3CBA0000#32
  | 10 => 0xBC440000#32
  | 11 => 0xBC960000#32
  | 12 => 0xBC340000#32
  | 13 => 0xBAE00000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_74 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0xBAE00000#32
  | 99 => 0xBC340000#32
  | 100 => 0xBC960000#32
  | 101 => 0xBC440000#32
  | 102 => 0x3CBA0000#32
  | 103 => 0x3DC78000#32
  | 104 => 0x3E3A4000#32
  | 105 => 0x3E76C000#32
  | 106 => 0x3E76C000#32
  | 107 => 0x3E3A4000#32
  | 108 => 0x3DC78000#32
  | 109 => 0x3CBA0000#32
  | 110 => 0xBC440000#32
  | 111 => 0xBC960000#32
  | 112 => 0xBC340000#32
  | 113 => 0xBAE00000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_75 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_76 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0xBAE00000#32
  | 71 => 0xBC340000#32
  | 72 => 0xBC960000#32
  | 73 => 0xBC440000#32
  | 74 => 0x3CBA0000#32
  | 75 => 0x3DC78000#32
  | 76 => 0x3E3A4000#32
  | 77 => 0x3E76C000#32
  | 78 => 0x3E76C000#32
  | 79 => 0x3E3A4000#32
  | 80 => 0x3DC78000#32
  | 81 => 0x3CBA0000#32
  | 82 => 0xBC440000#32
  | 83 => 0xBC960000#32
  | 84 => 0xBC340000#32
  | 85 => 0xBAE00000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_77 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_78 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0xBAE00000#32
  | 43 => 0xBC340000#32
  | 44 => 0xBC960000#32
  | 45 => 0xBC440000#32
  | 46 => 0x3CBA0000#32
  | 47 => 0x3DC78000#32
  | 48 => 0x3E3A4000#32
  | 49 => 0x3E76C000#32
  | 50 => 0x3E76C000#32
  | 51 => 0x3E3A4000#32
  | 52 => 0x3DC78000#32
  | 53 => 0x3CBA0000#32
  | 54 => 0xBC440000#32
  | 55 => 0xBC960000#32
  | 56 => 0xBC340000#32
  | 57 => 0xBAE00000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_79 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_80 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0xBAE00000#32
  | 15 => 0xBC340000#32
  | 16 => 0xBC960000#32
  | 17 => 0xBC440000#32
  | 18 => 0x3CBA0000#32
  | 19 => 0x3DC78000#32
  | 20 => 0x3E3A4000#32
  | 21 => 0x3E76C000#32
  | 22 => 0x3E76C000#32
  | 23 => 0x3E3A4000#32
  | 24 => 0x3DC78000#32
  | 25 => 0x3CBA0000#32
  | 26 => 0xBC440000#32
  | 27 => 0xBC960000#32
  | 28 => 0xBC340000#32
  | 29 => 0xBAE00000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_81 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0xBAE00000#32
  | 115 => 0xBC340000#32
  | 116 => 0xBC960000#32
  | 117 => 0xBC440000#32
  | 118 => 0x3CBA0000#32
  | 119 => 0x3DC78000#32
  | 120 => 0x3E3A4000#32
  | 121 => 0x3E76C000#32
  | 122 => 0x3E76C000#32
  | 123 => 0x3E3A4000#32
  | 124 => 0x3DC78000#32
  | 125 => 0x3CBA0000#32
  | 126 => 0xBC440000#32
  | 127 => 0xBC960000#32
  | _ => 0#32

noncomputable abbrev lit0t0_82 (i : Nat) : BitVec 32 := match i % 128 with
  | 0 => 0xBC340000#32
  | 1 => 0xBAE00000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_83 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0xBAE00000#32
  | 87 => 0xBC340000#32
  | 88 => 0xBC960000#32
  | 89 => 0xBC440000#32
  | 90 => 0x3CBA0000#32
  | 91 => 0x3DC78000#32
  | 92 => 0x3E3A4000#32
  | 93 => 0x3E76C000#32
  | 94 => 0x3E76C000#32
  | 95 => 0x3E3A4000#32
  | 96 => 0x3DC78000#32
  | 97 => 0x3CBA0000#32
  | 98 => 0xBC440000#32
  | 99 => 0xBC960000#32
  | 100 => 0xBC340000#32
  | 101 => 0xBAE00000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_84 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_85 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0xBAE00000#32
  | 59 => 0xBC340000#32
  | 60 => 0xBC960000#32
  | 61 => 0xBC440000#32
  | 62 => 0x3CBA0000#32
  | 63 => 0x3DC78000#32
  | 64 => 0x3E3A4000#32
  | 65 => 0x3E76C000#32
  | 66 => 0x3E76C000#32
  | 67 => 0x3E3A4000#32
  | 68 => 0x3DC78000#32
  | 69 => 0x3CBA0000#32
  | 70 => 0xBC440000#32
  | 71 => 0xBC960000#32
  | 72 => 0xBC340000#32
  | 73 => 0xBAE00000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_86 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_87 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0xBAE00000#32
  | 31 => 0xBC340000#32
  | 32 => 0xBC960000#32
  | 33 => 0xBC440000#32
  | 34 => 0x3CBA0000#32
  | 35 => 0x3DC78000#32
  | 36 => 0x3E3A4000#32
  | 37 => 0x3E76C000#32
  | 38 => 0x3E76C000#32
  | 39 => 0x3E3A4000#32
  | 40 => 0x3DC78000#32
  | 41 => 0x3CBA0000#32
  | 42 => 0xBC440000#32
  | 43 => 0xBC960000#32
  | 44 => 0xBC340000#32
  | 45 => 0xBAE00000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_88 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_89 (i : Nat) : BitVec 32 := match i % 128 with
  | 0 => 0x00000000#32
  | 1 => 0x00000000#32
  | 2 => 0xBAE00000#32
  | 3 => 0xBC340000#32
  | 4 => 0xBC960000#32
  | 5 => 0xBC440000#32
  | 6 => 0x3CBA0000#32
  | 7 => 0x3DC78000#32
  | 8 => 0x3E3A4000#32
  | 9 => 0x3E76C000#32
  | 10 => 0x3E76C000#32
  | 11 => 0x3E3A4000#32
  | 12 => 0x3DC78000#32
  | 13 => 0x3CBA0000#32
  | 14 => 0xBC440000#32
  | 15 => 0xBC960000#32
  | 16 => 0xBC340000#32
  | 17 => 0xBAE00000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_90 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0xBAE00000#32
  | 103 => 0xBC340000#32
  | 104 => 0xBC960000#32
  | 105 => 0xBC440000#32
  | 106 => 0x3CBA0000#32
  | 107 => 0x3DC78000#32
  | 108 => 0x3E3A4000#32
  | 109 => 0x3E76C000#32
  | 110 => 0x3E76C000#32
  | 111 => 0x3E3A4000#32
  | 112 => 0x3DC78000#32
  | 113 => 0x3CBA0000#32
  | 114 => 0xBC440000#32
  | 115 => 0xBC960000#32
  | 116 => 0xBC340000#32
  | 117 => 0xBAE00000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_91 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_92 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0xBAE00000#32
  | 75 => 0xBC340000#32
  | 76 => 0xBC960000#32
  | 77 => 0xBC440000#32
  | 78 => 0x3CBA0000#32
  | 79 => 0x3DC78000#32
  | 80 => 0x3E3A4000#32
  | 81 => 0x3E76C000#32
  | 82 => 0x3E76C000#32
  | 83 => 0x3E3A4000#32
  | 84 => 0x3DC78000#32
  | 85 => 0x3CBA0000#32
  | 86 => 0xBC440000#32
  | 87 => 0xBC960000#32
  | 88 => 0xBC340000#32
  | 89 => 0xBAE00000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_93 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_94 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0xBAE00000#32
  | 47 => 0xBC340000#32
  | 48 => 0xBC960000#32
  | 49 => 0xBC440000#32
  | 50 => 0x3CBA0000#32
  | 51 => 0x3DC78000#32
  | 52 => 0x3E3A4000#32
  | 53 => 0x3E76C000#32
  | 54 => 0x3E76C000#32
  | 55 => 0x3E3A4000#32
  | 56 => 0x3DC78000#32
  | 57 => 0x3CBA0000#32
  | 58 => 0xBC440000#32
  | 59 => 0xBC960000#32
  | 60 => 0xBC340000#32
  | 61 => 0xBAE00000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_95 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_96 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0xBADD3120#32
  | 19 => 0xBC31BE55#32
  | 20 => 0xBC941E9D#32
  | 21 => 0xBC418AFC#32
  | 22 => 0x3CB7AB14#32
  | 23 => 0x3DC4FFC1#32
  | 24 => 0x3E37EA47#32
  | 25 => 0x3E73A81E#32
  | 26 => 0x3E73A81E#32
  | 27 => 0x3E37EA47#32
  | 28 => 0x3DC4FFC1#32
  | 29 => 0x3CB7AB14#32
  | 30 => 0xBC418AFC#32
  | 31 => 0xBC941E9D#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0x00000000#32
  | 119 => 0x00000000#32
  | 120 => 0x00000000#32
  | 121 => 0x00000000#32
  | 122 => 0x00000000#32
  | 123 => 0x00000000#32
  | 124 => 0x00000000#32
  | 125 => 0x00000000#32
  | 126 => 0x00000000#32
  | 127 => 0x00000000#32
  | _ => 0#32

noncomputable abbrev lit0t0_97 (i : Nat) : BitVec 32 := match i % 128 with
  | 0 => 0x00000000#32
  | 1 => 0x00000000#32
  | 2 => 0x00000000#32
  | 3 => 0x00000000#32
  | 4 => 0x00000000#32
  | 5 => 0x00000000#32
  | 6 => 0x00000000#32
  | 7 => 0x00000000#32
  | 8 => 0x00000000#32
  | 9 => 0x00000000#32
  | 10 => 0x00000000#32
  | 11 => 0x00000000#32
  | 12 => 0x00000000#32
  | 13 => 0x00000000#32
  | 14 => 0x00000000#32
  | 15 => 0x00000000#32
  | 16 => 0x00000000#32
  | 17 => 0x00000000#32
  | 18 => 0x00000000#32
  | 19 => 0x00000000#32
  | 20 => 0x00000000#32
  | 21 => 0x00000000#32
  | 22 => 0x00000000#32
  | 23 => 0x00000000#32
  | 24 => 0x00000000#32
  | 25 => 0x00000000#32
  | 26 => 0x00000000#32
  | 27 => 0x00000000#32
  | 28 => 0x00000000#32
  | 29 => 0x00000000#32
  | 30 => 0x00000000#32
  | 31 => 0x00000000#32
  | 32 => 0x00000000#32
  | 33 => 0x00000000#32
  | 34 => 0x00000000#32
  | 35 => 0x00000000#32
  | 36 => 0x00000000#32
  | 37 => 0x00000000#32
  | 38 => 0x00000000#32
  | 39 => 0x00000000#32
  | 40 => 0x00000000#32
  | 41 => 0x00000000#32
  | 42 => 0x00000000#32
  | 43 => 0x00000000#32
  | 44 => 0x00000000#32
  | 45 => 0x00000000#32
  | 46 => 0x00000000#32
  | 47 => 0x00000000#32
  | 48 => 0x00000000#32
  | 49 => 0x00000000#32
  | 50 => 0x00000000#32
  | 51 => 0x00000000#32
  | 52 => 0x00000000#32
  | 53 => 0x00000000#32
  | 54 => 0x00000000#32
  | 55 => 0x00000000#32
  | 56 => 0x00000000#32
  | 57 => 0x00000000#32
  | 58 => 0x00000000#32
  | 59 => 0x00000000#32
  | 60 => 0x00000000#32
  | 61 => 0x00000000#32
  | 62 => 0x00000000#32
  | 63 => 0x00000000#32
  | 64 => 0x00000000#32
  | 65 => 0x00000000#32
  | 66 => 0x00000000#32
  | 67 => 0x00000000#32
  | 68 => 0x00000000#32
  | 69 => 0x00000000#32
  | 70 => 0x00000000#32
  | 71 => 0x00000000#32
  | 72 => 0x00000000#32
  | 73 => 0x00000000#32
  | 74 => 0x00000000#32
  | 75 => 0x00000000#32
  | 76 => 0x00000000#32
  | 77 => 0x00000000#32
  | 78 => 0x00000000#32
  | 79 => 0x00000000#32
  | 80 => 0x00000000#32
  | 81 => 0x00000000#32
  | 82 => 0x00000000#32
  | 83 => 0x00000000#32
  | 84 => 0x00000000#32
  | 85 => 0x00000000#32
  | 86 => 0x00000000#32
  | 87 => 0x00000000#32
  | 88 => 0x00000000#32
  | 89 => 0x00000000#32
  | 90 => 0x00000000#32
  | 91 => 0x00000000#32
  | 92 => 0x00000000#32
  | 93 => 0x00000000#32
  | 94 => 0x00000000#32
  | 95 => 0x00000000#32
  | 96 => 0x00000000#32
  | 97 => 0x00000000#32
  | 98 => 0x00000000#32
  | 99 => 0x00000000#32
  | 100 => 0x00000000#32
  | 101 => 0x00000000#32
  | 102 => 0x00000000#32
  | 103 => 0x00000000#32
  | 104 => 0x00000000#32
  | 105 => 0x00000000#32
  | 106 => 0x00000000#32
  | 107 => 0x00000000#32
  | 108 => 0x00000000#32
  | 109 => 0x00000000#32
  | 110 => 0x00000000#32
  | 111 => 0x00000000#32
  | 112 => 0x00000000#32
  | 113 => 0x00000000#32
  | 114 => 0x00000000#32
  | 115 => 0x00000000#32
  | 116 => 0x00000000#32
  | 117 => 0x00000000#32
  | 118 => 0xBAF2B9D6#32
  | 119 => 0xBC430C31#32
  | 120 => 0xBCA28A29#32
  | 121 => 0xBC54629B#32
  | 122 => 0x3CC98C99#32
  | 123 => 0x3DD82D83#32
  | 124 => 0x3E49D1F2#32
  | 125 => 0x3E85B05B#32
  | 126 => 0x3E85B05B#32
  | 127 => 0x3E49D1F2#32
  | _ => 0#32

noncomputable abbrev lit0t (i : Nat) : BitVec 32 := match i / 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | 32 => lit0t0_32 i
  | 33 => lit0t0_33 i
  | 34 => lit0t0_34 i
  | 35 => lit0t0_35 i
  | 36 => lit0t0_36 i
  | 37 => lit0t0_37 i
  | 38 => lit0t0_38 i
  | 39 => lit0t0_39 i
  | 40 => lit0t0_40 i
  | 41 => lit0t0_41 i
  | 42 => lit0t0_42 i
  | 43 => lit0t0_43 i
  | 44 => lit0t0_44 i
  | 45 => lit0t0_45 i
  | 46 => lit0t0_46 i
  | 47 => lit0t0_47 i
  | 48 => lit0t0_48 i
  | 49 => lit0t0_49 i
  | 50 => lit0t0_50 i
  | 51 => lit0t0_51 i
  | 52 => lit0t0_52 i
  | 53 => lit0t0_53 i
  | 54 => lit0t0_54 i
  | 55 => lit0t0_55 i
  | 56 => lit0t0_56 i
  | 57 => lit0t0_57 i
  | 58 => lit0t0_58 i
  | 59 => lit0t0_59 i
  | 60 => lit0t0_60 i
  | 61 => lit0t0_61 i
  | 62 => lit0t0_62 i
  | 63 => lit0t0_63 i
  | 64 => lit0t0_64 i
  | 65 => lit0t0_65 i
  | 66 => lit0t0_66 i
  | 67 => lit0t0_67 i
  | 68 => lit0t0_68 i
  | 69 => lit0t0_69 i
  | 70 => lit0t0_70 i
  | 71 => lit0t0_71 i
  | 72 => lit0t0_72 i
  | 73 => lit0t0_73 i
  | 74 => lit0t0_74 i
  | 75 => lit0t0_75 i
  | 76 => lit0t0_76 i
  | 77 => lit0t0_77 i
  | 78 => lit0t0_78 i
  | 79 => lit0t0_79 i
  | 80 => lit0t0_80 i
  | 81 => lit0t0_81 i
  | 82 => lit0t0_82 i
  | 83 => lit0t0_83 i
  | 84 => lit0t0_84 i
  | 85 => lit0t0_85 i
  | 86 => lit0t0_86 i
  | 87 => lit0t0_87 i
  | 88 => lit0t0_88 i
  | 89 => lit0t0_89 i
  | 90 => lit0t0_90 i
  | 91 => lit0t0_91 i
  | 92 => lit0t0_92 i
  | 93 => lit0t0_93 i
  | 94 => lit0t0_94 i
  | 95 => lit0t0_95 i
  | 96 => lit0t0_96 i
  | 97 => lit0t0_97 i
  | _ => 0#32

noncomputable abbrev lit0 : Fin 12544 → BitVec 32 := fun ⟨i, _⟩ => lit0t i

noncomputable abbrev lit1t0_0 (i : Nat) : BitVec 32 := match i % 128 with
  | 0 => 1#32
  | 1 => 0#32
  | 2 => 1#32
  | 3 => 2#32
  | 4 => 3#32
  | 5 => 4#32
  | 6 => 5#32
  | 7 => 6#32
  | 8 => 7#32
  | 9 => 8#32
  | 10 => 9#32
  | 11 => 10#32
  | 12 => 11#32
  | 13 => 12#32
  | 14 => 13#32
  | 15 => 14#32
  | 16 => 15#32
  | 17 => 16#32
  | 18 => 17#32
  | 19 => 18#32
  | 20 => 19#32
  | 21 => 20#32
  | 22 => 21#32
  | 23 => 22#32
  | 24 => 23#32
  | 25 => 24#32
  | 26 => 25#32
  | 27 => 26#32
  | 28 => 27#32
  | 29 => 28#32
  | 30 => 29#32
  | 31 => 30#32
  | 32 => 31#32
  | 33 => 32#32
  | 34 => 33#32
  | 35 => 34#32
  | 36 => 35#32
  | 37 => 36#32
  | 38 => 37#32
  | 39 => 38#32
  | 40 => 39#32
  | 41 => 40#32
  | 42 => 41#32
  | 43 => 42#32
  | 44 => 43#32
  | 45 => 44#32
  | 46 => 45#32
  | 47 => 46#32
  | 48 => 47#32
  | 49 => 48#32
  | 50 => 49#32
  | 51 => 50#32
  | 52 => 51#32
  | 53 => 52#32
  | 54 => 53#32
  | 55 => 54#32
  | 56 => 55#32
  | 57 => 56#32
  | 58 => 57#32
  | 59 => 58#32
  | 60 => 59#32
  | 61 => 60#32
  | 62 => 61#32
  | 63 => 62#32
  | 64 => 63#32
  | 65 => 64#32
  | 66 => 65#32
  | 67 => 66#32
  | 68 => 67#32
  | 69 => 68#32
  | 70 => 69#32
  | 71 => 70#32
  | 72 => 71#32
  | 73 => 72#32
  | 74 => 73#32
  | 75 => 74#32
  | 76 => 75#32
  | 77 => 76#32
  | 78 => 77#32
  | 79 => 78#32
  | 80 => 79#32
  | 81 => 80#32
  | 82 => 81#32
  | 83 => 82#32
  | 84 => 83#32
  | 85 => 84#32
  | 86 => 85#32
  | 87 => 86#32
  | 88 => 87#32
  | 89 => 88#32
  | 90 => 89#32
  | 91 => 90#32
  | 92 => 91#32
  | 93 => 92#32
  | 94 => 93#32
  | 95 => 94#32
  | 96 => 95#32
  | 97 => 96#32
  | 98 => 97#32
  | 99 => 98#32
  | 100 => 99#32
  | 101 => 100#32
  | 102 => 101#32
  | 103 => 102#32
  | 104 => 103#32
  | 105 => 104#32
  | 106 => 105#32
  | 107 => 106#32
  | 108 => 107#32
  | 109 => 108#32
  | 110 => 109#32
  | 111 => 110#32
  | 112 => 111#32
  | 113 => 112#32
  | 114 => 113#32
  | 115 => 114#32
  | 116 => 115#32
  | 117 => 116#32
  | 118 => 117#32
  | 119 => 118#32
  | 120 => 119#32
  | 121 => 120#32
  | 122 => 121#32
  | 123 => 122#32
  | 124 => 123#32
  | 125 => 124#32
  | 126 => 125#32
  | 127 => 126#32
  | _ => 0#32

noncomputable abbrev lit1t0_1 (i : Nat) : BitVec 32 := match i % 128 with
  | 0 => 127#32
  | 1 => 128#32
  | 2 => 129#32
  | 3 => 130#32
  | 4 => 131#32
  | 5 => 132#32
  | 6 => 133#32
  | 7 => 134#32
  | 8 => 135#32
  | 9 => 136#32
  | 10 => 137#32
  | 11 => 138#32
  | 12 => 139#32
  | 13 => 140#32
  | 14 => 141#32
  | 15 => 142#32
  | 16 => 143#32
  | 17 => 144#32
  | 18 => 145#32
  | 19 => 146#32
  | 20 => 147#32
  | 21 => 148#32
  | 22 => 149#32
  | 23 => 150#32
  | 24 => 151#32
  | 25 => 152#32
  | 26 => 153#32
  | 27 => 154#32
  | 28 => 155#32
  | 29 => 156#32
  | 30 => 157#32
  | 31 => 158#32
  | 32 => 159#32
  | 33 => 160#32
  | 34 => 161#32
  | 35 => 162#32
  | 36 => 163#32
  | 37 => 164#32
  | 38 => 165#32
  | 39 => 166#32
  | 40 => 167#32
  | 41 => 168#32
  | 42 => 169#32
  | 43 => 170#32
  | 44 => 171#32
  | 45 => 172#32
  | 46 => 173#32
  | 47 => 174#32
  | 48 => 175#32
  | 49 => 176#32
  | 50 => 177#32
  | 51 => 178#32
  | 52 => 179#32
  | 53 => 180#32
  | 54 => 181#32
  | 55 => 182#32
  | 56 => 183#32
  | 57 => 184#32
  | 58 => 185#32
  | 59 => 186#32
  | 60 => 187#32
  | 61 => 188#32
  | 62 => 189#32
  | 63 => 190#32
  | 64 => 191#32
  | 65 => 192#32
  | 66 => 193#32
  | 67 => 194#32
  | 68 => 195#32
  | 69 => 196#32
  | 70 => 197#32
  | 71 => 198#32
  | 72 => 199#32
  | 73 => 200#32
  | 74 => 201#32
  | 75 => 202#32
  | 76 => 203#32
  | 77 => 204#32
  | 78 => 205#32
  | 79 => 206#32
  | 80 => 207#32
  | 81 => 208#32
  | 82 => 209#32
  | 83 => 210#32
  | 84 => 211#32
  | 85 => 212#32
  | 86 => 213#32
  | 87 => 214#32
  | 88 => 215#32
  | 89 => 216#32
  | 90 => 217#32
  | 91 => 218#32
  | 92 => 219#32
  | 93 => 220#32
  | 94 => 221#32
  | 95 => 222#32
  | 96 => 0#32
  | 97 => 1#32
  | 98 => 2#32
  | 99 => 3#32
  | 100 => 4#32
  | 101 => 5#32
  | 102 => 6#32
  | 103 => 7#32
  | 104 => 8#32
  | 105 => 9#32
  | 106 => 10#32
  | 107 => 11#32
  | 108 => 12#32
  | 109 => 13#32
  | 110 => 14#32
  | 111 => 15#32
  | 112 => 16#32
  | 113 => 17#32
  | 114 => 18#32
  | 115 => 19#32
  | 116 => 20#32
  | 117 => 21#32
  | 118 => 22#32
  | 119 => 23#32
  | 120 => 24#32
  | 121 => 25#32
  | 122 => 26#32
  | 123 => 27#32
  | 124 => 28#32
  | 125 => 29#32
  | 126 => 30#32
  | 127 => 31#32
  | _ => 0#32

noncomputable abbrev lit1t0_2 (i : Nat) : BitVec 32 := match i % 128 with
  | 0 => 32#32
  | 1 => 33#32
  | 2 => 34#32
  | 3 => 35#32
  | 4 => 36#32
  | 5 => 37#32
  | 6 => 38#32
  | 7 => 39#32
  | 8 => 40#32
  | 9 => 41#32
  | 10 => 42#32
  | 11 => 43#32
  | 12 => 44#32
  | 13 => 45#32
  | 14 => 46#32
  | 15 => 47#32
  | 16 => 48#32
  | 17 => 49#32
  | 18 => 50#32
  | 19 => 51#32
  | 20 => 52#32
  | 21 => 53#32
  | 22 => 54#32
  | 23 => 55#32
  | 24 => 56#32
  | 25 => 57#32
  | 26 => 58#32
  | 27 => 59#32
  | 28 => 60#32
  | 29 => 61#32
  | 30 => 62#32
  | 31 => 63#32
  | 32 => 64#32
  | 33 => 65#32
  | 34 => 66#32
  | 35 => 67#32
  | 36 => 68#32
  | 37 => 69#32
  | 38 => 70#32
  | 39 => 71#32
  | 40 => 72#32
  | 41 => 73#32
  | 42 => 74#32
  | 43 => 75#32
  | 44 => 76#32
  | 45 => 77#32
  | 46 => 78#32
  | 47 => 79#32
  | 48 => 80#32
  | 49 => 81#32
  | 50 => 82#32
  | 51 => 83#32
  | 52 => 84#32
  | 53 => 85#32
  | 54 => 86#32
  | 55 => 87#32
  | 56 => 88#32
  | 57 => 89#32
  | 58 => 90#32
  | 59 => 91#32
  | 60 => 92#32
  | 61 => 93#32
  | 62 => 94#32
  | 63 => 95#32
  | 64 => 96#32
  | 65 => 97#32
  | 66 => 98#32
  | 67 => 99#32
  | 68 => 100#32
  | 69 => 101#32
  | 70 => 102#32
  | 71 => 103#32
  | 72 => 104#32
  | 73 => 105#32
  | 74 => 106#32
  | 75 => 107#32
  | 76 => 108#32
  | 77 => 109#32
  | 78 => 110#32
  | 79 => 111#32
  | 80 => 112#32
  | 81 => 113#32
  | 82 => 114#32
  | 83 => 115#32
  | 84 => 116#32
  | 85 => 117#32
  | 86 => 118#32
  | 87 => 119#32
  | 88 => 120#32
  | 89 => 121#32
  | 90 => 122#32
  | 91 => 123#32
  | 92 => 124#32
  | 93 => 125#32
  | 94 => 126#32
  | 95 => 127#32
  | 96 => 128#32
  | 97 => 129#32
  | 98 => 130#32
  | 99 => 131#32
  | 100 => 132#32
  | 101 => 133#32
  | 102 => 134#32
  | 103 => 135#32
  | 104 => 136#32
  | 105 => 137#32
  | 106 => 138#32
  | 107 => 139#32
  | 108 => 140#32
  | 109 => 141#32
  | 110 => 142#32
  | 111 => 143#32
  | 112 => 144#32
  | 113 => 145#32
  | 114 => 146#32
  | 115 => 147#32
  | 116 => 148#32
  | 117 => 149#32
  | 118 => 150#32
  | 119 => 151#32
  | 120 => 152#32
  | 121 => 153#32
  | 122 => 154#32
  | 123 => 155#32
  | 124 => 156#32
  | 125 => 157#32
  | 126 => 158#32
  | 127 => 159#32
  | _ => 0#32

noncomputable abbrev lit1t0_3 (i : Nat) : BitVec 32 := match i % 128 with
  | 0 => 160#32
  | 1 => 161#32
  | 2 => 162#32
  | 3 => 163#32
  | 4 => 164#32
  | 5 => 165#32
  | 6 => 166#32
  | 7 => 167#32
  | 8 => 168#32
  | 9 => 169#32
  | 10 => 170#32
  | 11 => 171#32
  | 12 => 172#32
  | 13 => 173#32
  | 14 => 174#32
  | 15 => 175#32
  | 16 => 176#32
  | 17 => 177#32
  | 18 => 178#32
  | 19 => 179#32
  | 20 => 180#32
  | 21 => 181#32
  | 22 => 182#32
  | 23 => 183#32
  | 24 => 184#32
  | 25 => 185#32
  | 26 => 186#32
  | 27 => 187#32
  | 28 => 188#32
  | 29 => 189#32
  | 30 => 190#32
  | 31 => 191#32
  | 32 => 192#32
  | 33 => 193#32
  | 34 => 194#32
  | 35 => 195#32
  | 36 => 196#32
  | 37 => 197#32
  | 38 => 198#32
  | 39 => 199#32
  | 40 => 200#32
  | 41 => 201#32
  | 42 => 202#32
  | 43 => 203#32
  | 44 => 204#32
  | 45 => 205#32
  | 46 => 206#32
  | 47 => 207#32
  | 48 => 208#32
  | 49 => 209#32
  | 50 => 210#32
  | 51 => 211#32
  | 52 => 212#32
  | 53 => 213#32
  | 54 => 214#32
  | 55 => 215#32
  | 56 => 216#32
  | 57 => 217#32
  | 58 => 218#32
  | 59 => 219#32
  | 60 => 220#32
  | 61 => 221#32
  | 62 => 222#32
  | 63 => 223#32
  | 64 => 1#32
  | 65 => 2#32
  | 66 => 3#32
  | 67 => 4#32
  | 68 => 5#32
  | 69 => 6#32
  | 70 => 7#32
  | 71 => 8#32
  | 72 => 9#32
  | 73 => 10#32
  | 74 => 11#32
  | 75 => 12#32
  | 76 => 13#32
  | 77 => 14#32
  | 78 => 15#32
  | 79 => 16#32
  | 80 => 17#32
  | 81 => 18#32
  | 82 => 19#32
  | 83 => 20#32
  | 84 => 21#32
  | 85 => 22#32
  | 86 => 23#32
  | 87 => 24#32
  | 88 => 25#32
  | 89 => 26#32
  | 90 => 27#32
  | 91 => 28#32
  | 92 => 29#32
  | 93 => 30#32
  | 94 => 31#32
  | 95 => 32#32
  | 96 => 33#32
  | 97 => 34#32
  | 98 => 35#32
  | 99 => 36#32
  | 100 => 37#32
  | 101 => 38#32
  | 102 => 39#32
  | 103 => 40#32
  | 104 => 41#32
  | 105 => 42#32
  | 106 => 43#32
  | 107 => 44#32
  | 108 => 45#32
  | 109 => 46#32
  | 110 => 47#32
  | 111 => 48#32
  | 112 => 49#32
  | 113 => 50#32
  | 114 => 51#32
  | 115 => 52#32
  | 116 => 53#32
  | 117 => 54#32
  | 118 => 55#32
  | 119 => 56#32
  | 120 => 57#32
  | 121 => 58#32
  | 122 => 59#32
  | 123 => 60#32
  | 124 => 61#32
  | 125 => 62#32
  | 126 => 63#32
  | 127 => 64#32
  | _ => 0#32

noncomputable abbrev lit1t0_4 (i : Nat) : BitVec 32 := match i % 128 with
  | 0 => 65#32
  | 1 => 66#32
  | 2 => 67#32
  | 3 => 68#32
  | 4 => 69#32
  | 5 => 70#32
  | 6 => 71#32
  | 7 => 72#32
  | 8 => 73#32
  | 9 => 74#32
  | 10 => 75#32
  | 11 => 76#32
  | 12 => 77#32
  | 13 => 78#32
  | 14 => 79#32
  | 15 => 80#32
  | 16 => 81#32
  | 17 => 82#32
  | 18 => 83#32
  | 19 => 84#32
  | 20 => 85#32
  | 21 => 86#32
  | 22 => 87#32
  | 23 => 88#32
  | 24 => 89#32
  | 25 => 90#32
  | 26 => 91#32
  | 27 => 92#32
  | 28 => 93#32
  | 29 => 94#32
  | 30 => 95#32
  | 31 => 96#32
  | 32 => 97#32
  | 33 => 98#32
  | 34 => 99#32
  | 35 => 100#32
  | 36 => 101#32
  | 37 => 102#32
  | 38 => 103#32
  | 39 => 104#32
  | 40 => 105#32
  | 41 => 106#32
  | 42 => 107#32
  | 43 => 108#32
  | 44 => 109#32
  | 45 => 110#32
  | 46 => 111#32
  | 47 => 112#32
  | 48 => 113#32
  | 49 => 114#32
  | 50 => 115#32
  | 51 => 116#32
  | 52 => 117#32
  | 53 => 118#32
  | 54 => 119#32
  | 55 => 120#32
  | 56 => 121#32
  | 57 => 122#32
  | 58 => 123#32
  | 59 => 124#32
  | 60 => 125#32
  | 61 => 126#32
  | 62 => 127#32
  | 63 => 128#32
  | 64 => 129#32
  | 65 => 130#32
  | 66 => 131#32
  | 67 => 132#32
  | 68 => 133#32
  | 69 => 134#32
  | 70 => 135#32
  | 71 => 136#32
  | 72 => 137#32
  | 73 => 138#32
  | 74 => 139#32
  | 75 => 140#32
  | 76 => 141#32
  | 77 => 142#32
  | 78 => 143#32
  | 79 => 144#32
  | 80 => 145#32
  | 81 => 146#32
  | 82 => 147#32
  | 83 => 148#32
  | 84 => 149#32
  | 85 => 150#32
  | 86 => 151#32
  | 87 => 152#32
  | 88 => 153#32
  | 89 => 154#32
  | 90 => 155#32
  | 91 => 156#32
  | 92 => 157#32
  | 93 => 158#32
  | 94 => 159#32
  | 95 => 160#32
  | 96 => 161#32
  | 97 => 162#32
  | 98 => 163#32
  | 99 => 164#32
  | 100 => 165#32
  | 101 => 166#32
  | 102 => 167#32
  | 103 => 168#32
  | 104 => 169#32
  | 105 => 170#32
  | 106 => 171#32
  | 107 => 172#32
  | 108 => 173#32
  | 109 => 174#32
  | 110 => 175#32
  | 111 => 176#32
  | 112 => 177#32
  | 113 => 178#32
  | 114 => 179#32
  | 115 => 180#32
  | 116 => 181#32
  | 117 => 182#32
  | 118 => 183#32
  | 119 => 184#32
  | 120 => 185#32
  | 121 => 186#32
  | 122 => 187#32
  | 123 => 188#32
  | 124 => 189#32
  | 125 => 190#32
  | 126 => 191#32
  | 127 => 192#32
  | _ => 0#32

noncomputable abbrev lit1t0_5 (i : Nat) : BitVec 32 := match i % 128 with
  | 0 => 193#32
  | 1 => 194#32
  | 2 => 195#32
  | 3 => 196#32
  | 4 => 197#32
  | 5 => 198#32
  | 6 => 199#32
  | 7 => 200#32
  | 8 => 201#32
  | 9 => 202#32
  | 10 => 203#32
  | 11 => 204#32
  | 12 => 205#32
  | 13 => 206#32
  | 14 => 207#32
  | 15 => 208#32
  | 16 => 209#32
  | 17 => 210#32
  | 18 => 211#32
  | 19 => 212#32
  | 20 => 213#32
  | 21 => 214#32
  | 22 => 215#32
  | 23 => 216#32
  | 24 => 217#32
  | 25 => 218#32
  | 26 => 219#32
  | 27 => 220#32
  | 28 => 221#32
  | 29 => 222#32
  | 30 => 223#32
  | 31 => 222#32
  | _ => 0#32

noncomputable abbrev lit1t (i : Nat) : BitVec 32 := match i / 128 with
  | 0 => lit1t0_0 i
  | 1 => lit1t0_1 i
  | 2 => lit1t0_2 i
  | 3 => lit1t0_3 i
  | 4 => lit1t0_4 i
  | 5 => lit1t0_5 i
  | _ => 0#32

noncomputable abbrev lit1 : Fin 672 → BitVec 32 := fun ⟨i, _⟩ => lit1t i

noncomputable abbrev lit2t0_0 (i : Nat) : BitVec 32 := match i % 128 with
  | 0 => 1#32
  | 1 => 0#32
  | 2 => 1#32
  | 3 => 2#32
  | 4 => 3#32
  | 5 => 4#32
  | 6 => 5#32
  | 7 => 6#32
  | 8 => 7#32
  | 9 => 8#32
  | 10 => 9#32
  | 11 => 10#32
  | 12 => 11#32
  | 13 => 12#32
  | 14 => 13#32
  | 15 => 14#32
  | 16 => 15#32
  | 17 => 16#32
  | 18 => 17#32
  | 19 => 18#32
  | 20 => 19#32
  | 21 => 20#32
  | 22 => 21#32
  | 23 => 22#32
  | 24 => 23#32
  | 25 => 24#32
  | 26 => 25#32
  | 27 => 26#32
  | 28 => 27#32
  | 29 => 28#32
  | 30 => 29#32
  | 31 => 30#32
  | 32 => 31#32
  | 33 => 32#32
  | 34 => 33#32
  | 35 => 34#32
  | 36 => 35#32
  | 37 => 36#32
  | 38 => 37#32
  | 39 => 38#32
  | 40 => 39#32
  | 41 => 40#32
  | 42 => 41#32
  | 43 => 42#32
  | 44 => 43#32
  | 45 => 44#32
  | 46 => 45#32
  | 47 => 46#32
  | 48 => 47#32
  | 49 => 48#32
  | 50 => 49#32
  | 51 => 50#32
  | 52 => 51#32
  | 53 => 52#32
  | 54 => 53#32
  | 55 => 54#32
  | 56 => 55#32
  | 57 => 56#32
  | 58 => 57#32
  | 59 => 58#32
  | 60 => 59#32
  | 61 => 60#32
  | 62 => 61#32
  | 63 => 62#32
  | 64 => 63#32
  | 65 => 64#32
  | 66 => 65#32
  | 67 => 66#32
  | 68 => 67#32
  | 69 => 68#32
  | 70 => 69#32
  | 71 => 70#32
  | 72 => 71#32
  | 73 => 72#32
  | 74 => 73#32
  | 75 => 74#32
  | 76 => 75#32
  | 77 => 76#32
  | 78 => 77#32
  | 79 => 78#32
  | 80 => 79#32
  | 81 => 80#32
  | 82 => 81#32
  | 83 => 82#32
  | 84 => 83#32
  | 85 => 84#32
  | 86 => 85#32
  | 87 => 86#32
  | 88 => 87#32
  | 89 => 88#32
  | 90 => 89#32
  | 91 => 90#32
  | 92 => 91#32
  | 93 => 92#32
  | 94 => 93#32
  | 95 => 94#32
  | 96 => 95#32
  | 97 => 96#32
  | 98 => 97#32
  | 99 => 98#32
  | 100 => 99#32
  | 101 => 100#32
  | 102 => 101#32
  | 103 => 102#32
  | 104 => 103#32
  | 105 => 104#32
  | 106 => 105#32
  | 107 => 106#32
  | 108 => 107#32
  | 109 => 108#32
  | 110 => 109#32
  | 111 => 110#32
  | 112 => 111#32
  | 113 => 112#32
  | 114 => 113#32
  | 115 => 114#32
  | 116 => 115#32
  | 117 => 116#32
  | 118 => 117#32
  | 119 => 118#32
  | 120 => 119#32
  | 121 => 120#32
  | 122 => 121#32
  | 123 => 122#32
  | 124 => 123#32
  | 125 => 124#32
  | 126 => 125#32
  | 127 => 126#32
  | _ => 0#32

noncomputable abbrev lit2t0_1 (i : Nat) : BitVec 32 := match i % 128 with
  | 0 => 127#32
  | 1 => 128#32
  | 2 => 129#32
  | 3 => 130#32
  | 4 => 131#32
  | 5 => 132#32
  | 6 => 133#32
  | 7 => 134#32
  | 8 => 135#32
  | 9 => 136#32
  | 10 => 137#32
  | 11 => 138#32
  | 12 => 139#32
  | 13 => 140#32
  | 14 => 141#32
  | 15 => 142#32
  | 16 => 143#32
  | 17 => 144#32
  | 18 => 145#32
  | 19 => 146#32
  | 20 => 147#32
  | 21 => 148#32
  | 22 => 149#32
  | 23 => 150#32
  | 24 => 151#32
  | 25 => 152#32
  | 26 => 153#32
  | 27 => 154#32
  | 28 => 155#32
  | 29 => 156#32
  | 30 => 157#32
  | 31 => 158#32
  | 32 => 159#32
  | 33 => 160#32
  | 34 => 161#32
  | 35 => 162#32
  | 36 => 163#32
  | 37 => 164#32
  | 38 => 165#32
  | 39 => 166#32
  | 40 => 167#32
  | 41 => 168#32
  | 42 => 169#32
  | 43 => 170#32
  | 44 => 171#32
  | 45 => 172#32
  | 46 => 173#32
  | 47 => 174#32
  | 48 => 175#32
  | 49 => 176#32
  | 50 => 177#32
  | 51 => 178#32
  | 52 => 179#32
  | 53 => 180#32
  | 54 => 181#32
  | 55 => 182#32
  | 56 => 183#32
  | 57 => 184#32
  | 58 => 185#32
  | 59 => 186#32
  | 60 => 187#32
  | 61 => 188#32
  | 62 => 189#32
  | 63 => 190#32
  | 64 => 191#32
  | 65 => 192#32
  | 66 => 193#32
  | 67 => 194#32
  | 68 => 195#32
  | 69 => 196#32
  | 70 => 197#32
  | 71 => 198#32
  | 72 => 199#32
  | 73 => 200#32
  | 74 => 201#32
  | 75 => 202#32
  | 76 => 203#32
  | 77 => 204#32
  | 78 => 205#32
  | 79 => 206#32
  | 80 => 207#32
  | 81 => 208#32
  | 82 => 209#32
  | 83 => 210#32
  | 84 => 211#32
  | 85 => 212#32
  | 86 => 213#32
  | 87 => 214#32
  | 88 => 215#32
  | 89 => 216#32
  | 90 => 217#32
  | 91 => 218#32
  | 92 => 219#32
  | 93 => 220#32
  | 94 => 221#32
  | 95 => 222#32
  | 96 => 0#32
  | 97 => 1#32
  | 98 => 2#32
  | 99 => 3#32
  | 100 => 4#32
  | 101 => 5#32
  | 102 => 6#32
  | 103 => 7#32
  | 104 => 8#32
  | 105 => 9#32
  | 106 => 10#32
  | 107 => 11#32
  | 108 => 12#32
  | 109 => 13#32
  | 110 => 14#32
  | 111 => 15#32
  | 112 => 16#32
  | 113 => 17#32
  | 114 => 18#32
  | 115 => 19#32
  | 116 => 20#32
  | 117 => 21#32
  | 118 => 22#32
  | 119 => 23#32
  | 120 => 24#32
  | 121 => 25#32
  | 122 => 26#32
  | 123 => 27#32
  | 124 => 28#32
  | 125 => 29#32
  | 126 => 30#32
  | 127 => 31#32
  | _ => 0#32

noncomputable abbrev lit2t0_2 (i : Nat) : BitVec 32 := match i % 128 with
  | 0 => 32#32
  | 1 => 33#32
  | 2 => 34#32
  | 3 => 35#32
  | 4 => 36#32
  | 5 => 37#32
  | 6 => 38#32
  | 7 => 39#32
  | 8 => 40#32
  | 9 => 41#32
  | 10 => 42#32
  | 11 => 43#32
  | 12 => 44#32
  | 13 => 45#32
  | 14 => 46#32
  | 15 => 47#32
  | 16 => 48#32
  | 17 => 49#32
  | 18 => 50#32
  | 19 => 51#32
  | 20 => 52#32
  | 21 => 53#32
  | 22 => 54#32
  | 23 => 55#32
  | 24 => 56#32
  | 25 => 57#32
  | 26 => 58#32
  | 27 => 59#32
  | 28 => 60#32
  | 29 => 61#32
  | 30 => 62#32
  | 31 => 63#32
  | 32 => 64#32
  | 33 => 65#32
  | 34 => 66#32
  | 35 => 67#32
  | 36 => 68#32
  | 37 => 69#32
  | 38 => 70#32
  | 39 => 71#32
  | 40 => 72#32
  | 41 => 73#32
  | 42 => 74#32
  | 43 => 75#32
  | 44 => 76#32
  | 45 => 77#32
  | 46 => 78#32
  | 47 => 79#32
  | 48 => 80#32
  | 49 => 81#32
  | 50 => 82#32
  | 51 => 83#32
  | 52 => 84#32
  | 53 => 85#32
  | 54 => 86#32
  | 55 => 87#32
  | 56 => 88#32
  | 57 => 89#32
  | 58 => 90#32
  | 59 => 91#32
  | 60 => 92#32
  | 61 => 93#32
  | 62 => 94#32
  | 63 => 95#32
  | 64 => 96#32
  | 65 => 97#32
  | 66 => 98#32
  | 67 => 99#32
  | 68 => 100#32
  | 69 => 101#32
  | 70 => 102#32
  | 71 => 103#32
  | 72 => 104#32
  | 73 => 105#32
  | 74 => 106#32
  | 75 => 107#32
  | 76 => 108#32
  | 77 => 109#32
  | 78 => 110#32
  | 79 => 111#32
  | 80 => 112#32
  | 81 => 113#32
  | 82 => 114#32
  | 83 => 115#32
  | 84 => 116#32
  | 85 => 117#32
  | 86 => 118#32
  | 87 => 119#32
  | 88 => 120#32
  | 89 => 121#32
  | 90 => 122#32
  | 91 => 123#32
  | 92 => 124#32
  | 93 => 125#32
  | 94 => 126#32
  | 95 => 127#32
  | 96 => 128#32
  | 97 => 129#32
  | 98 => 130#32
  | 99 => 131#32
  | 100 => 132#32
  | 101 => 133#32
  | 102 => 134#32
  | 103 => 135#32
  | 104 => 136#32
  | 105 => 137#32
  | 106 => 138#32
  | 107 => 139#32
  | 108 => 140#32
  | 109 => 141#32
  | 110 => 142#32
  | 111 => 143#32
  | 112 => 144#32
  | 113 => 145#32
  | 114 => 146#32
  | 115 => 147#32
  | 116 => 148#32
  | 117 => 149#32
  | 118 => 150#32
  | 119 => 151#32
  | 120 => 152#32
  | 121 => 153#32
  | 122 => 154#32
  | 123 => 155#32
  | 124 => 156#32
  | 125 => 157#32
  | 126 => 158#32
  | 127 => 159#32
  | _ => 0#32

noncomputable abbrev lit2t0_3 (i : Nat) : BitVec 32 := match i % 128 with
  | 0 => 160#32
  | 1 => 161#32
  | 2 => 162#32
  | 3 => 163#32
  | 4 => 164#32
  | 5 => 165#32
  | 6 => 166#32
  | 7 => 167#32
  | 8 => 168#32
  | 9 => 169#32
  | 10 => 170#32
  | 11 => 171#32
  | 12 => 172#32
  | 13 => 173#32
  | 14 => 174#32
  | 15 => 175#32
  | 16 => 176#32
  | 17 => 177#32
  | 18 => 178#32
  | 19 => 179#32
  | 20 => 180#32
  | 21 => 181#32
  | 22 => 182#32
  | 23 => 183#32
  | 24 => 184#32
  | 25 => 185#32
  | 26 => 186#32
  | 27 => 187#32
  | 28 => 188#32
  | 29 => 189#32
  | 30 => 190#32
  | 31 => 191#32
  | 32 => 192#32
  | 33 => 193#32
  | 34 => 194#32
  | 35 => 195#32
  | 36 => 196#32
  | 37 => 197#32
  | 38 => 198#32
  | 39 => 199#32
  | 40 => 200#32
  | 41 => 201#32
  | 42 => 202#32
  | 43 => 203#32
  | 44 => 204#32
  | 45 => 205#32
  | 46 => 206#32
  | 47 => 207#32
  | 48 => 208#32
  | 49 => 209#32
  | 50 => 210#32
  | 51 => 211#32
  | 52 => 212#32
  | 53 => 213#32
  | 54 => 214#32
  | 55 => 215#32
  | 56 => 216#32
  | 57 => 217#32
  | 58 => 218#32
  | 59 => 219#32
  | 60 => 220#32
  | 61 => 221#32
  | 62 => 222#32
  | 63 => 223#32
  | 64 => 1#32
  | 65 => 2#32
  | 66 => 3#32
  | 67 => 4#32
  | 68 => 5#32
  | 69 => 6#32
  | 70 => 7#32
  | 71 => 8#32
  | 72 => 9#32
  | 73 => 10#32
  | 74 => 11#32
  | 75 => 12#32
  | 76 => 13#32
  | 77 => 14#32
  | 78 => 15#32
  | 79 => 16#32
  | 80 => 17#32
  | 81 => 18#32
  | 82 => 19#32
  | 83 => 20#32
  | 84 => 21#32
  | 85 => 22#32
  | 86 => 23#32
  | 87 => 24#32
  | 88 => 25#32
  | 89 => 26#32
  | 90 => 27#32
  | 91 => 28#32
  | 92 => 29#32
  | 93 => 30#32
  | 94 => 31#32
  | 95 => 32#32
  | 96 => 33#32
  | 97 => 34#32
  | 98 => 35#32
  | 99 => 36#32
  | 100 => 37#32
  | 101 => 38#32
  | 102 => 39#32
  | 103 => 40#32
  | 104 => 41#32
  | 105 => 42#32
  | 106 => 43#32
  | 107 => 44#32
  | 108 => 45#32
  | 109 => 46#32
  | 110 => 47#32
  | 111 => 48#32
  | 112 => 49#32
  | 113 => 50#32
  | 114 => 51#32
  | 115 => 52#32
  | 116 => 53#32
  | 117 => 54#32
  | 118 => 55#32
  | 119 => 56#32
  | 120 => 57#32
  | 121 => 58#32
  | 122 => 59#32
  | 123 => 60#32
  | 124 => 61#32
  | 125 => 62#32
  | 126 => 63#32
  | 127 => 64#32
  | _ => 0#32

noncomputable abbrev lit2t0_4 (i : Nat) : BitVec 32 := match i % 128 with
  | 0 => 65#32
  | 1 => 66#32
  | 2 => 67#32
  | 3 => 68#32
  | 4 => 69#32
  | 5 => 70#32
  | 6 => 71#32
  | 7 => 72#32
  | 8 => 73#32
  | 9 => 74#32
  | 10 => 75#32
  | 11 => 76#32
  | 12 => 77#32
  | 13 => 78#32
  | 14 => 79#32
  | 15 => 80#32
  | 16 => 81#32
  | 17 => 82#32
  | 18 => 83#32
  | 19 => 84#32
  | 20 => 85#32
  | 21 => 86#32
  | 22 => 87#32
  | 23 => 88#32
  | 24 => 89#32
  | 25 => 90#32
  | 26 => 91#32
  | 27 => 92#32
  | 28 => 93#32
  | 29 => 94#32
  | 30 => 95#32
  | 31 => 96#32
  | 32 => 97#32
  | 33 => 98#32
  | 34 => 99#32
  | 35 => 100#32
  | 36 => 101#32
  | 37 => 102#32
  | 38 => 103#32
  | 39 => 104#32
  | 40 => 105#32
  | 41 => 106#32
  | 42 => 107#32
  | 43 => 108#32
  | 44 => 109#32
  | 45 => 110#32
  | 46 => 111#32
  | 47 => 112#32
  | 48 => 113#32
  | 49 => 114#32
  | 50 => 115#32
  | 51 => 116#32
  | 52 => 117#32
  | 53 => 118#32
  | 54 => 119#32
  | 55 => 120#32
  | 56 => 121#32
  | 57 => 122#32
  | 58 => 123#32
  | 59 => 124#32
  | 60 => 125#32
  | 61 => 126#32
  | 62 => 127#32
  | 63 => 128#32
  | 64 => 129#32
  | 65 => 130#32
  | 66 => 131#32
  | 67 => 132#32
  | 68 => 133#32
  | 69 => 134#32
  | 70 => 135#32
  | 71 => 136#32
  | 72 => 137#32
  | 73 => 138#32
  | 74 => 139#32
  | 75 => 140#32
  | 76 => 141#32
  | 77 => 142#32
  | 78 => 143#32
  | 79 => 144#32
  | 80 => 145#32
  | 81 => 146#32
  | 82 => 147#32
  | 83 => 148#32
  | 84 => 149#32
  | 85 => 150#32
  | 86 => 151#32
  | 87 => 152#32
  | 88 => 153#32
  | 89 => 154#32
  | 90 => 155#32
  | 91 => 156#32
  | 92 => 157#32
  | 93 => 158#32
  | 94 => 159#32
  | 95 => 160#32
  | 96 => 161#32
  | 97 => 162#32
  | 98 => 163#32
  | 99 => 164#32
  | 100 => 165#32
  | 101 => 166#32
  | 102 => 167#32
  | 103 => 168#32
  | 104 => 169#32
  | 105 => 170#32
  | 106 => 171#32
  | 107 => 172#32
  | 108 => 173#32
  | 109 => 174#32
  | 110 => 175#32
  | 111 => 176#32
  | 112 => 177#32
  | 113 => 178#32
  | 114 => 179#32
  | 115 => 180#32
  | 116 => 181#32
  | 117 => 182#32
  | 118 => 183#32
  | 119 => 184#32
  | 120 => 185#32
  | 121 => 186#32
  | 122 => 187#32
  | 123 => 188#32
  | 124 => 189#32
  | 125 => 190#32
  | 126 => 191#32
  | 127 => 192#32
  | _ => 0#32

noncomputable abbrev lit2t0_5 (i : Nat) : BitVec 32 := match i % 128 with
  | 0 => 193#32
  | 1 => 194#32
  | 2 => 195#32
  | 3 => 196#32
  | 4 => 197#32
  | 5 => 198#32
  | 6 => 199#32
  | 7 => 200#32
  | 8 => 201#32
  | 9 => 202#32
  | 10 => 203#32
  | 11 => 204#32
  | 12 => 205#32
  | 13 => 206#32
  | 14 => 207#32
  | 15 => 208#32
  | 16 => 209#32
  | 17 => 210#32
  | 18 => 211#32
  | 19 => 212#32
  | 20 => 213#32
  | 21 => 214#32
  | 22 => 215#32
  | 23 => 216#32
  | 24 => 217#32
  | 25 => 218#32
  | 26 => 219#32
  | 27 => 220#32
  | 28 => 221#32
  | 29 => 222#32
  | 30 => 223#32
  | 31 => 222#32
  | _ => 0#32

noncomputable abbrev lit2t (i : Nat) : BitVec 32 := match i / 128 with
  | 0 => lit2t0_0 i
  | 1 => lit2t0_1 i
  | 2 => lit2t0_2 i
  | 3 => lit2t0_3 i
  | 4 => lit2t0_4 i
  | 5 => lit2t0_5 i
  | _ => 0#32

noncomputable abbrev lit2 : Fin 672 → BitVec 32 := fun ⟨i, _⟩ => lit2t i

noncomputable abbrev lit3 : Fin 168 → BitVec 32 := fun
  | 0 => 1#32 | 1 => 0#32 | 2 => 1#32 | 3 => 2#32 | 4 => 3#32 | 5 => 4#32 | 6 => 5#32 | 7 => 6#32
  | 8 => 7#32 | 9 => 8#32 | 10 => 9#32 | 11 => 10#32 | 12 => 11#32 | 13 => 12#32 | 14 => 13#32 | 15 => 14#32
  | 16 => 15#32 | 17 => 16#32 | 18 => 17#32 | 19 => 18#32 | 20 => 19#32 | 21 => 20#32 | 22 => 21#32 | 23 => 22#32
  | 24 => 23#32 | 25 => 24#32 | 26 => 25#32 | 27 => 26#32 | 28 => 27#32 | 29 => 28#32 | 30 => 29#32 | 31 => 30#32
  | 32 => 31#32 | 33 => 32#32 | 34 => 33#32 | 35 => 34#32 | 36 => 35#32 | 37 => 36#32 | 38 => 37#32 | 39 => 38#32
  | 40 => 39#32 | 41 => 40#32 | 42 => 41#32 | 43 => 42#32 | 44 => 43#32 | 45 => 44#32 | 46 => 45#32 | 47 => 46#32
  | 48 => 47#32 | 49 => 48#32 | 50 => 49#32 | 51 => 50#32 | 52 => 51#32 | 53 => 52#32 | 54 => 53#32 | 55 => 54#32
  | 56 => 0#32 | 57 => 1#32 | 58 => 2#32 | 59 => 3#32 | 60 => 4#32 | 61 => 5#32 | 62 => 6#32 | 63 => 7#32
  | 64 => 8#32 | 65 => 9#32 | 66 => 10#32 | 67 => 11#32 | 68 => 12#32 | 69 => 13#32 | 70 => 14#32 | 71 => 15#32
  | 72 => 16#32 | 73 => 17#32 | 74 => 18#32 | 75 => 19#32 | 76 => 20#32 | 77 => 21#32 | 78 => 22#32 | 79 => 23#32
  | 80 => 24#32 | 81 => 25#32 | 82 => 26#32 | 83 => 27#32 | 84 => 28#32 | 85 => 29#32 | 86 => 30#32 | 87 => 31#32
  | 88 => 32#32 | 89 => 33#32 | 90 => 34#32 | 91 => 35#32 | 92 => 36#32 | 93 => 37#32 | 94 => 38#32 | 95 => 39#32
  | 96 => 40#32 | 97 => 41#32 | 98 => 42#32 | 99 => 43#32 | 100 => 44#32 | 101 => 45#32 | 102 => 46#32 | 103 => 47#32
  | 104 => 48#32 | 105 => 49#32 | 106 => 50#32 | 107 => 51#32 | 108 => 52#32 | 109 => 53#32 | 110 => 54#32 | 111 => 55#32
  | 112 => 1#32 | 113 => 2#32 | 114 => 3#32 | 115 => 4#32 | 116 => 5#32 | 117 => 6#32 | 118 => 7#32 | 119 => 8#32
  | 120 => 9#32 | 121 => 10#32 | 122 => 11#32 | 123 => 12#32 | 124 => 13#32 | 125 => 14#32 | 126 => 15#32 | 127 => 16#32
  | 128 => 17#32 | 129 => 18#32 | 130 => 19#32 | 131 => 20#32 | 132 => 21#32 | 133 => 22#32 | 134 => 23#32 | 135 => 24#32
  | 136 => 25#32 | 137 => 26#32 | 138 => 27#32 | 139 => 28#32 | 140 => 29#32 | 141 => 30#32 | 142 => 31#32 | 143 => 32#32
  | 144 => 33#32 | 145 => 34#32 | 146 => 35#32 | 147 => 36#32 | 148 => 37#32 | 149 => 38#32 | 150 => 39#32 | 151 => 40#32
  | 152 => 41#32 | 153 => 42#32 | 154 => 43#32 | 155 => 44#32 | 156 => 45#32 | 157 => 46#32 | 158 => 47#32 | 159 => 48#32
  | 160 => 49#32 | 161 => 50#32 | 162 => 51#32 | 163 => 52#32 | 164 => 53#32 | 165 => 54#32 | 166 => 55#32 | 167 => 54#32
  | _ => 0#32

noncomputable abbrev lit4 : Fin 168 → BitVec 32 := fun
  | 0 => 1#32 | 1 => 0#32 | 2 => 1#32 | 3 => 2#32 | 4 => 3#32 | 5 => 4#32 | 6 => 5#32 | 7 => 6#32
  | 8 => 7#32 | 9 => 8#32 | 10 => 9#32 | 11 => 10#32 | 12 => 11#32 | 13 => 12#32 | 14 => 13#32 | 15 => 14#32
  | 16 => 15#32 | 17 => 16#32 | 18 => 17#32 | 19 => 18#32 | 20 => 19#32 | 21 => 20#32 | 22 => 21#32 | 23 => 22#32
  | 24 => 23#32 | 25 => 24#32 | 26 => 25#32 | 27 => 26#32 | 28 => 27#32 | 29 => 28#32 | 30 => 29#32 | 31 => 30#32
  | 32 => 31#32 | 33 => 32#32 | 34 => 33#32 | 35 => 34#32 | 36 => 35#32 | 37 => 36#32 | 38 => 37#32 | 39 => 38#32
  | 40 => 39#32 | 41 => 40#32 | 42 => 41#32 | 43 => 42#32 | 44 => 43#32 | 45 => 44#32 | 46 => 45#32 | 47 => 46#32
  | 48 => 47#32 | 49 => 48#32 | 50 => 49#32 | 51 => 50#32 | 52 => 51#32 | 53 => 52#32 | 54 => 53#32 | 55 => 54#32
  | 56 => 0#32 | 57 => 1#32 | 58 => 2#32 | 59 => 3#32 | 60 => 4#32 | 61 => 5#32 | 62 => 6#32 | 63 => 7#32
  | 64 => 8#32 | 65 => 9#32 | 66 => 10#32 | 67 => 11#32 | 68 => 12#32 | 69 => 13#32 | 70 => 14#32 | 71 => 15#32
  | 72 => 16#32 | 73 => 17#32 | 74 => 18#32 | 75 => 19#32 | 76 => 20#32 | 77 => 21#32 | 78 => 22#32 | 79 => 23#32
  | 80 => 24#32 | 81 => 25#32 | 82 => 26#32 | 83 => 27#32 | 84 => 28#32 | 85 => 29#32 | 86 => 30#32 | 87 => 31#32
  | 88 => 32#32 | 89 => 33#32 | 90 => 34#32 | 91 => 35#32 | 92 => 36#32 | 93 => 37#32 | 94 => 38#32 | 95 => 39#32
  | 96 => 40#32 | 97 => 41#32 | 98 => 42#32 | 99 => 43#32 | 100 => 44#32 | 101 => 45#32 | 102 => 46#32 | 103 => 47#32
  | 104 => 48#32 | 105 => 49#32 | 106 => 50#32 | 107 => 51#32 | 108 => 52#32 | 109 => 53#32 | 110 => 54#32 | 111 => 55#32
  | 112 => 1#32 | 113 => 2#32 | 114 => 3#32 | 115 => 4#32 | 116 => 5#32 | 117 => 6#32 | 118 => 7#32 | 119 => 8#32
  | 120 => 9#32 | 121 => 10#32 | 122 => 11#32 | 123 => 12#32 | 124 => 13#32 | 125 => 14#32 | 126 => 15#32 | 127 => 16#32
  | 128 => 17#32 | 129 => 18#32 | 130 => 19#32 | 131 => 20#32 | 132 => 21#32 | 133 => 22#32 | 134 => 23#32 | 135 => 24#32
  | 136 => 25#32 | 137 => 26#32 | 138 => 27#32 | 139 => 28#32 | 140 => 29#32 | 141 => 30#32 | 142 => 31#32 | 143 => 32#32
  | 144 => 33#32 | 145 => 34#32 | 146 => 35#32 | 147 => 36#32 | 148 => 37#32 | 149 => 38#32 | 150 => 39#32 | 151 => 40#32
  | 152 => 41#32 | 153 => 42#32 | 154 => 43#32 | 155 => 44#32 | 156 => 45#32 | 157 => 46#32 | 158 => 47#32 | 159 => 48#32
  | 160 => 49#32 | 161 => 50#32 | 162 => 51#32 | 163 => 52#32 | 164 => 53#32 | 165 => 54#32 | 166 => 55#32 | 167 => 54#32
  | _ => 0#32

noncomputable abbrev lit5 : Fin 392 → BitVec 32 := fun
  | 0 => 3#32 | 1 => 2#32 | 2 => 1#32 | 3 => 0#32 | 4 => 1#32 | 5 => 2#32 | 6 => 3#32 | 7 => 4#32
  | 8 => 5#32 | 9 => 6#32 | 10 => 7#32 | 11 => 8#32 | 12 => 9#32 | 13 => 10#32 | 14 => 11#32 | 15 => 12#32
  | 16 => 13#32 | 17 => 14#32 | 18 => 15#32 | 19 => 16#32 | 20 => 17#32 | 21 => 18#32 | 22 => 19#32 | 23 => 20#32
  | 24 => 21#32 | 25 => 22#32 | 26 => 23#32 | 27 => 24#32 | 28 => 25#32 | 29 => 26#32 | 30 => 27#32 | 31 => 28#32
  | 32 => 29#32 | 33 => 30#32 | 34 => 31#32 | 35 => 32#32 | 36 => 33#32 | 37 => 34#32 | 38 => 35#32 | 39 => 36#32
  | 40 => 37#32 | 41 => 38#32 | 42 => 39#32 | 43 => 40#32 | 44 => 41#32 | 45 => 42#32 | 46 => 43#32 | 47 => 44#32
  | 48 => 45#32 | 49 => 46#32 | 50 => 47#32 | 51 => 48#32 | 52 => 49#32 | 53 => 50#32 | 54 => 51#32 | 55 => 52#32
  | 56 => 2#32 | 57 => 1#32 | 58 => 0#32 | 59 => 1#32 | 60 => 2#32 | 61 => 3#32 | 62 => 4#32 | 63 => 5#32
  | 64 => 6#32 | 65 => 7#32 | 66 => 8#32 | 67 => 9#32 | 68 => 10#32 | 69 => 11#32 | 70 => 12#32 | 71 => 13#32
  | 72 => 14#32 | 73 => 15#32 | 74 => 16#32 | 75 => 17#32 | 76 => 18#32 | 77 => 19#32 | 78 => 20#32 | 79 => 21#32
  | 80 => 22#32 | 81 => 23#32 | 82 => 24#32 | 83 => 25#32 | 84 => 26#32 | 85 => 27#32 | 86 => 28#32 | 87 => 29#32
  | 88 => 30#32 | 89 => 31#32 | 90 => 32#32 | 91 => 33#32 | 92 => 34#32 | 93 => 35#32 | 94 => 36#32 | 95 => 37#32
  | 96 => 38#32 | 97 => 39#32 | 98 => 40#32 | 99 => 41#32 | 100 => 42#32 | 101 => 43#32 | 102 => 44#32 | 103 => 45#32
  | 104 => 46#32 | 105 => 47#32 | 106 => 48#32 | 107 => 49#32 | 108 => 50#32 | 109 => 51#32 | 110 => 52#32 | 111 => 53#32
  | 112 => 1#32 | 113 => 0#32 | 114 => 1#32 | 115 => 2#32 | 116 => 3#32 | 117 => 4#32 | 118 => 5#32 | 119 => 6#32
  | 120 => 7#32 | 121 => 8#32 | 122 => 9#32 | 123 => 10#32 | 124 => 11#32 | 125 => 12#32 | 126 => 13#32 | 127 => 14#32
  | 128 => 15#32 | 129 => 16#32 | 130 => 17#32 | 131 => 18#32 | 132 => 19#32 | 133 => 20#32 | 134 => 21#32 | 135 => 22#32
  | 136 => 23#32 | 137 => 24#32 | 138 => 25#32 | 139 => 26#32 | 140 => 27#32 | 141 => 28#32 | 142 => 29#32 | 143 => 30#32
  | 144 => 31#32 | 145 => 32#32 | 146 => 33#32 | 147 => 34#32 | 148 => 35#32 | 149 => 36#32 | 150 => 37#32 | 151 => 38#32
  | 152 => 39#32 | 153 => 40#32 | 154 => 41#32 | 155 => 42#32 | 156 => 43#32 | 157 => 44#32 | 158 => 45#32 | 159 => 46#32
  | 160 => 47#32 | 161 => 48#32 | 162 => 49#32 | 163 => 50#32 | 164 => 51#32 | 165 => 52#32 | 166 => 53#32 | 167 => 54#32
  | 168 => 0#32 | 169 => 1#32 | 170 => 2#32 | 171 => 3#32 | 172 => 4#32 | 173 => 5#32 | 174 => 6#32 | 175 => 7#32
  | 176 => 8#32 | 177 => 9#32 | 178 => 10#32 | 179 => 11#32 | 180 => 12#32 | 181 => 13#32 | 182 => 14#32 | 183 => 15#32
  | 184 => 16#32 | 185 => 17#32 | 186 => 18#32 | 187 => 19#32 | 188 => 20#32 | 189 => 21#32 | 190 => 22#32 | 191 => 23#32
  | 192 => 24#32 | 193 => 25#32 | 194 => 26#32 | 195 => 27#32 | 196 => 28#32 | 197 => 29#32 | 198 => 30#32 | 199 => 31#32
  | 200 => 32#32 | 201 => 33#32 | 202 => 34#32 | 203 => 35#32 | 204 => 36#32 | 205 => 37#32 | 206 => 38#32 | 207 => 39#32
  | 208 => 40#32 | 209 => 41#32 | 210 => 42#32 | 211 => 43#32 | 212 => 44#32 | 213 => 45#32 | 214 => 46#32 | 215 => 47#32
  | 216 => 48#32 | 217 => 49#32 | 218 => 50#32 | 219 => 51#32 | 220 => 52#32 | 221 => 53#32 | 222 => 54#32 | 223 => 55#32
  | 224 => 1#32 | 225 => 2#32 | 226 => 3#32 | 227 => 4#32 | 228 => 5#32 | 229 => 6#32 | 230 => 7#32 | 231 => 8#32
  | 232 => 9#32 | 233 => 10#32 | 234 => 11#32 | 235 => 12#32 | 236 => 13#32 | 237 => 14#32 | 238 => 15#32 | 239 => 16#32
  | 240 => 17#32 | 241 => 18#32 | 242 => 19#32 | 243 => 20#32 | 244 => 21#32 | 245 => 22#32 | 246 => 23#32 | 247 => 24#32
  | 248 => 25#32 | 249 => 26#32 | 250 => 27#32 | 251 => 28#32 | 252 => 29#32 | 253 => 30#32 | 254 => 31#32 | 255 => 32#32
  | 256 => 33#32 | 257 => 34#32 | 258 => 35#32 | 259 => 36#32 | 260 => 37#32 | 261 => 38#32 | 262 => 39#32 | 263 => 40#32
  | 264 => 41#32 | 265 => 42#32 | 266 => 43#32 | 267 => 44#32 | 268 => 45#32 | 269 => 46#32 | 270 => 47#32 | 271 => 48#32
  | 272 => 49#32 | 273 => 50#32 | 274 => 51#32 | 275 => 52#32 | 276 => 53#32 | 277 => 54#32 | 278 => 55#32 | 279 => 54#32
  | 280 => 2#32 | 281 => 3#32 | 282 => 4#32 | 283 => 5#32 | 284 => 6#32 | 285 => 7#32 | 286 => 8#32 | 287 => 9#32
  | 288 => 10#32 | 289 => 11#32 | 290 => 12#32 | 291 => 13#32 | 292 => 14#32 | 293 => 15#32 | 294 => 16#32 | 295 => 17#32
  | 296 => 18#32 | 297 => 19#32 | 298 => 20#32 | 299 => 21#32 | 300 => 22#32 | 301 => 23#32 | 302 => 24#32 | 303 => 25#32
  | 304 => 26#32 | 305 => 27#32 | 306 => 28#32 | 307 => 29#32 | 308 => 30#32 | 309 => 31#32 | 310 => 32#32 | 311 => 33#32
  | 312 => 34#32 | 313 => 35#32 | 314 => 36#32 | 315 => 37#32 | 316 => 38#32 | 317 => 39#32 | 318 => 40#32 | 319 => 41#32
  | 320 => 42#32 | 321 => 43#32 | 322 => 44#32 | 323 => 45#32 | 324 => 46#32 | 325 => 47#32 | 326 => 48#32 | 327 => 49#32
  | 328 => 50#32 | 329 => 51#32 | 330 => 52#32 | 331 => 53#32 | 332 => 54#32 | 333 => 55#32 | 334 => 54#32 | 335 => 53#32
  | 336 => 3#32 | 337 => 4#32 | 338 => 5#32 | 339 => 6#32 | 340 => 7#32 | 341 => 8#32 | 342 => 9#32 | 343 => 10#32
  | 344 => 11#32 | 345 => 12#32 | 346 => 13#32 | 347 => 14#32 | 348 => 15#32 | 349 => 16#32 | 350 => 17#32 | 351 => 18#32
  | 352 => 19#32 | 353 => 20#32 | 354 => 21#32 | 355 => 22#32 | 356 => 23#32 | 357 => 24#32 | 358 => 25#32 | 359 => 26#32
  | 360 => 27#32 | 361 => 28#32 | 362 => 29#32 | 363 => 30#32 | 364 => 31#32 | 365 => 32#32 | 366 => 33#32 | 367 => 34#32
  | 368 => 35#32 | 369 => 36#32 | 370 => 37#32 | 371 => 38#32 | 372 => 39#32 | 373 => 40#32 | 374 => 41#32 | 375 => 42#32
  | 376 => 43#32 | 377 => 44#32 | 378 => 45#32 | 379 => 46#32 | 380 => 47#32 | 381 => 48#32 | 382 => 49#32 | 383 => 50#32
  | 384 => 51#32 | 385 => 52#32 | 386 => 53#32 | 387 => 54#32 | 388 => 55#32 | 389 => 54#32 | 390 => 53#32 | 391 => 52#32
  | _ => 0#32

noncomputable abbrev lit6 : Fin 392 → BitVec 32 := fun
  | 0 => 3#32 | 1 => 2#32 | 2 => 1#32 | 3 => 0#32 | 4 => 1#32 | 5 => 2#32 | 6 => 3#32 | 7 => 4#32
  | 8 => 5#32 | 9 => 6#32 | 10 => 7#32 | 11 => 8#32 | 12 => 9#32 | 13 => 10#32 | 14 => 11#32 | 15 => 12#32
  | 16 => 13#32 | 17 => 14#32 | 18 => 15#32 | 19 => 16#32 | 20 => 17#32 | 21 => 18#32 | 22 => 19#32 | 23 => 20#32
  | 24 => 21#32 | 25 => 22#32 | 26 => 23#32 | 27 => 24#32 | 28 => 25#32 | 29 => 26#32 | 30 => 27#32 | 31 => 28#32
  | 32 => 29#32 | 33 => 30#32 | 34 => 31#32 | 35 => 32#32 | 36 => 33#32 | 37 => 34#32 | 38 => 35#32 | 39 => 36#32
  | 40 => 37#32 | 41 => 38#32 | 42 => 39#32 | 43 => 40#32 | 44 => 41#32 | 45 => 42#32 | 46 => 43#32 | 47 => 44#32
  | 48 => 45#32 | 49 => 46#32 | 50 => 47#32 | 51 => 48#32 | 52 => 49#32 | 53 => 50#32 | 54 => 51#32 | 55 => 52#32
  | 56 => 2#32 | 57 => 1#32 | 58 => 0#32 | 59 => 1#32 | 60 => 2#32 | 61 => 3#32 | 62 => 4#32 | 63 => 5#32
  | 64 => 6#32 | 65 => 7#32 | 66 => 8#32 | 67 => 9#32 | 68 => 10#32 | 69 => 11#32 | 70 => 12#32 | 71 => 13#32
  | 72 => 14#32 | 73 => 15#32 | 74 => 16#32 | 75 => 17#32 | 76 => 18#32 | 77 => 19#32 | 78 => 20#32 | 79 => 21#32
  | 80 => 22#32 | 81 => 23#32 | 82 => 24#32 | 83 => 25#32 | 84 => 26#32 | 85 => 27#32 | 86 => 28#32 | 87 => 29#32
  | 88 => 30#32 | 89 => 31#32 | 90 => 32#32 | 91 => 33#32 | 92 => 34#32 | 93 => 35#32 | 94 => 36#32 | 95 => 37#32
  | 96 => 38#32 | 97 => 39#32 | 98 => 40#32 | 99 => 41#32 | 100 => 42#32 | 101 => 43#32 | 102 => 44#32 | 103 => 45#32
  | 104 => 46#32 | 105 => 47#32 | 106 => 48#32 | 107 => 49#32 | 108 => 50#32 | 109 => 51#32 | 110 => 52#32 | 111 => 53#32
  | 112 => 1#32 | 113 => 0#32 | 114 => 1#32 | 115 => 2#32 | 116 => 3#32 | 117 => 4#32 | 118 => 5#32 | 119 => 6#32
  | 120 => 7#32 | 121 => 8#32 | 122 => 9#32 | 123 => 10#32 | 124 => 11#32 | 125 => 12#32 | 126 => 13#32 | 127 => 14#32
  | 128 => 15#32 | 129 => 16#32 | 130 => 17#32 | 131 => 18#32 | 132 => 19#32 | 133 => 20#32 | 134 => 21#32 | 135 => 22#32
  | 136 => 23#32 | 137 => 24#32 | 138 => 25#32 | 139 => 26#32 | 140 => 27#32 | 141 => 28#32 | 142 => 29#32 | 143 => 30#32
  | 144 => 31#32 | 145 => 32#32 | 146 => 33#32 | 147 => 34#32 | 148 => 35#32 | 149 => 36#32 | 150 => 37#32 | 151 => 38#32
  | 152 => 39#32 | 153 => 40#32 | 154 => 41#32 | 155 => 42#32 | 156 => 43#32 | 157 => 44#32 | 158 => 45#32 | 159 => 46#32
  | 160 => 47#32 | 161 => 48#32 | 162 => 49#32 | 163 => 50#32 | 164 => 51#32 | 165 => 52#32 | 166 => 53#32 | 167 => 54#32
  | 168 => 0#32 | 169 => 1#32 | 170 => 2#32 | 171 => 3#32 | 172 => 4#32 | 173 => 5#32 | 174 => 6#32 | 175 => 7#32
  | 176 => 8#32 | 177 => 9#32 | 178 => 10#32 | 179 => 11#32 | 180 => 12#32 | 181 => 13#32 | 182 => 14#32 | 183 => 15#32
  | 184 => 16#32 | 185 => 17#32 | 186 => 18#32 | 187 => 19#32 | 188 => 20#32 | 189 => 21#32 | 190 => 22#32 | 191 => 23#32
  | 192 => 24#32 | 193 => 25#32 | 194 => 26#32 | 195 => 27#32 | 196 => 28#32 | 197 => 29#32 | 198 => 30#32 | 199 => 31#32
  | 200 => 32#32 | 201 => 33#32 | 202 => 34#32 | 203 => 35#32 | 204 => 36#32 | 205 => 37#32 | 206 => 38#32 | 207 => 39#32
  | 208 => 40#32 | 209 => 41#32 | 210 => 42#32 | 211 => 43#32 | 212 => 44#32 | 213 => 45#32 | 214 => 46#32 | 215 => 47#32
  | 216 => 48#32 | 217 => 49#32 | 218 => 50#32 | 219 => 51#32 | 220 => 52#32 | 221 => 53#32 | 222 => 54#32 | 223 => 55#32
  | 224 => 1#32 | 225 => 2#32 | 226 => 3#32 | 227 => 4#32 | 228 => 5#32 | 229 => 6#32 | 230 => 7#32 | 231 => 8#32
  | 232 => 9#32 | 233 => 10#32 | 234 => 11#32 | 235 => 12#32 | 236 => 13#32 | 237 => 14#32 | 238 => 15#32 | 239 => 16#32
  | 240 => 17#32 | 241 => 18#32 | 242 => 19#32 | 243 => 20#32 | 244 => 21#32 | 245 => 22#32 | 246 => 23#32 | 247 => 24#32
  | 248 => 25#32 | 249 => 26#32 | 250 => 27#32 | 251 => 28#32 | 252 => 29#32 | 253 => 30#32 | 254 => 31#32 | 255 => 32#32
  | 256 => 33#32 | 257 => 34#32 | 258 => 35#32 | 259 => 36#32 | 260 => 37#32 | 261 => 38#32 | 262 => 39#32 | 263 => 40#32
  | 264 => 41#32 | 265 => 42#32 | 266 => 43#32 | 267 => 44#32 | 268 => 45#32 | 269 => 46#32 | 270 => 47#32 | 271 => 48#32
  | 272 => 49#32 | 273 => 50#32 | 274 => 51#32 | 275 => 52#32 | 276 => 53#32 | 277 => 54#32 | 278 => 55#32 | 279 => 54#32
  | 280 => 2#32 | 281 => 3#32 | 282 => 4#32 | 283 => 5#32 | 284 => 6#32 | 285 => 7#32 | 286 => 8#32 | 287 => 9#32
  | 288 => 10#32 | 289 => 11#32 | 290 => 12#32 | 291 => 13#32 | 292 => 14#32 | 293 => 15#32 | 294 => 16#32 | 295 => 17#32
  | 296 => 18#32 | 297 => 19#32 | 298 => 20#32 | 299 => 21#32 | 300 => 22#32 | 301 => 23#32 | 302 => 24#32 | 303 => 25#32
  | 304 => 26#32 | 305 => 27#32 | 306 => 28#32 | 307 => 29#32 | 308 => 30#32 | 309 => 31#32 | 310 => 32#32 | 311 => 33#32
  | 312 => 34#32 | 313 => 35#32 | 314 => 36#32 | 315 => 37#32 | 316 => 38#32 | 317 => 39#32 | 318 => 40#32 | 319 => 41#32
  | 320 => 42#32 | 321 => 43#32 | 322 => 44#32 | 323 => 45#32 | 324 => 46#32 | 325 => 47#32 | 326 => 48#32 | 327 => 49#32
  | 328 => 50#32 | 329 => 51#32 | 330 => 52#32 | 331 => 53#32 | 332 => 54#32 | 333 => 55#32 | 334 => 54#32 | 335 => 53#32
  | 336 => 3#32 | 337 => 4#32 | 338 => 5#32 | 339 => 6#32 | 340 => 7#32 | 341 => 8#32 | 342 => 9#32 | 343 => 10#32
  | 344 => 11#32 | 345 => 12#32 | 346 => 13#32 | 347 => 14#32 | 348 => 15#32 | 349 => 16#32 | 350 => 17#32 | 351 => 18#32
  | 352 => 19#32 | 353 => 20#32 | 354 => 21#32 | 355 => 22#32 | 356 => 23#32 | 357 => 24#32 | 358 => 25#32 | 359 => 26#32
  | 360 => 27#32 | 361 => 28#32 | 362 => 29#32 | 363 => 30#32 | 364 => 31#32 | 365 => 32#32 | 366 => 33#32 | 367 => 34#32
  | 368 => 35#32 | 369 => 36#32 | 370 => 37#32 | 371 => 38#32 | 372 => 39#32 | 373 => 40#32 | 374 => 41#32 | 375 => 42#32
  | 376 => 43#32 | 377 => 44#32 | 378 => 45#32 | 379 => 46#32 | 380 => 47#32 | 381 => 48#32 | 382 => 49#32 | 383 => 50#32
  | 384 => 51#32 | 385 => 52#32 | 386 => 53#32 | 387 => 54#32 | 388 => 55#32 | 389 => 54#32 | 390 => 53#32 | 391 => 52#32
  | _ => 0#32

noncomputable abbrev lit7 : Fin 168 → BitVec 32 := fun
  | 0 => 1#32 | 1 => 0#32 | 2 => 1#32 | 3 => 2#32 | 4 => 3#32 | 5 => 4#32 | 6 => 5#32 | 7 => 6#32
  | 8 => 7#32 | 9 => 8#32 | 10 => 9#32 | 11 => 10#32 | 12 => 11#32 | 13 => 12#32 | 14 => 13#32 | 15 => 14#32
  | 16 => 15#32 | 17 => 16#32 | 18 => 17#32 | 19 => 18#32 | 20 => 19#32 | 21 => 20#32 | 22 => 21#32 | 23 => 22#32
  | 24 => 23#32 | 25 => 24#32 | 26 => 25#32 | 27 => 26#32 | 28 => 27#32 | 29 => 28#32 | 30 => 29#32 | 31 => 30#32
  | 32 => 31#32 | 33 => 32#32 | 34 => 33#32 | 35 => 34#32 | 36 => 35#32 | 37 => 36#32 | 38 => 37#32 | 39 => 38#32
  | 40 => 39#32 | 41 => 40#32 | 42 => 41#32 | 43 => 42#32 | 44 => 43#32 | 45 => 44#32 | 46 => 45#32 | 47 => 46#32
  | 48 => 47#32 | 49 => 48#32 | 50 => 49#32 | 51 => 50#32 | 52 => 51#32 | 53 => 52#32 | 54 => 53#32 | 55 => 54#32
  | 56 => 0#32 | 57 => 1#32 | 58 => 2#32 | 59 => 3#32 | 60 => 4#32 | 61 => 5#32 | 62 => 6#32 | 63 => 7#32
  | 64 => 8#32 | 65 => 9#32 | 66 => 10#32 | 67 => 11#32 | 68 => 12#32 | 69 => 13#32 | 70 => 14#32 | 71 => 15#32
  | 72 => 16#32 | 73 => 17#32 | 74 => 18#32 | 75 => 19#32 | 76 => 20#32 | 77 => 21#32 | 78 => 22#32 | 79 => 23#32
  | 80 => 24#32 | 81 => 25#32 | 82 => 26#32 | 83 => 27#32 | 84 => 28#32 | 85 => 29#32 | 86 => 30#32 | 87 => 31#32
  | 88 => 32#32 | 89 => 33#32 | 90 => 34#32 | 91 => 35#32 | 92 => 36#32 | 93 => 37#32 | 94 => 38#32 | 95 => 39#32
  | 96 => 40#32 | 97 => 41#32 | 98 => 42#32 | 99 => 43#32 | 100 => 44#32 | 101 => 45#32 | 102 => 46#32 | 103 => 47#32
  | 104 => 48#32 | 105 => 49#32 | 106 => 50#32 | 107 => 51#32 | 108 => 52#32 | 109 => 53#32 | 110 => 54#32 | 111 => 55#32
  | 112 => 1#32 | 113 => 2#32 | 114 => 3#32 | 115 => 4#32 | 116 => 5#32 | 117 => 6#32 | 118 => 7#32 | 119 => 8#32
  | 120 => 9#32 | 121 => 10#32 | 122 => 11#32 | 123 => 12#32 | 124 => 13#32 | 125 => 14#32 | 126 => 15#32 | 127 => 16#32
  | 128 => 17#32 | 129 => 18#32 | 130 => 19#32 | 131 => 20#32 | 132 => 21#32 | 133 => 22#32 | 134 => 23#32 | 135 => 24#32
  | 136 => 25#32 | 137 => 26#32 | 138 => 27#32 | 139 => 28#32 | 140 => 29#32 | 141 => 30#32 | 142 => 31#32 | 143 => 32#32
  | 144 => 33#32 | 145 => 34#32 | 146 => 35#32 | 147 => 36#32 | 148 => 37#32 | 149 => 38#32 | 150 => 39#32 | 151 => 40#32
  | 152 => 41#32 | 153 => 42#32 | 154 => 43#32 | 155 => 44#32 | 156 => 45#32 | 157 => 46#32 | 158 => 47#32 | 159 => 48#32
  | 160 => 49#32 | 161 => 50#32 | 162 => 51#32 | 163 => 52#32 | 164 => 53#32 | 165 => 54#32 | 166 => 55#32 | 167 => 54#32
  | _ => 0#32

noncomputable abbrev lit8 : Fin 168 → BitVec 32 := fun
  | 0 => 1#32 | 1 => 0#32 | 2 => 1#32 | 3 => 2#32 | 4 => 3#32 | 5 => 4#32 | 6 => 5#32 | 7 => 6#32
  | 8 => 7#32 | 9 => 8#32 | 10 => 9#32 | 11 => 10#32 | 12 => 11#32 | 13 => 12#32 | 14 => 13#32 | 15 => 14#32
  | 16 => 15#32 | 17 => 16#32 | 18 => 17#32 | 19 => 18#32 | 20 => 19#32 | 21 => 20#32 | 22 => 21#32 | 23 => 22#32
  | 24 => 23#32 | 25 => 24#32 | 26 => 25#32 | 27 => 26#32 | 28 => 27#32 | 29 => 28#32 | 30 => 29#32 | 31 => 30#32
  | 32 => 31#32 | 33 => 32#32 | 34 => 33#32 | 35 => 34#32 | 36 => 35#32 | 37 => 36#32 | 38 => 37#32 | 39 => 38#32
  | 40 => 39#32 | 41 => 40#32 | 42 => 41#32 | 43 => 42#32 | 44 => 43#32 | 45 => 44#32 | 46 => 45#32 | 47 => 46#32
  | 48 => 47#32 | 49 => 48#32 | 50 => 49#32 | 51 => 50#32 | 52 => 51#32 | 53 => 52#32 | 54 => 53#32 | 55 => 54#32
  | 56 => 0#32 | 57 => 1#32 | 58 => 2#32 | 59 => 3#32 | 60 => 4#32 | 61 => 5#32 | 62 => 6#32 | 63 => 7#32
  | 64 => 8#32 | 65 => 9#32 | 66 => 10#32 | 67 => 11#32 | 68 => 12#32 | 69 => 13#32 | 70 => 14#32 | 71 => 15#32
  | 72 => 16#32 | 73 => 17#32 | 74 => 18#32 | 75 => 19#32 | 76 => 20#32 | 77 => 21#32 | 78 => 22#32 | 79 => 23#32
  | 80 => 24#32 | 81 => 25#32 | 82 => 26#32 | 83 => 27#32 | 84 => 28#32 | 85 => 29#32 | 86 => 30#32 | 87 => 31#32
  | 88 => 32#32 | 89 => 33#32 | 90 => 34#32 | 91 => 35#32 | 92 => 36#32 | 93 => 37#32 | 94 => 38#32 | 95 => 39#32
  | 96 => 40#32 | 97 => 41#32 | 98 => 42#32 | 99 => 43#32 | 100 => 44#32 | 101 => 45#32 | 102 => 46#32 | 103 => 47#32
  | 104 => 48#32 | 105 => 49#32 | 106 => 50#32 | 107 => 51#32 | 108 => 52#32 | 109 => 53#32 | 110 => 54#32 | 111 => 55#32
  | 112 => 1#32 | 113 => 2#32 | 114 => 3#32 | 115 => 4#32 | 116 => 5#32 | 117 => 6#32 | 118 => 7#32 | 119 => 8#32
  | 120 => 9#32 | 121 => 10#32 | 122 => 11#32 | 123 => 12#32 | 124 => 13#32 | 125 => 14#32 | 126 => 15#32 | 127 => 16#32
  | 128 => 17#32 | 129 => 18#32 | 130 => 19#32 | 131 => 20#32 | 132 => 21#32 | 133 => 22#32 | 134 => 23#32 | 135 => 24#32
  | 136 => 25#32 | 137 => 26#32 | 138 => 27#32 | 139 => 28#32 | 140 => 29#32 | 141 => 30#32 | 142 => 31#32 | 143 => 32#32
  | 144 => 33#32 | 145 => 34#32 | 146 => 35#32 | 147 => 36#32 | 148 => 37#32 | 149 => 38#32 | 150 => 39#32 | 151 => 40#32
  | 152 => 41#32 | 153 => 42#32 | 154 => 43#32 | 155 => 44#32 | 156 => 45#32 | 157 => 46#32 | 158 => 47#32 | 159 => 48#32
  | 160 => 49#32 | 161 => 50#32 | 162 => 51#32 | 163 => 52#32 | 164 => 53#32 | 165 => 54#32 | 166 => 55#32 | 167 => 54#32
  | _ => 0#32

noncomputable abbrev lit9 : Fin 392 → BitVec 32 := fun
  | 0 => 3#32 | 1 => 2#32 | 2 => 1#32 | 3 => 0#32 | 4 => 1#32 | 5 => 2#32 | 6 => 3#32 | 7 => 4#32
  | 8 => 5#32 | 9 => 6#32 | 10 => 7#32 | 11 => 8#32 | 12 => 9#32 | 13 => 10#32 | 14 => 11#32 | 15 => 12#32
  | 16 => 13#32 | 17 => 14#32 | 18 => 15#32 | 19 => 16#32 | 20 => 17#32 | 21 => 18#32 | 22 => 19#32 | 23 => 20#32
  | 24 => 21#32 | 25 => 22#32 | 26 => 23#32 | 27 => 24#32 | 28 => 25#32 | 29 => 26#32 | 30 => 27#32 | 31 => 28#32
  | 32 => 29#32 | 33 => 30#32 | 34 => 31#32 | 35 => 32#32 | 36 => 33#32 | 37 => 34#32 | 38 => 35#32 | 39 => 36#32
  | 40 => 37#32 | 41 => 38#32 | 42 => 39#32 | 43 => 40#32 | 44 => 41#32 | 45 => 42#32 | 46 => 43#32 | 47 => 44#32
  | 48 => 45#32 | 49 => 46#32 | 50 => 47#32 | 51 => 48#32 | 52 => 49#32 | 53 => 50#32 | 54 => 51#32 | 55 => 52#32
  | 56 => 2#32 | 57 => 1#32 | 58 => 0#32 | 59 => 1#32 | 60 => 2#32 | 61 => 3#32 | 62 => 4#32 | 63 => 5#32
  | 64 => 6#32 | 65 => 7#32 | 66 => 8#32 | 67 => 9#32 | 68 => 10#32 | 69 => 11#32 | 70 => 12#32 | 71 => 13#32
  | 72 => 14#32 | 73 => 15#32 | 74 => 16#32 | 75 => 17#32 | 76 => 18#32 | 77 => 19#32 | 78 => 20#32 | 79 => 21#32
  | 80 => 22#32 | 81 => 23#32 | 82 => 24#32 | 83 => 25#32 | 84 => 26#32 | 85 => 27#32 | 86 => 28#32 | 87 => 29#32
  | 88 => 30#32 | 89 => 31#32 | 90 => 32#32 | 91 => 33#32 | 92 => 34#32 | 93 => 35#32 | 94 => 36#32 | 95 => 37#32
  | 96 => 38#32 | 97 => 39#32 | 98 => 40#32 | 99 => 41#32 | 100 => 42#32 | 101 => 43#32 | 102 => 44#32 | 103 => 45#32
  | 104 => 46#32 | 105 => 47#32 | 106 => 48#32 | 107 => 49#32 | 108 => 50#32 | 109 => 51#32 | 110 => 52#32 | 111 => 53#32
  | 112 => 1#32 | 113 => 0#32 | 114 => 1#32 | 115 => 2#32 | 116 => 3#32 | 117 => 4#32 | 118 => 5#32 | 119 => 6#32
  | 120 => 7#32 | 121 => 8#32 | 122 => 9#32 | 123 => 10#32 | 124 => 11#32 | 125 => 12#32 | 126 => 13#32 | 127 => 14#32
  | 128 => 15#32 | 129 => 16#32 | 130 => 17#32 | 131 => 18#32 | 132 => 19#32 | 133 => 20#32 | 134 => 21#32 | 135 => 22#32
  | 136 => 23#32 | 137 => 24#32 | 138 => 25#32 | 139 => 26#32 | 140 => 27#32 | 141 => 28#32 | 142 => 29#32 | 143 => 30#32
  | 144 => 31#32 | 145 => 32#32 | 146 => 33#32 | 147 => 34#32 | 148 => 35#32 | 149 => 36#32 | 150 => 37#32 | 151 => 38#32
  | 152 => 39#32 | 153 => 40#32 | 154 => 41#32 | 155 => 42#32 | 156 => 43#32 | 157 => 44#32 | 158 => 45#32 | 159 => 46#32
  | 160 => 47#32 | 161 => 48#32 | 162 => 49#32 | 163 => 50#32 | 164 => 51#32 | 165 => 52#32 | 166 => 53#32 | 167 => 54#32
  | 168 => 0#32 | 169 => 1#32 | 170 => 2#32 | 171 => 3#32 | 172 => 4#32 | 173 => 5#32 | 174 => 6#32 | 175 => 7#32
  | 176 => 8#32 | 177 => 9#32 | 178 => 10#32 | 179 => 11#32 | 180 => 12#32 | 181 => 13#32 | 182 => 14#32 | 183 => 15#32
  | 184 => 16#32 | 185 => 17#32 | 186 => 18#32 | 187 => 19#32 | 188 => 20#32 | 189 => 21#32 | 190 => 22#32 | 191 => 23#32
  | 192 => 24#32 | 193 => 25#32 | 194 => 26#32 | 195 => 27#32 | 196 => 28#32 | 197 => 29#32 | 198 => 30#32 | 199 => 31#32
  | 200 => 32#32 | 201 => 33#32 | 202 => 34#32 | 203 => 35#32 | 204 => 36#32 | 205 => 37#32 | 206 => 38#32 | 207 => 39#32
  | 208 => 40#32 | 209 => 41#32 | 210 => 42#32 | 211 => 43#32 | 212 => 44#32 | 213 => 45#32 | 214 => 46#32 | 215 => 47#32
  | 216 => 48#32 | 217 => 49#32 | 218 => 50#32 | 219 => 51#32 | 220 => 52#32 | 221 => 53#32 | 222 => 54#32 | 223 => 55#32
  | 224 => 1#32 | 225 => 2#32 | 226 => 3#32 | 227 => 4#32 | 228 => 5#32 | 229 => 6#32 | 230 => 7#32 | 231 => 8#32
  | 232 => 9#32 | 233 => 10#32 | 234 => 11#32 | 235 => 12#32 | 236 => 13#32 | 237 => 14#32 | 238 => 15#32 | 239 => 16#32
  | 240 => 17#32 | 241 => 18#32 | 242 => 19#32 | 243 => 20#32 | 244 => 21#32 | 245 => 22#32 | 246 => 23#32 | 247 => 24#32
  | 248 => 25#32 | 249 => 26#32 | 250 => 27#32 | 251 => 28#32 | 252 => 29#32 | 253 => 30#32 | 254 => 31#32 | 255 => 32#32
  | 256 => 33#32 | 257 => 34#32 | 258 => 35#32 | 259 => 36#32 | 260 => 37#32 | 261 => 38#32 | 262 => 39#32 | 263 => 40#32
  | 264 => 41#32 | 265 => 42#32 | 266 => 43#32 | 267 => 44#32 | 268 => 45#32 | 269 => 46#32 | 270 => 47#32 | 271 => 48#32
  | 272 => 49#32 | 273 => 50#32 | 274 => 51#32 | 275 => 52#32 | 276 => 53#32 | 277 => 54#32 | 278 => 55#32 | 279 => 54#32
  | 280 => 2#32 | 281 => 3#32 | 282 => 4#32 | 283 => 5#32 | 284 => 6#32 | 285 => 7#32 | 286 => 8#32 | 287 => 9#32
  | 288 => 10#32 | 289 => 11#32 | 290 => 12#32 | 291 => 13#32 | 292 => 14#32 | 293 => 15#32 | 294 => 16#32 | 295 => 17#32
  | 296 => 18#32 | 297 => 19#32 | 298 => 20#32 | 299 => 21#32 | 300 => 22#32 | 301 => 23#32 | 302 => 24#32 | 303 => 25#32
  | 304 => 26#32 | 305 => 27#32 | 306 => 28#32 | 307 => 29#32 | 308 => 30#32 | 309 => 31#32 | 310 => 32#32 | 311 => 33#32
  | 312 => 34#32 | 313 => 35#32 | 314 => 36#32 | 315 => 37#32 | 316 => 38#32 | 317 => 39#32 | 318 => 40#32 | 319 => 41#32
  | 320 => 42#32 | 321 => 43#32 | 322 => 44#32 | 323 => 45#32 | 324 => 46#32 | 325 => 47#32 | 326 => 48#32 | 327 => 49#32
  | 328 => 50#32 | 329 => 51#32 | 330 => 52#32 | 331 => 53#32 | 332 => 54#32 | 333 => 55#32 | 334 => 54#32 | 335 => 53#32
  | 336 => 3#32 | 337 => 4#32 | 338 => 5#32 | 339 => 6#32 | 340 => 7#32 | 341 => 8#32 | 342 => 9#32 | 343 => 10#32
  | 344 => 11#32 | 345 => 12#32 | 346 => 13#32 | 347 => 14#32 | 348 => 15#32 | 349 => 16#32 | 350 => 17#32 | 351 => 18#32
  | 352 => 19#32 | 353 => 20#32 | 354 => 21#32 | 355 => 22#32 | 356 => 23#32 | 357 => 24#32 | 358 => 25#32 | 359 => 26#32
  | 360 => 27#32 | 361 => 28#32 | 362 => 29#32 | 363 => 30#32 | 364 => 31#32 | 365 => 32#32 | 366 => 33#32 | 367 => 34#32
  | 368 => 35#32 | 369 => 36#32 | 370 => 37#32 | 371 => 38#32 | 372 => 39#32 | 373 => 40#32 | 374 => 41#32 | 375 => 42#32
  | 376 => 43#32 | 377 => 44#32 | 378 => 45#32 | 379 => 46#32 | 380 => 47#32 | 381 => 48#32 | 382 => 49#32 | 383 => 50#32
  | 384 => 51#32 | 385 => 52#32 | 386 => 53#32 | 387 => 54#32 | 388 => 55#32 | 389 => 54#32 | 390 => 53#32 | 391 => 52#32
  | _ => 0#32

noncomputable abbrev lit10 : Fin 392 → BitVec 32 := fun
  | 0 => 3#32 | 1 => 2#32 | 2 => 1#32 | 3 => 0#32 | 4 => 1#32 | 5 => 2#32 | 6 => 3#32 | 7 => 4#32
  | 8 => 5#32 | 9 => 6#32 | 10 => 7#32 | 11 => 8#32 | 12 => 9#32 | 13 => 10#32 | 14 => 11#32 | 15 => 12#32
  | 16 => 13#32 | 17 => 14#32 | 18 => 15#32 | 19 => 16#32 | 20 => 17#32 | 21 => 18#32 | 22 => 19#32 | 23 => 20#32
  | 24 => 21#32 | 25 => 22#32 | 26 => 23#32 | 27 => 24#32 | 28 => 25#32 | 29 => 26#32 | 30 => 27#32 | 31 => 28#32
  | 32 => 29#32 | 33 => 30#32 | 34 => 31#32 | 35 => 32#32 | 36 => 33#32 | 37 => 34#32 | 38 => 35#32 | 39 => 36#32
  | 40 => 37#32 | 41 => 38#32 | 42 => 39#32 | 43 => 40#32 | 44 => 41#32 | 45 => 42#32 | 46 => 43#32 | 47 => 44#32
  | 48 => 45#32 | 49 => 46#32 | 50 => 47#32 | 51 => 48#32 | 52 => 49#32 | 53 => 50#32 | 54 => 51#32 | 55 => 52#32
  | 56 => 2#32 | 57 => 1#32 | 58 => 0#32 | 59 => 1#32 | 60 => 2#32 | 61 => 3#32 | 62 => 4#32 | 63 => 5#32
  | 64 => 6#32 | 65 => 7#32 | 66 => 8#32 | 67 => 9#32 | 68 => 10#32 | 69 => 11#32 | 70 => 12#32 | 71 => 13#32
  | 72 => 14#32 | 73 => 15#32 | 74 => 16#32 | 75 => 17#32 | 76 => 18#32 | 77 => 19#32 | 78 => 20#32 | 79 => 21#32
  | 80 => 22#32 | 81 => 23#32 | 82 => 24#32 | 83 => 25#32 | 84 => 26#32 | 85 => 27#32 | 86 => 28#32 | 87 => 29#32
  | 88 => 30#32 | 89 => 31#32 | 90 => 32#32 | 91 => 33#32 | 92 => 34#32 | 93 => 35#32 | 94 => 36#32 | 95 => 37#32
  | 96 => 38#32 | 97 => 39#32 | 98 => 40#32 | 99 => 41#32 | 100 => 42#32 | 101 => 43#32 | 102 => 44#32 | 103 => 45#32
  | 104 => 46#32 | 105 => 47#32 | 106 => 48#32 | 107 => 49#32 | 108 => 50#32 | 109 => 51#32 | 110 => 52#32 | 111 => 53#32
  | 112 => 1#32 | 113 => 0#32 | 114 => 1#32 | 115 => 2#32 | 116 => 3#32 | 117 => 4#32 | 118 => 5#32 | 119 => 6#32
  | 120 => 7#32 | 121 => 8#32 | 122 => 9#32 | 123 => 10#32 | 124 => 11#32 | 125 => 12#32 | 126 => 13#32 | 127 => 14#32
  | 128 => 15#32 | 129 => 16#32 | 130 => 17#32 | 131 => 18#32 | 132 => 19#32 | 133 => 20#32 | 134 => 21#32 | 135 => 22#32
  | 136 => 23#32 | 137 => 24#32 | 138 => 25#32 | 139 => 26#32 | 140 => 27#32 | 141 => 28#32 | 142 => 29#32 | 143 => 30#32
  | 144 => 31#32 | 145 => 32#32 | 146 => 33#32 | 147 => 34#32 | 148 => 35#32 | 149 => 36#32 | 150 => 37#32 | 151 => 38#32
  | 152 => 39#32 | 153 => 40#32 | 154 => 41#32 | 155 => 42#32 | 156 => 43#32 | 157 => 44#32 | 158 => 45#32 | 159 => 46#32
  | 160 => 47#32 | 161 => 48#32 | 162 => 49#32 | 163 => 50#32 | 164 => 51#32 | 165 => 52#32 | 166 => 53#32 | 167 => 54#32
  | 168 => 0#32 | 169 => 1#32 | 170 => 2#32 | 171 => 3#32 | 172 => 4#32 | 173 => 5#32 | 174 => 6#32 | 175 => 7#32
  | 176 => 8#32 | 177 => 9#32 | 178 => 10#32 | 179 => 11#32 | 180 => 12#32 | 181 => 13#32 | 182 => 14#32 | 183 => 15#32
  | 184 => 16#32 | 185 => 17#32 | 186 => 18#32 | 187 => 19#32 | 188 => 20#32 | 189 => 21#32 | 190 => 22#32 | 191 => 23#32
  | 192 => 24#32 | 193 => 25#32 | 194 => 26#32 | 195 => 27#32 | 196 => 28#32 | 197 => 29#32 | 198 => 30#32 | 199 => 31#32
  | 200 => 32#32 | 201 => 33#32 | 202 => 34#32 | 203 => 35#32 | 204 => 36#32 | 205 => 37#32 | 206 => 38#32 | 207 => 39#32
  | 208 => 40#32 | 209 => 41#32 | 210 => 42#32 | 211 => 43#32 | 212 => 44#32 | 213 => 45#32 | 214 => 46#32 | 215 => 47#32
  | 216 => 48#32 | 217 => 49#32 | 218 => 50#32 | 219 => 51#32 | 220 => 52#32 | 221 => 53#32 | 222 => 54#32 | 223 => 55#32
  | 224 => 1#32 | 225 => 2#32 | 226 => 3#32 | 227 => 4#32 | 228 => 5#32 | 229 => 6#32 | 230 => 7#32 | 231 => 8#32
  | 232 => 9#32 | 233 => 10#32 | 234 => 11#32 | 235 => 12#32 | 236 => 13#32 | 237 => 14#32 | 238 => 15#32 | 239 => 16#32
  | 240 => 17#32 | 241 => 18#32 | 242 => 19#32 | 243 => 20#32 | 244 => 21#32 | 245 => 22#32 | 246 => 23#32 | 247 => 24#32
  | 248 => 25#32 | 249 => 26#32 | 250 => 27#32 | 251 => 28#32 | 252 => 29#32 | 253 => 30#32 | 254 => 31#32 | 255 => 32#32
  | 256 => 33#32 | 257 => 34#32 | 258 => 35#32 | 259 => 36#32 | 260 => 37#32 | 261 => 38#32 | 262 => 39#32 | 263 => 40#32
  | 264 => 41#32 | 265 => 42#32 | 266 => 43#32 | 267 => 44#32 | 268 => 45#32 | 269 => 46#32 | 270 => 47#32 | 271 => 48#32
  | 272 => 49#32 | 273 => 50#32 | 274 => 51#32 | 275 => 52#32 | 276 => 53#32 | 277 => 54#32 | 278 => 55#32 | 279 => 54#32
  | 280 => 2#32 | 281 => 3#32 | 282 => 4#32 | 283 => 5#32 | 284 => 6#32 | 285 => 7#32 | 286 => 8#32 | 287 => 9#32
  | 288 => 10#32 | 289 => 11#32 | 290 => 12#32 | 291 => 13#32 | 292 => 14#32 | 293 => 15#32 | 294 => 16#32 | 295 => 17#32
  | 296 => 18#32 | 297 => 19#32 | 298 => 20#32 | 299 => 21#32 | 300 => 22#32 | 301 => 23#32 | 302 => 24#32 | 303 => 25#32
  | 304 => 26#32 | 305 => 27#32 | 306 => 28#32 | 307 => 29#32 | 308 => 30#32 | 309 => 31#32 | 310 => 32#32 | 311 => 33#32
  | 312 => 34#32 | 313 => 35#32 | 314 => 36#32 | 315 => 37#32 | 316 => 38#32 | 317 => 39#32 | 318 => 40#32 | 319 => 41#32
  | 320 => 42#32 | 321 => 43#32 | 322 => 44#32 | 323 => 45#32 | 324 => 46#32 | 325 => 47#32 | 326 => 48#32 | 327 => 49#32
  | 328 => 50#32 | 329 => 51#32 | 330 => 52#32 | 331 => 53#32 | 332 => 54#32 | 333 => 55#32 | 334 => 54#32 | 335 => 53#32
  | 336 => 3#32 | 337 => 4#32 | 338 => 5#32 | 339 => 6#32 | 340 => 7#32 | 341 => 8#32 | 342 => 9#32 | 343 => 10#32
  | 344 => 11#32 | 345 => 12#32 | 346 => 13#32 | 347 => 14#32 | 348 => 15#32 | 349 => 16#32 | 350 => 17#32 | 351 => 18#32
  | 352 => 19#32 | 353 => 20#32 | 354 => 21#32 | 355 => 22#32 | 356 => 23#32 | 357 => 24#32 | 358 => 25#32 | 359 => 26#32
  | 360 => 27#32 | 361 => 28#32 | 362 => 29#32 | 363 => 30#32 | 364 => 31#32 | 365 => 32#32 | 366 => 33#32 | 367 => 34#32
  | 368 => 35#32 | 369 => 36#32 | 370 => 37#32 | 371 => 38#32 | 372 => 39#32 | 373 => 40#32 | 374 => 41#32 | 375 => 42#32
  | 376 => 43#32 | 377 => 44#32 | 378 => 45#32 | 379 => 46#32 | 380 => 47#32 | 381 => 48#32 | 382 => 49#32 | 383 => 50#32
  | 384 => 51#32 | 385 => 52#32 | 386 => 53#32 | 387 => 54#32 | 388 => 55#32 | 389 => 54#32 | 390 => 53#32 | 391 => 52#32
  | _ => 0#32

def fn_part5 {F : FTy → Type} [FloatOps F] (main_arg1 : FVec F S4x2x3x224x224 .f32) (main_v89 : IVec S4x98x56x56 1) (main_v94 : IVec S4x98x56x56 1) (main_v95 : FVec F S4x3x224x224 .f32) (main_v96 : FVec F S4x3x224x224 .f32) : IVec S4x3x224x224 1 × IVec S4x2x3x224x224 1 × IVec S4x98x56x56 1 :=
  let main_v97 : IVec S4x3x224x224 1 := cmpf .olt main_v95 main_v96
  let main_v98 : FVec F S4x2x3x224x224 .f32 := Host.absf main_arg1
  let main_cst_21 : FVec F S_ .f32 := constant S_ .f32 0x7F800000#32
  let main_v99 : FVec F S4x2x3x224x224 .f32 := broadcastInDim S4x2x3x224x224 ![] bcast_S_S4x2x3x224x224 main_cst_21
  let main_v100 : IVec S4x2x3x224x224 1 := cmpf .olt main_v98 main_v99
  let main_v101 : IVec S4x98x56x56 1 := noti main_v89
  let main_v102 : IVec S4x98x56x56 1 := ori main_v101 main_v94
  (main_v97, main_v100, main_v102)

def fn_part4 {F : FTy → Type} [FloatOps F] (main_arg0 : FVec F S4x3x224x224 .f32) (main_arg1 : FVec F S4x2x3x224x224 .f32) (main_v54 : FVec F S4x98x56x56 .f32) (main_v72 : FVec F S4x81x56x56 .f32) (main_v77 : FVec F S4x54x49x56x56 .f32) : IVec S4x3x224x224 1 × IVec S4x2x3x224x224 1 × IVec S4x98x56x56 1 :=
  let main_v78 : FVec F S4x27x56x56 .f32 := (extractStridedSlice S4x27x56x56 ![0, 0, 0, 0] · slices_S4x81x56x56_S4x27x56x56_0_0_0_0) main_v72
  let main_v79 : FVec F S4x27x49x56x56 .f32 := (extractStridedSlice S4x27x49x56x56 ![0, 0, 0, 0, 0] · slices_S4x54x49x56x56_S4x27x49x56x56_0_0_0_0_0) main_v77
  let main_v80 : FVec F S4x27x49x56x56 .f32 := (extractStridedSlice S4x27x49x56x56 ![0, 27, 0, 0, 0] · slices_S4x54x49x56x56_S4x27x49x56x56_0_27_0_0_0) main_v77
  let main_v81 : FVec F S4x27x98x56x56 .f32 := (fun a b => concatenate S4x27x98x56x56 2 [⟨S4x27x49x56x56, a⟩, ⟨S4x27x49x56x56, b⟩] concatenates_S4x27x49x56x56_S4x27x49x56x56_S4x27x98x56x56_d2) main_v79 main_v80
  let main_v82 : FVec F S4x27x1x56x56 .f32 := broadcastInDim S4x27x1x56x56 ![0, 1, 3, 4] bcast_S4x27x56x56_S4x27x1x56x56_0_1_3_4 main_v78
  let main_v83 : FVec F S4x27x98x56x56 .f32 := broadcastInDim S4x27x98x56x56 ![0, 1, 2, 3, 4] bcast_S4x27x1x56x56_S4x27x98x56x56_0_1_2_3_4 main_v82
  let main_v84 : FVec F S4x27x98x56x56 .f32 := subf main_v83 main_v81
  let main_v85 : FVec F S4x27x98x56x56 .f32 := mulf main_v84 main_v84
  let main_cst_16 : FVec F S_ .f32 := constant S_ .f32 0x00000000#32
  let main_v86 : FVec F S4x98x56x56 .f32 := (fun x v => Host.reduceAdd x v reducesTo_S4x27x98x56x56_S4x98x56x56_d1 h_S_) main_v85 main_cst_16
  let main_cst_17 : FVec F S_ .f32 := constant S_ .f32 0x7F800000#32
  let main_v87 : FVec F S4x56x56 .f32 := (fun x v => Host.reduce FloatOps.minimumf x v reducesTo_S4x98x56x56_S4x56x56_d1 h_S_) main_v54 main_cst_17
  let main_v88 : FVec F S4x98x56x56 .f32 := broadcastInDim S4x98x56x56 ![0, 2, 3] bcast_S4x56x56_S4x98x56x56_0_2_3 main_v87
  let main_v89 : IVec S4x98x56x56 1 := cmpf .oeq main_v54 main_v88
  let main_cst_18 : FVec F S_ .f32 := constant S_ .f32 0x7F800000#32
  let main_v90 : FVec F S4x98x56x56 .f32 := broadcastInDim S4x98x56x56 ![] bcast_S_S4x98x56x56 main_cst_18
  let main_v91 : FVec F S4x98x56x56 .f32 := select main_v89 main_v86 main_v90
  let main_cst_19 : FVec F S_ .f32 := constant S_ .f32 0x7F800000#32
  let main_v92 : FVec F S4x56x56 .f32 := (fun x v => Host.reduce FloatOps.minimumf x v reducesTo_S4x98x56x56_S4x56x56_d1 h_S_) main_v91 main_cst_19
  let main_v93 : FVec F S4x98x56x56 .f32 := broadcastInDim S4x98x56x56 ![0, 2, 3] bcast_S4x56x56_S4x98x56x56_0_2_3 main_v92
  let main_v94 : IVec S4x98x56x56 1 := cmpf .oeq main_v86 main_v93
  let main_v95 : FVec F S4x3x224x224 .f32 := Host.absf main_arg0
  let main_cst_20 : FVec F S_ .f32 := constant S_ .f32 0x7F800000#32
  let main_v96 : FVec F S4x3x224x224 .f32 := broadcastInDim S4x3x224x224 ![] bcast_S_S4x3x224x224 main_cst_20
  fn_part5 (F := F) main_arg1 main_v89 main_v94 main_v95 main_v96

def fn_part3 {F : FTy → Type} [FloatOps F] (main_arg0 : FVec F S4x3x224x224 .f32) (main_arg1 : FVec F S4x2x3x224x224 .f32) (main_cst : FVec F S56x224 .f32) (main_v6 : IVec S3x56x1 32) (main_v7 : IVec S3x56x1 32) (main_v8 : IVec S7x56x1 32) (main_v9 : IVec S7x56x1 32) (main_v11 : FVec F S4x9x224x224 .f32) (main_v54 : FVec F S4x98x56x56 .f32) (main_v55 : FVec F S56x224x1 .f32) : IVec S4x3x224x224 1 × IVec S4x2x3x224x224 1 × IVec S4x98x56x56 1 :=
  let main_v56 : FVec F S4x9x1x224x224 .f32 := broadcastInDim S4x9x1x224x224 ![0, 1, 3, 4] bcast_S4x9x224x224_S4x9x1x224x224_0_1_3_4 main_v11
  let main_v57 : FVec F S1x1x56x224x1 .f32 := broadcastInDim S1x1x56x224x1 ![2, 3, 4] bcast_S56x224x1_S1x1x56x224x1_2_3_4 main_v55
  let main_v58 : FVec F S4x9x56x224x224 .f32 := broadcastInDim S4x9x56x224x224 ![0, 1, 2, 3, 4] bcast_S1x1x56x224x1_S4x9x56x224x224_0_1_2_3_4 main_v57
  let main_v59 : FVec F S4x9x56x224x224 .f32 := broadcastInDim S4x9x56x224x224 ![0, 1, 2, 3, 4] bcast_S4x9x1x224x224_S4x9x56x224x224_0_1_2_3_4 main_v56
  let main_v60 : FVec F S4x9x56x224x224 .f32 := mulf main_v58 main_v59
  let main_cst_14 : FVec F S_ .f32 := constant S_ .f32 0x00000000#32
  let main_v61 : FVec F S4x9x56x224 .f32 := (fun x v => Host.reduceAdd x v reducesTo_S4x9x56x224x224_S4x9x56x224_d3 h_S_) main_v60 main_cst_14
  let main_v62 : FVec F S4x9x56x1x224 .f32 := broadcastInDim S4x9x56x1x224 ![0, 1, 2, 4] bcast_S4x9x56x224_S4x9x56x1x224_0_1_2_4 main_v61
  let main_v63 : FVec F S1x1x1x56x224 .f32 := broadcastInDim S1x1x1x56x224 ![3, 4] bcast_S56x224_S1x1x1x56x224_3_4 main_cst
  let main_v64 : FVec F S4x9x56x56x224 .f32 := broadcastInDim S4x9x56x56x224 ![0, 1, 2, 3, 4] bcast_S1x1x1x56x224_S4x9x56x56x224_0_1_2_3_4 main_v63
  let main_v65 : FVec F S4x9x56x56x224 .f32 := broadcastInDim S4x9x56x56x224 ![0, 1, 2, 3, 4] bcast_S4x9x56x1x224_S4x9x56x56x224_0_1_2_3_4 main_v62
  let main_v66 : FVec F S4x9x56x56x224 .f32 := mulf main_v64 main_v65
  let main_cst_15 : FVec F S_ .f32 := constant S_ .f32 0x00000000#32
  let main_v67 : FVec F S4x9x56x56 .f32 := (fun x v => Host.reduceAdd x v reducesTo_S4x9x56x56x224_S4x9x56x56_d4 h_S_) main_v66 main_cst_15
  let main_v68 : FVec F S4x9x3x56x56 .f32 := (fun x i => Host.gather gather_S4x9x56x56_S3x56x1_S4x9x3x56x56_014_2_n_n_2_2_49156 x i) main_v67 main_v6
  let main_v69 : FVec F S4x9x3x56x3x56 .f32 := (fun x i => Host.gather gather_S4x9x3x56x56_S3x56x1_S4x9x3x56x3x56_0123_4_n_n_4_2_493561 x i) main_v68 main_v7
  let main_v70 : FVec F S4x9x3x3x56x56 .f32 := (transpose S4x9x3x3x56x56 [0, 1, 2, 4, 3, 5] · transposes_S4x9x3x56x3x56_S4x9x3x3x56x56_0_1_2_4_3_5) main_v69
  let main_v71 : FVec F S4x9x9x56x56 .f32 := shapeCast S4x9x9x56x56 main_v70 shapeCasts_S4x9x3x3x56x56_S4x9x9x56x56
  let main_v72 : FVec F S4x81x56x56 .f32 := shapeCast S4x81x56x56 main_v71 shapeCasts_S4x9x9x56x56_S4x81x56x56
  let main_v73 : FVec F S4x54x56x56 .f32 := (extractStridedSlice S4x54x56x56 ![0, 27, 0, 0] · slices_S4x81x56x56_S4x54x56x56_0_27_0_0) main_v72
  let main_v74 : FVec F S4x54x7x56x56 .f32 := (fun x i => Host.gather gather_S4x54x56x56_S7x56x1_S4x54x7x56x56_014_2_n_n_2_2_454156 x i) main_v73 main_v8
  let main_v75 : FVec F S4x54x7x56x7x56 .f32 := (fun x i => Host.gather gather_S4x54x7x56x56_S7x56x1_S4x54x7x56x7x56_0123_4_n_n_4_2_4547561 x i) main_v74 main_v9
  let main_v76 : FVec F S4x54x7x7x56x56 .f32 := (transpose S4x54x7x7x56x56 [0, 1, 2, 4, 3, 5] · transposes_S4x54x7x56x7x56_S4x54x7x7x56x56_0_1_2_4_3_5) main_v75
  let main_v77 : FVec F S4x54x49x56x56 .f32 := shapeCast S4x54x49x56x56 main_v76 shapeCasts_S4x54x7x7x56x56_S4x54x49x56x56
  fn_part4 (F := F) main_arg0 main_arg1 main_v54 main_v72 main_v77

def fn_part2 {F : FTy → Type} [FloatOps F] (main_arg0 : FVec F S4x3x224x224 .f32) (main_arg1 : FVec F S4x2x3x224x224 .f32) (main_cst : FVec F S56x224 .f32) (main_v2 : IVec S3x56x1 32) (main_v3 : IVec S3x56x1 32) (main_v4 : IVec S7x56x1 32) (main_v5 : IVec S7x56x1 32) (main_v6 : IVec S3x56x1 32) (main_v7 : IVec S3x56x1 32) (main_v8 : IVec S7x56x1 32) (main_v9 : IVec S7x56x1 32) (main_v11 : FVec F S4x9x224x224 .f32) (main_v32 : FVec F S4x9x56x56x224 .f32) (main_v33 : FVec F S4x9x56x56x224 .f32) : IVec S4x3x224x224 1 × IVec S4x2x3x224x224 1 × IVec S4x98x56x56 1 :=
  let main_v34 : FVec F S4x9x56x56x224 .f32 := mulf main_v32 main_v33
  let main_cst_12 : FVec F S_ .f32 := constant S_ .f32 0x00000000#32
  let main_v35 : FVec F S4x9x56x56 .f32 := (fun x v => Host.reduceAdd x v reducesTo_S4x9x56x56x224_S4x9x56x56_d4 h_S_) main_v34 main_cst_12
  let main_v36 : FVec F S4x9x3x56x56 .f32 := (fun x i => Host.gather gather_S4x9x56x56_S3x56x1_S4x9x3x56x56_014_2_n_n_2_2_49156 x i) main_v35 main_v2
  let main_v37 : FVec F S4x9x3x56x3x56 .f32 := (fun x i => Host.gather gather_S4x9x3x56x56_S3x56x1_S4x9x3x56x3x56_0123_4_n_n_4_2_493561 x i) main_v36 main_v3
  let main_v38 : FVec F S4x9x3x3x56x56 .f32 := (transpose S4x9x3x3x56x56 [0, 1, 2, 4, 3, 5] · transposes_S4x9x3x56x3x56_S4x9x3x3x56x56_0_1_2_4_3_5) main_v37
  let main_v39 : FVec F S4x9x9x56x56 .f32 := shapeCast S4x9x9x56x56 main_v38 shapeCasts_S4x9x3x3x56x56_S4x9x9x56x56
  let main_v40 : FVec F S4x81x56x56 .f32 := shapeCast S4x81x56x56 main_v39 shapeCasts_S4x9x9x56x56_S4x81x56x56
  let main_v41 : FVec F S4x54x56x56 .f32 := (extractStridedSlice S4x54x56x56 ![0, 27, 0, 0] · slices_S4x81x56x56_S4x54x56x56_0_27_0_0) main_v40
  let main_v42 : FVec F S4x54x7x56x56 .f32 := (fun x i => Host.gather gather_S4x54x56x56_S7x56x1_S4x54x7x56x56_014_2_n_n_2_2_454156 x i) main_v41 main_v4
  let main_v43 : FVec F S4x54x7x56x7x56 .f32 := (fun x i => Host.gather gather_S4x54x7x56x56_S7x56x1_S4x54x7x56x7x56_0123_4_n_n_4_2_4547561 x i) main_v42 main_v5
  let main_v44 : FVec F S4x54x7x7x56x56 .f32 := (transpose S4x54x7x7x56x56 [0, 1, 2, 4, 3, 5] · transposes_S4x54x7x56x7x56_S4x54x7x7x56x56_0_1_2_4_3_5) main_v43
  let main_v45 : FVec F S4x54x49x56x56 .f32 := shapeCast S4x54x49x56x56 main_v44 shapeCasts_S4x54x7x7x56x56_S4x54x49x56x56
  let main_v46 : FVec F S4x27x56x56 .f32 := (extractStridedSlice S4x27x56x56 ![0, 0, 0, 0] · slices_S4x81x56x56_S4x27x56x56_0_0_0_0) main_v40
  let main_v47 : FVec F S4x27x49x56x56 .f32 := (extractStridedSlice S4x27x49x56x56 ![0, 0, 0, 0, 0] · slices_S4x54x49x56x56_S4x27x49x56x56_0_0_0_0_0) main_v45
  let main_v48 : FVec F S4x27x49x56x56 .f32 := (extractStridedSlice S4x27x49x56x56 ![0, 27, 0, 0, 0] · slices_S4x54x49x56x56_S4x27x49x56x56_0_27_0_0_0) main_v45
  let main_v49 : FVec F S4x27x98x56x56 .f32 := (fun a b => concatenate S4x27x98x56x56 2 [⟨S4x27x49x56x56, a⟩, ⟨S4x27x49x56x56, b⟩] concatenates_S4x27x49x56x56_S4x27x49x56x56_S4x27x98x56x56_d2) main_v47 main_v48
  let main_v50 : FVec F S4x27x1x56x56 .f32 := broadcastInDim S4x27x1x56x56 ![0, 1, 3, 4] bcast_S4x27x56x56_S4x27x1x56x56_0_1_3_4 main_v46
  let main_v51 : FVec F S4x27x98x56x56 .f32 := broadcastInDim S4x27x98x56x56 ![0, 1, 2, 3, 4] bcast_S4x27x1x56x56_S4x27x98x56x56_0_1_2_3_4 main_v50
  let main_v52 : FVec F S4x27x98x56x56 .f32 := subf main_v51 main_v49
  let main_v53 : FVec F S4x27x98x56x56 .f32 := mulf main_v52 main_v52
  let main_cst_13 : FVec F S_ .f32 := constant S_ .f32 0x00000000#32
  let main_v54 : FVec F S4x98x56x56 .f32 := (fun x v => Host.reduceAdd x v reducesTo_S4x27x98x56x56_S4x98x56x56_d1 h_S_) main_v53 main_cst_13
  let main_v55 : FVec F S56x224x1 .f32 := broadcastInDim S56x224x1 ![0, 1] bcast_S56x224_S56x224x1_0_1 main_cst
  fn_part3 (F := F) main_arg0 main_arg1 main_cst main_v6 main_v7 main_v8 main_v9 main_v11 main_v54 main_v55

def fn_part1 {F : FTy → Type} [FloatOps F] (main_arg0 : FVec F S4x3x224x224 .f32) (main_arg1 : FVec F S4x2x3x224x224 .f32) (main_cst : FVec F S56x224 .f32) (main_v1 : IVec S3x224x1 32) (main_v2 : IVec S3x56x1 32) (main_v3 : IVec S3x56x1 32) (main_v4 : IVec S7x56x1 32) (main_v5 : IVec S7x56x1 32) (main_v6 : IVec S3x56x1 32) (main_v7 : IVec S3x56x1 32) (main_v8 : IVec S7x56x1 32) (main_v9 : IVec S7x56x1 32) (main_v11 : FVec F S4x9x224x224 .f32) (main_v12 : FVec F S4x9x3x224x224 .f32) : IVec S4x3x224x224 1 × IVec S4x2x3x224x224 1 × IVec S4x98x56x56 1 :=
  let main_v13 : FVec F S4x9x3x224x3x224 .f32 := (fun x i => Host.gather gather_S4x9x3x224x224_S3x224x1_S4x9x3x224x3x224_0123_4_n_n_4_2_4932241 x i) main_v12 main_v1
  let main_v14 : FVec F S4x9x3x3x224x224 .f32 := (transpose S4x9x3x3x224x224 [0, 1, 2, 4, 3, 5] · transposes_S4x9x3x224x3x224_S4x9x3x3x224x224_0_1_2_4_3_5) main_v13
  let main_v15 : FVec F S4x9x9x224x224 .f32 := shapeCast S4x9x9x224x224 main_v14 shapeCasts_S4x9x3x3x224x224_S4x9x9x224x224
  let main_v16 : FVec F S4x9x1x224x224 .f32 := broadcastInDim S4x9x1x224x224 ![0, 1, 3, 4] bcast_S4x9x224x224_S4x9x1x224x224_0_1_3_4 main_v11
  let main_v17 : FVec F S4x9x9x224x224 .f32 := broadcastInDim S4x9x9x224x224 ![0, 1, 2, 3, 4] bcast_S4x9x1x224x224_S4x9x9x224x224_0_1_2_3_4 main_v16
  let main_v18 : FVec F S4x9x9x224x224 .f32 := subf main_v15 main_v17
  let main_v19 : FVec F S4x9x9x224x224 .f32 := Host.tanh main_v18
  let main_cst_9 : FVec F S_ .f32 := constant S_ .f32 0x00000000#32
  let main_v20 : FVec F S4x9x224x224 .f32 := (fun x v => Host.reduceAdd x v reducesTo_S4x9x9x224x224_S4x9x224x224_d2 h_S_) main_v19 main_cst_9
  let main_cst_10 : FVec F S_ .f32 := constant S_ .f32 0x41100000#32
  let main_v21 : FVec F S4x9x224x224 .f32 := broadcastInDim S4x9x224x224 ![] bcast_S_S4x9x224x224 main_cst_10
  let main_v22 : FVec F S4x9x224x224 .f32 := Host.divf main_v20 main_v21
  let main_v23 : FVec F S56x224x1 .f32 := broadcastInDim S56x224x1 ![0, 1] bcast_S56x224_S56x224x1_0_1 main_cst
  let main_v24 : FVec F S4x9x1x224x224 .f32 := broadcastInDim S4x9x1x224x224 ![0, 1, 3, 4] bcast_S4x9x224x224_S4x9x1x224x224_0_1_3_4 main_v22
  let main_v25 : FVec F S1x1x56x224x1 .f32 := broadcastInDim S1x1x56x224x1 ![2, 3, 4] bcast_S56x224x1_S1x1x56x224x1_2_3_4 main_v23
  let main_v26 : FVec F S4x9x56x224x224 .f32 := broadcastInDim S4x9x56x224x224 ![0, 1, 2, 3, 4] bcast_S1x1x56x224x1_S4x9x56x224x224_0_1_2_3_4 main_v25
  let main_v27 : FVec F S4x9x56x224x224 .f32 := broadcastInDim S4x9x56x224x224 ![0, 1, 2, 3, 4] bcast_S4x9x1x224x224_S4x9x56x224x224_0_1_2_3_4 main_v24
  let main_v28 : FVec F S4x9x56x224x224 .f32 := mulf main_v26 main_v27
  let main_cst_11 : FVec F S_ .f32 := constant S_ .f32 0x00000000#32
  let main_v29 : FVec F S4x9x56x224 .f32 := (fun x v => Host.reduceAdd x v reducesTo_S4x9x56x224x224_S4x9x56x224_d3 h_S_) main_v28 main_cst_11
  let main_v30 : FVec F S4x9x56x1x224 .f32 := broadcastInDim S4x9x56x1x224 ![0, 1, 2, 4] bcast_S4x9x56x224_S4x9x56x1x224_0_1_2_4 main_v29
  let main_v31 : FVec F S1x1x1x56x224 .f32 := broadcastInDim S1x1x1x56x224 ![3, 4] bcast_S56x224_S1x1x1x56x224_3_4 main_cst
  let main_v32 : FVec F S4x9x56x56x224 .f32 := broadcastInDim S4x9x56x56x224 ![0, 1, 2, 3, 4] bcast_S1x1x1x56x224_S4x9x56x56x224_0_1_2_3_4 main_v31
  let main_v33 : FVec F S4x9x56x56x224 .f32 := broadcastInDim S4x9x56x56x224 ![0, 1, 2, 3, 4] bcast_S4x9x56x1x224_S4x9x56x56x224_0_1_2_3_4 main_v30
  fn_part2 (F := F) main_arg0 main_arg1 main_cst main_v2 main_v3 main_v4 main_v5 main_v6 main_v7 main_v8 main_v9 main_v11 main_v32 main_v33

def fn {F : FTy → Type} [FloatOps F] (main_arg0 : FVec F S4x3x224x224 .f32) (main_arg1 : FVec F S4x2x3x224x224 .f32) : IVec S4x3x224x224 1 × IVec S4x2x3x224x224 1 × IVec S4x98x56x56 1 :=
  let main_cst : FVec F S56x224 .f32 := fun i => FloatOps.ofBits .f32 (lit0 (S56x224.rowMajor i))
  let main_c : IVec S3x224 32 := fun i => lit1 (S3x224.rowMajor i)
  let main_v0 : IVec S3x224x1 32 := broadcastInDim S3x224x1 ![0, 1] bcast_S3x224_S3x224x1_0_1 main_c
  let main_c_0 : IVec S3x224 32 := fun i => lit2 (S3x224.rowMajor i)
  let main_v1 : IVec S3x224x1 32 := broadcastInDim S3x224x1 ![0, 1] bcast_S3x224_S3x224x1_0_1 main_c_0
  let main_c_1 : IVec S3x56 32 := fun i => lit3 (S3x56.rowMajor i)
  let main_v2 : IVec S3x56x1 32 := broadcastInDim S3x56x1 ![0, 1] bcast_S3x56_S3x56x1_0_1 main_c_1
  let main_c_2 : IVec S3x56 32 := fun i => lit4 (S3x56.rowMajor i)
  let main_v3 : IVec S3x56x1 32 := broadcastInDim S3x56x1 ![0, 1] bcast_S3x56_S3x56x1_0_1 main_c_2
  let main_c_3 : IVec S7x56 32 := fun i => lit5 (S7x56.rowMajor i)
  let main_v4 : IVec S7x56x1 32 := broadcastInDim S7x56x1 ![0, 1] bcast_S7x56_S7x56x1_0_1 main_c_3
  let main_c_4 : IVec S7x56 32 := fun i => lit6 (S7x56.rowMajor i)
  let main_v5 : IVec S7x56x1 32 := broadcastInDim S7x56x1 ![0, 1] bcast_S7x56_S7x56x1_0_1 main_c_4
  let main_c_5 : IVec S3x56 32 := fun i => lit7 (S3x56.rowMajor i)
  let main_v6 : IVec S3x56x1 32 := broadcastInDim S3x56x1 ![0, 1] bcast_S3x56_S3x56x1_0_1 main_c_5
  let main_c_6 : IVec S3x56 32 := fun i => lit8 (S3x56.rowMajor i)
  let main_v7 : IVec S3x56x1 32 := broadcastInDim S3x56x1 ![0, 1] bcast_S3x56_S3x56x1_0_1 main_c_6
  let main_c_7 : IVec S7x56 32 := fun i => lit9 (S7x56.rowMajor i)
  let main_v8 : IVec S7x56x1 32 := broadcastInDim S7x56x1 ![0, 1] bcast_S7x56_S7x56x1_0_1 main_c_7
  let main_c_8 : IVec S7x56 32 := fun i => lit10 (S7x56.rowMajor i)
  let main_v9 : IVec S7x56x1 32 := broadcastInDim S7x56x1 ![0, 1] bcast_S7x56_S7x56x1_0_1 main_c_8
  let main_v10 : FVec F S4x6x224x224 .f32 := shapeCast S4x6x224x224 main_arg1 shapeCasts_S4x2x3x224x224_S4x6x224x224
  let main_v11 : FVec F S4x9x224x224 .f32 := (fun a b => concatenate S4x9x224x224 1 [⟨S4x3x224x224, a⟩, ⟨S4x6x224x224, b⟩] concatenates_S4x3x224x224_S4x6x224x224_S4x9x224x224_d1) main_arg0 main_v10
  let main_v12 : FVec F S4x9x3x224x224 .f32 := (fun x i => Host.gather gather_S4x9x224x224_S3x224x1_S4x9x3x224x224_014_2_n_n_2_2_491224 x i) main_v11 main_v0
  fn_part1 (F := F) main_arg0 main_arg1 main_cst main_v1 main_v2 main_v3 main_v4 main_v5 main_v6 main_v7 main_v8 main_v9 main_v11 main_v12
-- ==== Kernel.lean ====
abbrev S4x3x224x224 : Shape := ⟨4, ![4, 3, 224, 224]⟩
abbrev S4x2x3x224x224 : Shape := ⟨5, ![4, 2, 3, 224, 224]⟩
abbrev S56x224 : Shape := ⟨2, ![56, 224]⟩
abbrev S168x56 : Shape := ⟨2, ![168, 56]⟩
abbrev S3x124x112 : Shape := ⟨3, ![3, 124, 112]⟩
abbrev S186x56 : Shape := ⟨2, ![186, 56]⟩
abbrev S4x8x128 : Shape := ⟨3, ![4, 8, 128]⟩
abbrev S1x3x224x224 : Shape := ⟨4, ![1, 3, 224, 224]⟩
abbrev S1x2x3x224x224 : Shape := ⟨5, ![1, 2, 3, 224, 224]⟩
abbrev S1x8x128 : Shape := ⟨3, ![1, 8, 128]⟩
abbrev S3x224x224 : Shape := ⟨3, ![3, 224, 224]⟩
abbrev S1x1x3x224x224 : Shape := ⟨5, ![1, 1, 3, 224, 224]⟩
abbrev S9x224x224 : Shape := ⟨3, ![9, 224, 224]⟩
abbrev S9x1x224 : Shape := ⟨3, ![9, 1, 224]⟩
abbrev S9x226x224 : Shape := ⟨3, ![9, 226, 224]⟩
abbrev S9x226x1 : Shape := ⟨3, ![9, 226, 1]⟩
abbrev S9x226x226 : Shape := ⟨3, ![9, 226, 226]⟩
abbrev S9x224x56 : Shape := ⟨3, ![9, 224, 56]⟩
abbrev S9x56x56 : Shape := ⟨3, ![9, 56, 56]⟩
abbrev S3x56x56 : Shape := ⟨3, ![3, 56, 56]⟩
abbrev S3x56x112 : Shape := ⟨3, ![3, 56, 112]⟩
abbrev S3x112x168 : Shape := ⟨3, ![3, 112, 168]⟩
abbrev S1x124x112 : Shape := ⟨3, ![1, 124, 112]⟩
abbrev S124x112 : Shape := ⟨2, ![124, 112]⟩
abbrev S3x168x124 : Shape := ⟨3, ![3, 168, 124]⟩
abbrev S3x3x56x124 : Shape := ⟨4, ![3, 3, 56, 124]⟩
abbrev S1x3x3x56x124 : Shape := ⟨5, ![1, 3, 3, 56, 124]⟩
abbrev S3x3x3x56x124 : Shape := ⟨5, ![3, 3, 3, 56, 124]⟩
abbrev S27x56x124 : Shape := ⟨3, ![27, 56, 124]⟩
abbrev S3x112x186 : Shape := ⟨3, ![3, 112, 186]⟩
abbrev S3x186x124 : Shape := ⟨3, ![3, 186, 124]⟩
abbrev S3x3x62x124 : Shape := ⟨4, ![3, 3, 62, 124]⟩
abbrev S1x3x3x62x124 : Shape := ⟨5, ![1, 3, 3, 62, 124]⟩
abbrev S3x3x3x62x124 : Shape := ⟨5, ![3, 3, 3, 62, 124]⟩
abbrev S27x62x124 : Shape := ⟨3, ![27, 62, 124]⟩
abbrev S27x56x56 : Shape := ⟨3, ![27, 56, 56]⟩
abbrev S56x56 : Shape := ⟨2, ![56, 56]⟩
abbrev S62x124 : Shape := ⟨2, ![62, 124]⟩
abbrev S56x124 : Shape := ⟨2, ![56, 124]⟩
abbrev S27x56x1 : Shape := ⟨3, ![27, 56, 1]⟩
abbrev S27x56x123 : Shape := ⟨3, ![27, 56, 123]⟩
abbrev S56x123 : Shape := ⟨2, ![56, 123]⟩
abbrev S56x1 : Shape := ⟨2, ![56, 1]⟩
abbrev S27x56x2 : Shape := ⟨3, ![27, 56, 2]⟩
abbrev S27x56x122 : Shape := ⟨3, ![27, 56, 122]⟩
abbrev S56x122 : Shape := ⟨2, ![56, 122]⟩
abbrev S56x2 : Shape := ⟨2, ![56, 2]⟩
abbrev S27x56x3 : Shape := ⟨3, ![27, 56, 3]⟩
abbrev S27x56x121 : Shape := ⟨3, ![27, 56, 121]⟩
abbrev S56x121 : Shape := ⟨2, ![56, 121]⟩
abbrev S56x3 : Shape := ⟨2, ![56, 3]⟩
abbrev S27x56x4 : Shape := ⟨3, ![27, 56, 4]⟩
abbrev S27x56x120 : Shape := ⟨3, ![27, 56, 120]⟩
abbrev S56x120 : Shape := ⟨2, ![56, 120]⟩
abbrev S56x4 : Shape := ⟨2, ![56, 4]⟩
abbrev S27x56x5 : Shape := ⟨3, ![27, 56, 5]⟩
abbrev S27x56x119 : Shape := ⟨3, ![27, 56, 119]⟩
abbrev S56x119 : Shape := ⟨2, ![56, 119]⟩
abbrev S56x5 : Shape := ⟨2, ![56, 5]⟩
abbrev S27x56x6 : Shape := ⟨3, ![27, 56, 6]⟩
abbrev S27x56x118 : Shape := ⟨3, ![27, 56, 118]⟩
abbrev S56x118 : Shape := ⟨2, ![56, 118]⟩
abbrev S56x6 : Shape := ⟨2, ![56, 6]⟩
abbrev S1x56x56 : Shape := ⟨3, ![1, 56, 56]⟩
abbrev S1 : Shape := ⟨1, ![1]⟩
abbrev S1x1x1 : Shape := ⟨3, ![1, 1, 1]⟩
abbrev S8x128 : Shape := ⟨2, ![8, 128]⟩
abbrev S4x1x1 : Shape := ⟨3, ![4, 1, 1]⟩
abbrev S4 : Shape := ⟨1, ![4]⟩
abbrev S_ : Shape := ⟨0, ![]⟩

abbrev nBuf : Space → Nat
  | .hbm => 14
  | .vmem => 11
  | .smem => 0
  | _ => 0

abbrev bufTy : (tb : Table) → Fin (tcTables nBuf tb) → BufTy
  | .hbm, ⟨0, _⟩ => ⟨S4x3x224x224, .f32⟩
  | .hbm, ⟨1, _⟩ => ⟨S4x2x3x224x224, .f32⟩
  | .hbm, ⟨2, _⟩ => ⟨S56x224, .f32⟩
  | .hbm, ⟨3, _⟩ => ⟨S168x56, .f32⟩
  | .hbm, ⟨4, _⟩ => ⟨S3x124x112, .f32⟩
  | .hbm, ⟨5, _⟩ => ⟨S186x56, .f32⟩
  | .hbm, ⟨6, _⟩ => ⟨S3x124x112, .f32⟩
  | .hbm, ⟨7, _⟩ => ⟨S4x8x128, .f32⟩
  | .hbm, ⟨8, _⟩ => ⟨S4x1x1, .f32⟩
  | .hbm, ⟨9, _⟩ => ⟨S4, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x3x224x224, .f32⟩
  | .local _ .vmem, ⟨1, _⟩ => ⟨S1x3x224x224, .f32⟩
  | .local _ .vmem, ⟨2, _⟩ => ⟨S1x2x3x224x224, .f32⟩
  | .local _ .vmem, ⟨3, _⟩ => ⟨S1x2x3x224x224, .f32⟩
  | .local _ .vmem, ⟨4, _⟩ => ⟨S56x224, .f32⟩
  | .local _ .vmem, ⟨5, _⟩ => ⟨S168x56, .f32⟩
  | .local _ .vmem, ⟨6, _⟩ => ⟨S3x124x112, .f32⟩
  | .local _ .vmem, ⟨7, _⟩ => ⟨S186x56, .f32⟩
  | .local _ .vmem, ⟨8, _⟩ => ⟨S3x124x112, .f32⟩
  | .local _ .vmem, ⟨9, _⟩ => ⟨S1x8x128, .f32⟩
  | .local _ .vmem, ⟨10, _⟩ => ⟨S1x8x128, .f32⟩
  | _, _ => ⟨S4x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_cst_2 : Ref sig .tc := ⟨.hbm, 5, rfl⟩
abbrev main_cst_3 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_4 : Ref sig .tc := ⟨.hbm, 10, rfl⟩
abbrev main_v3 : Ref sig .tc := ⟨.hbm, 11, rfl⟩
abbrev main_cst_5 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x3x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S56x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S168x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x124x112 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S186x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x124x112 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "ninth" => some ((1 / 9 : ℝ) : EReal)
  | _ => none
-- ==== ReferenceIdeal.lean ====
abbrev S4x3x224x224 : Shape := ⟨4, ![4, 3, 224, 224]⟩
abbrev S4x2x3x224x224 : Shape := ⟨5, ![4, 2, 3, 224, 224]⟩
abbrev S56x224 : Shape := ⟨2, ![56, 224]⟩
abbrev S3x224 : Shape := ⟨2, ![3, 224]⟩
abbrev S3x224x1 : Shape := ⟨3, ![3, 224, 1]⟩
abbrev S3x56 : Shape := ⟨2, ![3, 56]⟩
abbrev S3x56x1 : Shape := ⟨3, ![3, 56, 1]⟩
abbrev S7x56 : Shape := ⟨2, ![7, 56]⟩
abbrev S7x56x1 : Shape := ⟨3, ![7, 56, 1]⟩
abbrev S4x6x224x224 : Shape := ⟨4, ![4, 6, 224, 224]⟩
abbrev S4x9x224x224 : Shape := ⟨4, ![4, 9, 224, 224]⟩
abbrev S4x9x3x224x224 : Shape := ⟨5, ![4, 9, 3, 224, 224]⟩
abbrev S4x9x3x224x3x224 : Shape := ⟨6, ![4, 9, 3, 224, 3, 224]⟩
abbrev S4x9x3x3x224x224 : Shape := ⟨6, ![4, 9, 3, 3, 224, 224]⟩
abbrev S4x9x9x224x224 : Shape := ⟨5, ![4, 9, 9, 224, 224]⟩
abbrev S4x9x1x224x224 : Shape := ⟨5, ![4, 9, 1, 224, 224]⟩
abbrev S_ : Shape := ⟨0, ![]⟩
abbrev S56x224x1 : Shape := ⟨3, ![56, 224, 1]⟩
abbrev S1x1x56x224x1 : Shape := ⟨5, ![1, 1, 56, 224, 1]⟩
abbrev S4x9x56x224x224 : Shape := ⟨5, ![4, 9, 56, 224, 224]⟩
abbrev S4x9x56x224 : Shape := ⟨4, ![4, 9, 56, 224]⟩
abbrev S4x9x56x1x224 : Shape := ⟨5, ![4, 9, 56, 1, 224]⟩
abbrev S1x1x1x56x224 : Shape := ⟨5, ![1, 1, 1, 56, 224]⟩
abbrev S4x9x56x56x224 : Shape := ⟨5, ![4, 9, 56, 56, 224]⟩
abbrev S4x9x56x56 : Shape := ⟨4, ![4, 9, 56, 56]⟩
abbrev S4x9x3x56x56 : Shape := ⟨5, ![4, 9, 3, 56, 56]⟩
abbrev S4x9x3x56x3x56 : Shape := ⟨6, ![4, 9, 3, 56, 3, 56]⟩
abbrev S4x9x3x3x56x56 : Shape := ⟨6, ![4, 9, 3, 3, 56, 56]⟩
abbrev S4x9x9x56x56 : Shape := ⟨5, ![4, 9, 9, 56, 56]⟩
abbrev S4x81x56x56 : Shape := ⟨4, ![4, 81, 56, 56]⟩
abbrev S4x54x56x56 : Shape := ⟨4, ![4, 54, 56, 56]⟩
abbrev S4x54x7x56x56 : Shape := ⟨5, ![4, 54, 7, 56, 56]⟩
abbrev S4x54x7x56x7x56 : Shape := ⟨6, ![4, 54, 7, 56, 7, 56]⟩
abbrev S4x54x7x7x56x56 : Shape := ⟨6, ![4, 54, 7, 7, 56, 56]⟩
abbrev S4x54x49x56x56 : Shape := ⟨5, ![4, 54, 49, 56, 56]⟩
abbrev S4x27x56x56 : Shape := ⟨4, ![4, 27, 56, 56]⟩
abbrev S4x27x49x56x56 : Shape := ⟨5, ![4, 27, 49, 56, 56]⟩
abbrev S4x27x98x56x56 : Shape := ⟨5, ![4, 27, 98, 56, 56]⟩
abbrev S4x27x1x56x56 : Shape := ⟨5, ![4, 27, 1, 56, 56]⟩
abbrev S4x98x56x56 : Shape := ⟨4, ![4, 98, 56, 56]⟩
abbrev S4x56x56 : Shape := ⟨3, ![4, 56, 56]⟩
abbrev S4x1x98x56x56 : Shape := ⟨5, ![4, 1, 98, 56, 56]⟩

abbrev nBuf : Space → Nat
  | .hbm => 128
  | .vmem => 0
  | .smem => 0
  | _ => 0

abbrev bufTy : (tb : Table) → Fin (tcTables nBuf tb) → BufTy
  | .hbm, ⟨0, _⟩ => ⟨S4x3x224x224, .f32⟩
  | .hbm, ⟨1, _⟩ => ⟨S4x2x3x224x224, .f32⟩
  | .hbm, ⟨2, _⟩ => ⟨S56x224, .f32⟩
  | .hbm, ⟨3, _⟩ => ⟨S3x224, .i32⟩
  | .hbm, ⟨4, _⟩ => ⟨S3x224x1, .i32⟩
  | .hbm, ⟨5, _⟩ => ⟨S3x224, .i32⟩
  | .hbm, ⟨6, _⟩ => ⟨S3x224x1, .i32⟩
  | .hbm, ⟨7, _⟩ => ⟨S3x56, .i32⟩
  | .hbm, ⟨8, _⟩ => ⟨S3x56x1, .i32⟩
  | .hbm, ⟨9, _⟩ => ⟨S3x56, .i32⟩
  | .hbm, ⟨10, _⟩ => ⟨S3x56x1, .i32⟩
  | .hbm, ⟨11, _⟩ => ⟨S7x56, .i32⟩
  | .hbm, ⟨12, _⟩ => ⟨S7x56x1, .i32⟩
  | .hbm, ⟨13, _⟩ => ⟨S7x56, .i32⟩
  | .hbm, ⟨14, _⟩ => ⟨S7x56x1, .i32⟩
  | .hbm, ⟨15, _⟩ => ⟨S3x56, .i32⟩
  | .hbm, ⟨16, _⟩ => ⟨S3x56x1, .i32⟩
  | .hbm, ⟨17, _⟩ => ⟨S3x56, .i32⟩
  | .hbm, ⟨18, _⟩ => ⟨S3x56x1, .i32⟩
  | .hbm, ⟨19, _⟩ => ⟨S7x56, .i32⟩
  | .hbm, ⟨20, _⟩ => ⟨S7x56x1, .i32⟩
  | .hbm, ⟨21, _⟩ => ⟨S7x56, .i32⟩
  | .hbm, ⟨22, _⟩ => ⟨S7x56x1, .i32⟩
  | .hbm, ⟨23, _⟩ => ⟨S4x6x224x224, .f32⟩
  | .hbm, ⟨24, _⟩ => ⟨S4x9x224x224, .f32⟩
  | .hbm, ⟨25, _⟩ => ⟨S4x9x3x224x224, .f32⟩
  | .hbm, ⟨26, _⟩ => ⟨S4x9x3x224x3x224, .f32⟩
  | .hbm, ⟨27, _⟩ => ⟨S4x9x3x3x224x224, .f32⟩
  | .hbm, ⟨28, _⟩ => ⟨S4x9x9x224x224, .f32⟩
  | .hbm, ⟨29, _⟩ => ⟨S4x9x1x224x224, .f32⟩
  | .hbm, ⟨30, _⟩ => ⟨S4x9x9x224x224, .f32⟩
  | .hbm, ⟨31, _⟩ => ⟨S4x9x9x224x224, .f32⟩
  | .hbm, ⟨32, _⟩ => ⟨S4x9x9x224x224, .f32⟩
  | .hbm, ⟨33, _⟩ => ⟨S_, .f32⟩
  | .hbm, ⟨34, _⟩ => ⟨S4x9x224x224, .f32⟩
  | .hbm, ⟨35, _⟩ => ⟨S_, .f32⟩
  | .hbm, ⟨36, _⟩ => ⟨S4x9x224x224, .f32⟩
  | .hbm, ⟨37, _⟩ => ⟨S4x9x224x224, .f32⟩
  | .hbm, ⟨38, _⟩ => ⟨S56x224x1, .f32⟩
  | .hbm, ⟨39, _⟩ => ⟨S4x9x1x224x224, .f32⟩
  | .hbm, ⟨40, _⟩ => ⟨S1x1x56x224x1, .f32⟩
  | .hbm, ⟨41, _⟩ => ⟨S4x9x56x224x224, .f32⟩
  | .hbm, ⟨42, _⟩ => ⟨S4x9x56x224x224, .f32⟩
  | .hbm, ⟨43, _⟩ => ⟨S4x9x56x224x224, .f32⟩
  | .hbm, ⟨44, _⟩ => ⟨S_, .f32⟩
  | .hbm, ⟨45, _⟩ => ⟨S4x9x56x224, .f32⟩
  | .hbm, ⟨46, _⟩ => ⟨S4x9x56x1x224, .f32⟩
  | .hbm, ⟨47, _⟩ => ⟨S1x1x1x56x224, .f32⟩
  | .hbm, ⟨48, _⟩ => ⟨S4x9x56x56x224, .f32⟩
  | .hbm, ⟨49, _⟩ => ⟨S4x9x56x56x224, .f32⟩
  | .hbm, ⟨50, _⟩ => ⟨S4x9x56x56x224, .f32⟩
  | .hbm, ⟨51, _⟩ => ⟨S_, .f32⟩
  | .hbm, ⟨52, _⟩ => ⟨S4x9x56x56, .f32⟩
  | .hbm, ⟨53, _⟩ => ⟨S4x9x3x56x56, .f32⟩
  | .hbm, ⟨54, _⟩ => ⟨S4x9x3x56x3x56, .f32⟩
  | .hbm, ⟨55, _⟩ => ⟨S4x9x3x3x56x56, .f32⟩
  | .hbm, ⟨56, _⟩ => ⟨S4x9x9x56x56, .f32⟩
  | .hbm, ⟨57, _⟩ => ⟨S4x81x56x56, .f32⟩
  | .hbm, ⟨58, _⟩ => ⟨S4x54x56x56, .f32⟩
  | .hbm, ⟨59, _⟩ => ⟨S4x54x7x56x56, .f32⟩
  | .hbm, ⟨60, _⟩ => ⟨S4x54x7x56x7x56, .f32⟩
  | .hbm, ⟨61, _⟩ => ⟨S4x54x7x7x56x56, .f32⟩
  | .hbm, ⟨62, _⟩ => ⟨S4x54x49x56x56, .f32⟩
  | .hbm, ⟨63, _⟩ => ⟨S4x27x56x56, .f32⟩
  | .hbm, ⟨64, _⟩ => ⟨S4x27x49x56x56, .f32⟩
  | .hbm, ⟨65, _⟩ => ⟨S4x27x49x56x56, .f32⟩
  | .hbm, ⟨66, _⟩ => ⟨S4x27x98x56x56, .f32⟩
  | .hbm, ⟨67, _⟩ => ⟨S4x27x1x56x56, .f32⟩
  | .hbm, ⟨68, _⟩ => ⟨S4x27x98x56x56, .f32⟩
  | .hbm, ⟨69, _⟩ => ⟨S4x27x98x56x56, .f32⟩
  | .hbm, ⟨70, _⟩ => ⟨S4x27x98x56x56, .f32⟩
  | .hbm, ⟨71, _⟩ => ⟨S_, .f32⟩
  | .hbm, ⟨72, _⟩ => ⟨S4x98x56x56, .f32⟩
  | .hbm, ⟨73, _⟩ => ⟨S56x224x1, .f32⟩
  | .hbm, ⟨74, _⟩ => ⟨S4x9x1x224x224, .f32⟩
  | .hbm, ⟨75, _⟩ => ⟨S1x1x56x224x1, .f32⟩
  | .hbm, ⟨76, _⟩ => ⟨S4x9x56x224x224, .f32⟩
  | .hbm, ⟨77, _⟩ => ⟨S4x9x56x224x224, .f32⟩
  | .hbm, ⟨78, _⟩ => ⟨S4x9x56x224x224, .f32⟩
  | .hbm, ⟨79, _⟩ => ⟨S_, .f32⟩
  | .hbm, ⟨80, _⟩ => ⟨S4x9x56x224, .f32⟩
  | .hbm, ⟨81, _⟩ => ⟨S4x9x56x1x224, .f32⟩
  | .hbm, ⟨82, _⟩ => ⟨S1x1x1x56x224, .f32⟩
  | .hbm, ⟨83, _⟩ => ⟨S4x9x56x56x224, .f32⟩
  | .hbm, ⟨84, _⟩ => ⟨S4x9x56x56x224, .f32⟩
  | .hbm, ⟨85, _⟩ => ⟨S4x9x56x56x224, .f32⟩
  | .hbm, ⟨86, _⟩ => ⟨S_, .f32⟩
  | .hbm, ⟨87, _⟩ => ⟨S4x9x56x56, .f32⟩
  | .hbm, ⟨88, _⟩ => ⟨S4x9x3x56x56, .f32⟩
  | .hbm, ⟨89, _⟩ => ⟨S4x9x3x56x3x56, .f32⟩
  | .hbm, ⟨90, _⟩ => ⟨S4x9x3x3x56x56, .f32⟩
  | .hbm, ⟨91, _⟩ => ⟨S4x9x9x56x56, .f32⟩
  | .hbm, ⟨92, _⟩ => ⟨S4x81x56x56, .f32⟩
  | .hbm, ⟨93, _⟩ => ⟨S4x54x56x56, .f32⟩
  | .hbm, ⟨94, _⟩ => ⟨S4x54x7x56x56, .f32⟩
  | .hbm, ⟨95, _⟩ => ⟨S4x54x7x56x7x56, .f32⟩
  | .hbm, ⟨96, _⟩ => ⟨S4x54x7x7x56x56, .f32⟩
  | .hbm, ⟨97, _⟩ => ⟨S4x54x49x56x56, .f32⟩
  | .hbm, ⟨98, _⟩ => ⟨S4x27x56x56, .f32⟩
  | .hbm, ⟨99, _⟩ => ⟨S4x27x49x56x56, .f32⟩
  | .hbm, ⟨100, _⟩ => ⟨S4x27x49x56x56, .f32⟩
  | .hbm, ⟨101, _⟩ => ⟨S4x27x98x56x56, .f32⟩
  | .hbm, ⟨102, _⟩ => ⟨S_, .f32⟩
  | .hbm, ⟨103, _⟩ => ⟨S4x56x56, .f32⟩
  | .hbm, ⟨104, _⟩ => ⟨S4x98x56x56, .f32⟩
  | .hbm, ⟨105, _⟩ => ⟨S4x98x56x56, .i1⟩
  | .hbm, ⟨106, _⟩ => ⟨S4x98x56x56, .i32⟩
  | .hbm, ⟨107, _⟩ => ⟨S_, .i32⟩
  | .hbm, ⟨108, _⟩ => ⟨S4x98x56x56, .i32⟩
  | .hbm, ⟨109, _⟩ => ⟨S4x98x56x56, .i32⟩
  | .hbm, ⟨110, _⟩ => ⟨S_, .i32⟩
  | .hbm, ⟨111, _⟩ => ⟨S4x56x56, .i32⟩
  | .hbm, ⟨112, _⟩ => ⟨S4x98x56x56, .i32⟩
  | .hbm, ⟨113, _⟩ => ⟨S4x98x56x56, .i32⟩
  | .hbm, ⟨114, _⟩ => ⟨S4x98x56x56, .i1⟩
  | .hbm, ⟨115, _⟩ => ⟨S4x1x98x56x56, .i1⟩
  | .hbm, ⟨116, _⟩ => ⟨S4x27x98x56x56, .i1⟩
  | .hbm, ⟨117, _⟩ => ⟨S_, .f32⟩
  | .hbm, ⟨118, _⟩ => ⟨S4x27x98x56x56, .f32⟩
  | .hbm, ⟨119, _⟩ => ⟨S4x27x98x56x56, .f32⟩
  | .hbm, ⟨120, _⟩ => ⟨S_, .f32⟩
  | .hbm, ⟨121, _⟩ => ⟨S4x27x56x56, .f32⟩
  | .hbm, ⟨122, _⟩ => ⟨S4x27x56x56, .f32⟩
  | .hbm, ⟨123, _⟩ => ⟨S4x27x56x56, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S4x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_c_2 : Ref sig .tc := ⟨.hbm, 9, rfl⟩
abbrev main_v3 : Ref sig .tc := ⟨.hbm, 10, rfl⟩
abbrev main_c_3 : Ref sig .tc := ⟨.hbm, 11, rfl⟩
abbrev main_v4 : Ref sig .tc := ⟨.hbm, 12, rfl⟩
abbrev main_c_4 : Ref sig .tc := ⟨.hbm, 13, rfl⟩
abbrev main_v5 : Ref sig .tc := ⟨.hbm, 14, rfl⟩
abbrev main_c_5 : Ref sig .tc := ⟨.hbm, 15, rfl⟩
abbrev main_v6 : Ref sig .tc := ⟨.hbm, 16, rfl⟩
abbrev main_c_6 : Ref sig .tc := ⟨.hbm, 17, rfl⟩
abbrev main_v7 : Ref sig .tc := ⟨.hbm, 18, rfl⟩
abbrev main_c_7 : Ref sig .tc := ⟨.hbm, 19, rfl⟩
abbrev main_v8 : Ref sig .tc := ⟨.hbm, 20, rfl⟩
abbrev main_c_8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_9 : Ref sig .tc := ⟨.hbm, 33, rfl⟩
abbrev main_v20 : Ref sig .tc := ⟨.hbm, 34, rfl⟩
abbrev main_cst_10 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_11 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_12 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_13 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_14 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_15 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_16 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_c_17 : Ref sig .tc := ⟨.hbm, 107, rfl⟩
abbrev main_v86 : Ref sig .tc := ⟨.hbm, 108, rfl⟩
abbrev main_v87 : Ref sig .tc := ⟨.hbm, 109, rfl⟩
abbrev main_c_18 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_19 : Ref sig .tc := ⟨.hbm, 117, rfl⟩
abbrev main_v94 : Ref sig .tc := ⟨.hbm, 118, rfl⟩
abbrev main_v95 : Ref sig .tc := ⟨.hbm, 119, rfl⟩
abbrev main_cst_20 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_21 : Ref sig .tc := ⟨.hbm, 124, rfl⟩
abbrev main_v99 : Ref sig .tc := ⟨.hbm, 125, rfl⟩
abbrev main_cst_22 : Ref sig .tc := ⟨.hbm, 126, rfl⟩
abbrev main_v100 : Ref sig .tc := ⟨.hbm, 127, rfl⟩

abbrev nD : Nat := 1
abbrev τ : Topo := Topo.v7x

variable {F : FTy → Type} [FloatOps F]
-- ==== Proof.Frames.lean ====
/-
  The claims that hold without a precondition: each program runs to its end, leaves its arguments as they were and every
  semaphore counter at zero, and the kernel's one named constant is the ninth the certificate's table says it is.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.SL.Sem

namespace Cert.Proof

/-- The printed kernel runs, its arguments end unchanged and every counter ends at zero. -/
theorem frame_p : Cert.quiescent_Kernel := fun m ρ _ => Cert.Kernel.Gen.frame m ρ

/-- The idealized kernel runs, its arguments end unchanged and every counter ends at zero. -/
theorem frame_pi : Cert.quiescent_KernelIdeal := fun m ρ _ => Cert.KernelIdeal.Gen.frame m ρ

/-- The reference runs and its arguments end unchanged; it declares no semaphore, so every counter is zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ledger's one entry: the certificate's table gives the name `"ninth"` the real `1 / 9`. -/
theorem preserves : Cert.preserves_Kernel_KernelIdeal :=
  IdealRules.named_const.statement Cert.KernelIdeal.κ "ninth" .f32 0x3DE38E39#32 ((1 / 9 : ℝ) : EReal) rfl

end Cert.Proof

end
-- ==== Proof.KerOps.lean ====
/-
  The kernel's search as functions of arrays: the distance of one row step, the scan of the seven row steps, the shifts of
  the prediction along the lanes and back, and the best of all; and that the printed body is these.
-/
module

public import proofs.«01_k».proof.Proof.Gen.KernelIdeal.Frame
public import Idealize.ShloMosaic.Lib.Pointwise

@[expose] public section

set_option maxRecDepth 16384

noncomputable section

open Idealize.ShloMosaic Idealize.ShloMosaic.TcCoe Idealize.SL.Sem

namespace Cert.Match.Ker
open Cert.KernelIdeal Cert.KernelIdeal.Gen

/-- One plane of scores, the prediction's channels, the images' channels, and the half norms. -/
abbrev Sc : Type := FVec Ideal S56x124 .f32
abbrev Pr : Type := FVec Ideal S27x56x124 .f32
abbrev Nr : Type := FVec Ideal S27x62x124 .f32
abbrev Hn : Type := FVec Ideal S62x124 .f32

/-- The score of row step `a`: the half norm less the product with the prediction. -/
def score (a : ℕ) (hN : S27x62x124.Slices ![0, a, 0] S27x56x124) (hS : S62x124.Slices ![a, 0] S56x124) (P : Pr) (N : Nr)
    (S : Hn) : Sc :=
  subf (extractStridedSlice S56x124 ![a, 0] S hS)
    (multiReduction .add [0] S56x124 (mulf P (extractStridedSlice S27x56x124 ![0, a, 0] N hN)) 0x00000000#32
      reduces_S27x56x124_S56x124 (.inl rfl) rfl)

/-- The better of two pairs of scores, by the first; the earlier one where they tie. -/
def better (s t : Sc × Sc) : Sc × Sc :=
  (select (cmpf .olt t.1 s.1) t.1 s.1, select (cmpf .olt t.1 s.1) t.2 s.2)

/-- The census and the raw scores of row step `a`. -/
def scores (a : ℕ) (hN : S27x62x124.Slices ![0, a, 0] S27x56x124) (hS : S62x124.Slices ![a, 0] S56x124) (P Q : Pr)
    (N M : Nr) (S T : Hn) : Sc × Sc := (score a hN hS P N S, score a hN hS Q M T)

/-- The best of the seven row steps. -/
def scan (P Q : Pr) (N M : Nr) (S T : Hn) : Sc × Sc :=
  better (better (better (better (better (better
    (scores 0 slices_S27x62x124_o0_0_0_S27x56x124 slices_S62x124_o0_0_S56x124 P Q N M S T)
    (scores 1 slices_S27x62x124_o0_1_0_S27x56x124 slices_S62x124_o1_0_S56x124 P Q N M S T))
    (scores 2 slices_S27x62x124_o0_2_0_S27x56x124 slices_S62x124_o2_0_S56x124 P Q N M S T))
    (scores 3 slices_S27x62x124_o0_3_0_S27x56x124 slices_S62x124_o3_0_S56x124 P Q N M S T))
    (scores 4 slices_S27x62x124_o0_4_0_S27x56x124 slices_S62x124_o4_0_S56x124 P Q N M S T))
    (scores 5 slices_S27x62x124_o0_5_0_S27x56x124 slices_S62x124_o5_0_S56x124 P Q N M S T))
    (scores 6 slices_S27x62x124_o0_6_0_S27x56x124 slices_S62x124_o6_0_S56x124 P Q N M S T)

/-- The lanes shifted `k` to the right, round the end. -/
def shift (k w : ℕ) (h1 : S27x56x124.Slices ![0, 0, w] ⟨3, ![27, 56, k]⟩) (h2 : S27x56x124.Slices ![0, 0, 0] ⟨3, ![27, 56, w]⟩)
    (h3 : Shape.Concatenates [⟨3, ![27, 56, k]⟩, ⟨3, ![27, 56, w]⟩] S27x56x124 2) (P : Pr) : Pr :=
  concatenate S27x56x124 2 [⟨⟨3, ![27, 56, k]⟩, extractStridedSlice ⟨3, ![27, 56, k]⟩ ![0, 0, w] P h1⟩,
    ⟨⟨3, ![27, 56, w]⟩, extractStridedSlice ⟨3, ![27, 56, w]⟩ ![0, 0, 0] P h2⟩] h3

/-- The lanes shifted `k` to the left, round the end. -/
def unshift (k w : ℕ) (h1 : S56x124.Slices ![0, k] ⟨2, ![56, w]⟩) (h2 : S56x124.Slices ![0, 0] ⟨2, ![56, k]⟩)
    (h3 : Shape.Concatenates [⟨2, ![56, w]⟩, ⟨2, ![56, k]⟩] S56x124 1) (s : Sc) : Sc :=
  concatenate S56x124 1 [⟨⟨2, ![56, w]⟩, extractStridedSlice ⟨2, ![56, w]⟩ ![0, k] s h1⟩,
    ⟨⟨2, ![56, k]⟩, extractStridedSlice ⟨2, ![56, k]⟩ ![0, 0] s h2⟩] h3

/-- The lanes 1 to the right. -/
def right1 : Pr → Pr := shift 1 123 slices_S27x56x124_o0_0_123_S27x56x1 slices_S27x56x124_o0_0_0_S27x56x123 concatenates_S27x56x1_S27x56x123_S27x56x124_d2

/-- The lanes 1 back to the left. -/
def left1 (s : Sc) : Sc :=
  concatenate S56x124 1 [⟨S56x123, extractStridedSlice S56x123 ![0, 1] s slices_S56x124_o0_1_S56x123⟩,
    ⟨S56x1, extractStridedSlice S56x1 ![0, 0] s slices_S56x124_o0_0_S56x1⟩] concatenates_S56x123_S56x1_S56x124_d1

theorem left1_eq : left1 = unshift 1 123 slices_S56x124_o0_1_S56x123 slices_S56x124_o0_0_S56x1 concatenates_S56x123_S56x1_S56x124_d1 := rfl

/-- The best so far against the scan of the lanes 1 to the right. -/
def best1 (P Q : Pr) (N M : Nr) (S T : Hn) (s : Sc × Sc) : Sc × Sc :=
  better s
    (left1 (scan (right1 P) (right1 Q) N M S T).1,
      left1 (scan (right1 P) (right1 Q) N M S T).2)

/-- The lanes 2 to the right. -/
def right2 : Pr → Pr := shift 2 122 slices_S27x56x124_o0_0_122_S27x56x2 slices_S27x56x124_o0_0_0_S27x56x122 concatenates_S27x56x2_S27x56x122_S27x56x124_d2

/-- The lanes 2 back to the left. -/
def left2 (s : Sc) : Sc :=
  concatenate S56x124 1 [⟨S56x122, extractStridedSlice S56x122 ![0, 2] s slices_S56x124_o0_2_S56x122⟩,
    ⟨S56x2, extractStridedSlice S56x2 ![0, 0] s slices_S56x124_o0_0_S56x2⟩] concatenates_S56x122_S56x2_S56x124_d1

theorem left2_eq : left2 = unshift 2 122 slices_S56x124_o0_2_S56x122 slices_S56x124_o0_0_S56x2 concatenates_S56x122_S56x2_S56x124_d1 := rfl

/-- The best so far against the scan of the lanes 2 to the right. -/
def best2 (P Q : Pr) (N M : Nr) (S T : Hn) (s : Sc × Sc) : Sc × Sc :=
  better s
    (left2 (scan (right2 P) (right2 Q) N M S T).1,
      left2 (scan (right2 P) (right2 Q) N M S T).2)

/-- The lanes 3 to the right. -/
def right3 : Pr → Pr := shift 3 121 slices_S27x56x124_o0_0_121_S27x56x3 slices_S27x56x124_o0_0_0_S27x56x121 concatenates_S27x56x3_S27x56x121_S27x56x124_d2

/-- The lanes 3 back to the left. -/
def left3 (s : Sc) : Sc :=
  concatenate S56x124 1 [⟨S56x121, extractStridedSlice S56x121 ![0, 3] s slices_S56x124_o0_3_S56x121⟩,
    ⟨S56x3, extractStridedSlice S56x3 ![0, 0] s slices_S56x124_o0_0_S56x3⟩] concatenates_S56x121_S56x3_S56x124_d1

theorem left3_eq : left3 = unshift 3 121 slices_S56x124_o0_3_S56x121 slices_S56x124_o0_0_S56x3 concatenates_S56x121_S56x3_S56x124_d1 := rfl

/-- The best so far against the scan of the lanes 3 to the right. -/
def best3 (P Q : Pr) (N M : Nr) (S T : Hn) (s : Sc × Sc) : Sc × Sc :=
  better s
    (left3 (scan (right3 P) (right3 Q) N M S T).1,
      left3 (scan (right3 P) (right3 Q) N M S T).2)

/-- The lanes 4 to the right. -/
def right4 : Pr → Pr := shift 4 120 slices_S27x56x124_o0_0_120_S27x56x4 slices_S27x56x124_o0_0_0_S27x56x120 concatenates_S27x56x4_S27x56x120_S27x56x124_d2

/-- The lanes 4 back to the left. -/
def left4 (s : Sc) : Sc :=
  concatenate S56x124 1 [⟨S56x120, extractStridedSlice S56x120 ![0, 4] s slices_S56x124_o0_4_S56x120⟩,
    ⟨S56x4, extractStridedSlice S56x4 ![0, 0] s slices_S56x124_o0_0_S56x4⟩] concatenates_S56x120_S56x4_S56x124_d1

theorem left4_eq : left4 = unshift 4 120 slices_S56x124_o0_4_S56x120 slices_S56x124_o0_0_S56x4 concatenates_S56x120_S56x4_S56x124_d1 := rfl

/-- The best so far against the scan of the lanes 4 to the right. -/
def best4 (P Q : Pr) (N M : Nr) (S T : Hn) (s : Sc × Sc) : Sc × Sc :=
  better s
    (left4 (scan (right4 P) (right4 Q) N M S T).1,
      left4 (scan (right4 P) (right4 Q) N M S T).2)

/-- The lanes 5 to the right. -/
def right5 : Pr → Pr := shift 5 119 slices_S27x56x124_o0_0_119_S27x56x5 slices_S27x56x124_o0_0_0_S27x56x119 concatenates_S27x56x5_S27x56x119_S27x56x124_d2

/-- The lanes 5 back to the left. -/
def left5 (s : Sc) : Sc :=
  concatenate S56x124 1 [⟨S56x119, extractStridedSlice S56x119 ![0, 5] s slices_S56x124_o0_5_S56x119⟩,
    ⟨S56x5, extractStridedSlice S56x5 ![0, 0] s slices_S56x124_o0_0_S56x5⟩] concatenates_S56x119_S56x5_S56x124_d1

theorem left5_eq : left5 = unshift 5 119 slices_S56x124_o0_5_S56x119 slices_S56x124_o0_0_S56x5 concatenates_S56x119_S56x5_S56x124_d1 := rfl

/-- The best so far against the scan of the lanes 5 to the right. -/
def best5 (P Q : Pr) (N M : Nr) (S T : Hn) (s : Sc × Sc) : Sc × Sc :=
  better s
    (left5 (scan (right5 P) (right5 Q) N M S T).1,
      left5 (scan (right5 P) (right5 Q) N M S T).2)

/-- The lanes 6 to the right. -/
def right6 : Pr → Pr := shift 6 118 slices_S27x56x124_o0_0_118_S27x56x6 slices_S27x56x124_o0_0_0_S27x56x118 concatenates_S27x56x6_S27x56x118_S27x56x124_d2

/-- The lanes 6 back to the left. -/
def left6 (s : Sc) : Sc :=
  concatenate S56x124 1 [⟨S56x118, extractStridedSlice S56x118 ![0, 6] s slices_S56x124_o0_6_S56x118⟩,
    ⟨S56x6, extractStridedSlice S56x6 ![0, 0] s slices_S56x124_o0_0_S56x6⟩] concatenates_S56x118_S56x6_S56x124_d1

theorem left6_eq : left6 = unshift 6 118 slices_S56x124_o0_6_S56x118 slices_S56x124_o0_0_S56x6 concatenates_S56x118_S56x6_S56x124_d1 := rfl

/-- The best so far against the scan of the lanes 6 to the right. -/
def best6 (P Q : Pr) (N M : Nr) (S T : Hn) (s : Sc × Sc) : Sc × Sc :=
  better s
    (left6 (scan (right6 P) (right6 Q) N M S T).1,
      left6 (scan (right6 P) (right6 Q) N M S T).2)

/-- The sum over the pixels of the prediction's norms and twice the raw score of the better image. -/
def total (n : FVec Ideal S56x56 .f32) (s : Sc × Sc) : FVec Ideal S1x1x1 .f32 :=
  shapeCast S1x1x1 (multiReduction .add [1, 2] S1 (shapeCast S1x56x56 (addf n (mulf (broadcast S56x56 (Scalar.ofBits .f32 0x40000000#32))
    (select (cmpf .olt (extractStridedSlice S56x56 ![0, 62] s.1 slices_S56x124_o0_62_S56x56)
        (extractStridedSlice S56x56 ![0, 0] s.1 slices_S56x124_o0_0_S56x56))
      (extractStridedSlice S56x56 ![0, 62] s.2 slices_S56x124_o0_62_S56x56)
      (extractStridedSlice S56x56 ![0, 0] s.2 slices_S56x124_o0_0_S56x56)))) shapeCasts_S56x56_S1x56x56)
    0x00000000#32 reduces_S1x56x56_S1 (.inl rfl) rfl) shapeCasts_S1_S1x1x1

section
variable (P Q : Pr) (N M E : Nr) (S T : Hn) (s : Sc × Sc)

theorem scan_fst : k0_pay46 P N S (k0_pay32 P N S) (k0_pay34 P N S) (k0_pay36 P N S) = (scan P Q N M S T).1 := by
  simp only [k0_pay26, k0_pay27, k0_pay28, k0_pay29, k0_pay30, k0_pay31, k0_pay32, k0_pay34, k0_pay36, k0_pay37,
    k0_pay38, k0_pay39, k0_pay40, k0_pay41, k0_pay42, k0_pay43, k0_pay44, k0_pay45, k0_pay46, scan, better, scores,
    score]

theorem scan_snd : k0_pay47 P Q N M S (k0_pay25 E) (k0_pay32 P N S) (k0_pay33 P Q N M S E) (k0_pay34 P N S) (k0_pay35 Q M E)
    (k0_pay36 P N S) = (scan P Q N M S (k0_pay25 E)).2 := by
  simp only [k0_pay26, k0_pay27, k0_pay28, k0_pay29, k0_pay30, k0_pay31, k0_pay32, k0_pay33, k0_pay34, k0_pay35,
    k0_pay36, k0_pay37, k0_pay38, k0_pay39, k0_pay40, k0_pay41, k0_pay42, k0_pay43, k0_pay44, k0_pay45, k0_pay47,
    scan, better, scores, score]

theorem right1_eq : k0_pay48 P = right1 P := rfl

theorem right1_eq' : k0_pay49 Q = right1 Q := rfl

theorem right2_eq : k0_pay75 P = right2 P := rfl

theorem right2_eq' : k0_pay76 Q = right2 Q := rfl

theorem right3_eq : k0_pay102 P = right3 P := rfl

theorem right3_eq' : k0_pay103 Q = right3 Q := rfl

theorem right4_eq : k0_pay130 P = right4 P := rfl

theorem right4_eq' : k0_pay131 Q = right4 Q := rfl

theorem right5_eq : k0_pay158 P = right5 P := rfl

theorem right5_eq' : k0_pay159 Q = right5 Q := rfl

theorem right6_eq : k0_pay186 P = right6 P := rfl

theorem right6_eq' : k0_pay187 Q = right6 Q := rfl

theorem best1_fst : k0_pay73 N S s.1 (right1 P) (k0_pay60 N S (right1 P) (k0_pay50 P N S)) (k0_pay62 N S (right1 P))
    = (best1 P Q N M S T s).1 := by
  simp only [right1_eq, k0_pay50, k0_pay52, k0_pay53, k0_pay54, k0_pay55, k0_pay56, k0_pay57, k0_pay58, k0_pay59,
    k0_pay60, k0_pay62, k0_pay64, k0_pay65, k0_pay66, k0_pay67, k0_pay68, k0_pay69, k0_pay70, k0_pay71, k0_pay72,
    k0_pay73, best1, left1, scan, better, scores, score]

theorem best1_snd : k0_pay74 N M S T s.1 s.2 (right1 P) (right1 Q) (k0_pay60 N S (right1 P) (k0_pay50 P N S)) (k0_pay61 N M S T (right1 P) (right1 Q) (k0_pay50 P N S) (k0_pay51 M)) (k0_pay62 N S (right1 P)) (k0_pay63 M (right1 Q))
    = (best1 P Q N M S T s).2 := by
  simp only [right1_eq, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay74, best1, left1, scan, better, scores, score]

theorem best2_fst : k0_pay100 N S s.1 (right2 P) (k0_pay87 N S (right2 P) (k0_pay77 P N S)) (k0_pay89 N S (right2 P)) (k0_pay91 N S (right2 P) (k0_pay77 P N S))
    = (best2 P Q N M S T s).1 := by
  simp only [right2_eq, k0_pay77, k0_pay79, k0_pay80, k0_pay81, k0_pay82, k0_pay83, k0_pay84, k0_pay85, k0_pay86,
    k0_pay87, k0_pay89, k0_pay91, k0_pay92, k0_pay93, k0_pay94, k0_pay95, k0_pay96, k0_pay97, k0_pay98, k0_pay99,
    k0_pay100, best2, left2, scan, better, scores, score]

theorem best2_snd : k0_pay101 N M S T s.1 s.2 (right2 P) (right2 Q) (k0_pay87 N S (right2 P) (k0_pay77 P N S)) (k0_pay88 N M S T (right2 P) (right2 Q) (k0_pay77 P N S) (k0_pay78 Q M)) (k0_pay89 N S (right2 P)) (k0_pay90 M T (right2 Q)) (k0_pay91 N S (right2 P) (k0_pay77 P N S))
    = (best2 P Q N M S T s).2 := by
  simp only [right2_eq, right2_eq', k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95,
    k0_pay96, k0_pay97, k0_pay98, k0_pay99, k0_pay101, best2, left2, scan, better, scores, score]

theorem best3_fst : k0_pay128 N S s.1 (right3 P) (k0_pay118 N S (right3 P) (k0_pay104 P N S) (k0_pay106 N)) (k0_pay120 N)
    = (best3 P Q N M S T s).1 := by
  simp only [right3_eq, k0_pay104, k0_pay106, k0_pay107, k0_pay108, k0_pay109, k0_pay110, k0_pay111, k0_pay112,
    k0_pay113, k0_pay114, k0_pay115, k0_pay116, k0_pay117, k0_pay118, k0_pay120, k0_pay121, k0_pay122, k0_pay123,
    k0_pay124, k0_pay125, k0_pay126, k0_pay127, k0_pay128, best3, left3, scan, better, scores, score]

theorem best3_snd : k0_pay129 N M S T s.1 s.2 (right3 P) (right3 Q) (k0_pay118 N S (right3 P) (k0_pay104 P N S) (k0_pay106 N)) (k0_pay119 N M S T (right3 P) (right3 Q) (k0_pay104 P N S) (k0_pay105 Q M T) (k0_pay106 N)) (k0_pay120 N)
    = (best3 P Q N M S T s).2 := by
  simp only [right3_eq, right3_eq', k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay129, best3, left3, scan,
    better, scores, score]

theorem best4_fst : k0_pay156 N S s.1 (right4 P) (k0_pay146 N S (right4 P) (k0_pay132 P N S) (k0_pay134 P N)) (k0_pay148 N (right4 P))
    = (best4 P Q N M S T s).1 := by
  simp only [right4_eq, k0_pay132, k0_pay134, k0_pay135, k0_pay136, k0_pay137, k0_pay138, k0_pay139, k0_pay140,
    k0_pay141, k0_pay142, k0_pay143, k0_pay144, k0_pay145, k0_pay146, k0_pay148, k0_pay149, k0_pay150, k0_pay151,
    k0_pay152, k0_pay153, k0_pay154, k0_pay155, k0_pay156, best4, left4, scan, better, scores, score]

theorem best4_snd : k0_pay157 N M S T s.1 s.2 (right4 P) (right4 Q) (k0_pay146 N S (right4 P) (k0_pay132 P N S) (k0_pay134 P N)) (k0_pay147 N M S T (right4 P) (right4 Q) (k0_pay132 P N S) (k0_pay133 Q M T) (k0_pay134 P N)) (k0_pay148 N (right4 P))
    = (best4 P Q N M S T s).2 := by
  simp only [right4_eq, right4_eq', k0_pay132, k0_pay133, k0_pay134, k0_pay135, k0_pay136, k0_pay137, k0_pay138,
    k0_pay139, k0_pay140, k0_pay141, k0_pay142, k0_pay143, k0_pay144, k0_pay145, k0_pay146, k0_pay147, k0_pay148,
    k0_pay149, k0_pay150, k0_pay151, k0_pay152, k0_pay153, k0_pay154, k0_pay155, k0_pay157, best4, left4, scan,
    better, scores, score]

theorem best5_fst : k0_pay184 N S s.1 (right5 P) (k0_pay174 N S (right5 P) (k0_pay160 P N S) (k0_pay162 P N S)) (k0_pay176 N S (right5 P))
    = (best5 P Q N M S T s).1 := by
  simp only [right5_eq, k0_pay160, k0_pay162, k0_pay164, k0_pay165, k0_pay166, k0_pay167, k0_pay168, k0_pay169,
    k0_pay170, k0_pay171, k0_pay172, k0_pay173, k0_pay174, k0_pay176, k0_pay178, k0_pay179, k0_pay180, k0_pay181,
    k0_pay182, k0_pay183, k0_pay184, best5, left5, scan, better, scores, score]

theorem best5_snd : k0_pay185 N M S T s.1 s.2 (right5 P) (right5 Q) (k0_pay174 N S (right5 P) (k0_pay160 P N S) (k0_pay162 P N S)) (k0_pay175 N M S T (right5 P) (right5 Q) (k0_pay160 P N S) (k0_pay161 Q M T) (k0_pay162 P N S) (k0_pay163 M)) (k0_pay176 N S (right5 P)) (k0_pay177 M)
    = (best5 P Q N M S T s).2 := by
  simp only [right5_eq, right5_eq', k0_pay160, k0_pay161, k0_pay162, k0_pay163, k0_pay164, k0_pay165, k0_pay166,
    k0_pay167, k0_pay168, k0_pay169, k0_pay170, k0_pay171, k0_pay172, k0_pay173, k0_pay174, k0_pay175, k0_pay176,
    k0_pay177, k0_pay178, k0_pay179, k0_pay180, k0_pay181, k0_pay182, k0_pay183, k0_pay185, best5, left5, scan,
    better, scores, score]

theorem best6_total (n : FVec Ideal S56x56 .f32) :
    k0_pay206 N M n S T s.1 s.2 (right6 P) (right6 Q) (k0_pay202 N S (right6 P) (k0_pay188 P N S) (k0_pay190 P N S))
      (k0_pay203 N M S T (right6 P) (right6 Q) (k0_pay188 P N S) (k0_pay189 Q M T) (k0_pay190 P N S) (k0_pay191 Q M))
      (k0_pay204 N S (right6 P)) (k0_pay205 M (right6 Q)) = total n (best6 P Q N M S T s) := by
  simp only [right6_eq, right6_eq', k0_pay188, k0_pay189, k0_pay190, k0_pay191, k0_pay192, k0_pay193, k0_pay194,
    k0_pay195, k0_pay196, k0_pay197, k0_pay198, k0_pay199, k0_pay200, k0_pay201, k0_pay202, k0_pay203, k0_pay204,
    k0_pay205, k0_pay206, best6, left6, scan, better, scores, score, total]
end

end Cert.Match.Ker

end
-- ==== Proof.KerOut.lean ====
/-
  The array the printed body leaves: the total of the search over the patches it has built.
-/
module

public import proofs.«01_k».proof.Proof.KerOps

@[expose] public section

set_option maxRecDepth 16384

noncomputable section

open Idealize.ShloMosaic Idealize.ShloMosaic.TcCoe Idealize.SL.Sem

namespace Cert.Match.Ker
open Cert.KernelIdeal Cert.KernelIdeal.Gen

/-- The whole search: the scans of the seven lane steps, the best kept. -/
def search (P Q : Pr) (N M : Nr) (S T : Hn) : Sc × Sc :=
  best6 P Q N M S T (best5 P Q N M S T (best4 P Q N M S T (best3 P Q N M S T (best2 P Q N M S T
    (best1 P Q N M S T (scan P Q N M S T))))))

/-- What the body stores: the total, in every element of the block. -/
theorem out_eq (x0 : Vec Ideal S1x3x224x224 .f32) (x1 : Vec Ideal S1x2x3x224x224 .f32) (x2 : Vec Ideal S56x224 .f32) (x3 : Vec Ideal S168x56 .f32)
    (x4 : Vec Ideal S3x124x112 .f32) (x5 : Vec Ideal S186x56 .f32) (x6 : Vec Ideal S3x124x112 .f32) :
    out0_7 x0 x1 x2 x3 x4 x5 x6 = View.canon [⟨r0_9, k0_pay1 (total (k0_pay22 (k0_pay214 x0 x1 x2 x3 x4 x5 x6))
      (search (k0_pay213 x0 x1 x2 x3 x4 x5 x6) (k0_pay214 x0 x1 x2 x3 x4 x5 x6)
        (k0_pay218 x0 x1 x2 x3 x4 x5 x6) (k0_pay219 x0 x1 x2 x3 x4 x5 x6)
        (k0_pay220 x0 x1 x2 x3 x4 x5 x6) (k0_pay25 (k0_pay221 x0 x1 x2 x3 x4 x5 x6))))⟩] := by
  unfold out0_7 search
  simp only [k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239,
    k0_pay240, k0_pay241, k0_pay242, k0_pay243, k0_pay244, k0_pay245, k0_pay246, k0_pay247, k0_pay248,
    k0_pay249, k0_pay250, k0_pay251, k0_pay252, k0_pay253, k0_pay254, k0_pay255, k0_pay256, k0_pay257,
    k0_pay258, k0_pay259, k0_pay260, k0_pay261, k0_pay262, k0_pay263, right1_eq, right1_eq', right2_eq,
    right2_eq', right3_eq, right3_eq', right4_eq, right4_eq', right5_eq, right5_eq', right6_eq, right6_eq']
  generalize k0_pay213 x0 x1 x2 x3 x4 x5 x6 = P
  generalize k0_pay214 x0 x1 x2 x3 x4 x5 x6 = Q
  generalize k0_pay218 x0 x1 x2 x3 x4 x5 x6 = N
  generalize k0_pay219 x0 x1 x2 x3 x4 x5 x6 = M
  generalize k0_pay220 x0 x1 x2 x3 x4 x5 x6 = S
  generalize k0_pay221 x0 x1 x2 x3 x4 x5 x6 = E
  rw [scan_fst P Q N M S (k0_pay25 E), scan_snd P Q N M E S]
  rw [best1_fst P Q N M S (k0_pay25 E) (scan P Q N M S (k0_pay25 E)), best1_snd P Q N M S (k0_pay25 E) (scan P Q N M S (k0_pay25 E))]
  rw [best2_fst P Q N M S (k0_pay25 E) (best1 P Q N M S (k0_pay25 E) (scan P Q N M S (k0_pay25 E))), best2_snd P Q N M S (k0_pay25 E) (best1 P Q N M S (k0_pay25 E) (scan P Q N M S (k0_pay25 E)))]
  rw [best3_fst P Q N M S (k0_pay25 E) (best2 P Q N M S (k0_pay25 E) (best1 P Q N M S (k0_pay25 E) (scan P Q N M S (k0_pay25 E)))), best3_snd P Q N M S (k0_pay25 E) (best2 P Q N M S (k0_pay25 E) (best1 P Q N M S (k0_pay25 E) (scan P Q N M S (k0_pay25 E))))]
  rw [best4_fst P Q N M S (k0_pay25 E) (best3 P Q N M S (k0_pay25 E) (best2 P Q N M S (k0_pay25 E) (best1 P Q N M S (k0_pay25 E) (scan P Q N M S (k0_pay25 E))))), best4_snd P Q N M S (k0_pay25 E) (best3 P Q N M S (k0_pay25 E) (best2 P Q N M S (k0_pay25 E) (best1 P Q N M S (k0_pay25 E) (scan P Q N M S (k0_pay25 E)))))]
  rw [best5_fst P Q N M S (k0_pay25 E) (best4 P Q N M S (k0_pay25 E) (best3 P Q N M S (k0_pay25 E) (best2 P Q N M S (k0_pay25 E) (best1 P Q N M S (k0_pay25 E) (scan P Q N M S (k0_pay25 E)))))), best5_snd P Q N M S (k0_pay25 E) (best4 P Q N M S (k0_pay25 E) (best3 P Q N M S (k0_pay25 E) (best2 P Q N M S (k0_pay25 E) (best1 P Q N M S (k0_pay25 E) (scan P Q N M S (k0_pay25 E))))))]
  rw [best6_total P Q N M S (k0_pay25 E) (best5 P Q N M S (k0_pay25 E) (best4 P Q N M S (k0_pay25 E) (best3 P Q N M S (k0_pay25 E) (best2 P Q N M S (k0_pay25 E) (best1 P Q N M S (k0_pay25 E) (scan P Q N M S (k0_pay25 E)))))))]

end Cert.Match.Ker

end
-- ==== Proof.KerSearch.lean ====
/-
  The kernel's search read at a pixel: it keeps the scores of a lane step and a row step whose census score is least.
-/
module

public import proofs.«01_k».proof.Proof.KerOut

@[expose] public section

set_option maxRecDepth 16384

noncomputable section

open Idealize.ShloMosaic Idealize.ShloMosaic.TcCoe Idealize.SL.Sem

namespace Cert.Match

/-- `d` and `r` are the two scores of a candidate among `A` whose first score is least there. -/
def Best {ι : Type} (D R : ι → EReal) (A : Set ι) (d r : EReal) : Prop :=
  (∃ k ∈ A, d = D k ∧ r = R k) ∧ ∀ k ∈ A, d ≤ D k

theorem Best.single {ι : Type} {D R : ι → EReal} {k : ι} {d r : EReal} (hd : d = D k) (hr : r = R k) : Best D R {k} d r :=
  ⟨⟨k, rfl, hd, hr⟩, fun _ h => by rw [Set.mem_singleton_iff.mp h, hd]⟩

theorem Best.map {ι κ : Type} {D R : ι → EReal} {D' R' : κ → EReal} {A : Set κ} {d r : EReal} (f : κ → ι)
    (hD : ∀ k, D (f k) = D' k) (hR : ∀ k, R (f k) = R' k) (h : Best D' R' A d r) : Best D R (f '' A) d r := by
  obtain ⟨⟨k, hk, hd, hr⟩, hle⟩ := h
  refine ⟨⟨f k, ⟨k, hk, rfl⟩, by rw [hd, hD], by rw [hr, hR]⟩, ?_⟩
  rintro _ ⟨k', hk', rfl⟩
  rw [hD]
  exact hle k' hk'

theorem Best.congr {ι : Type} {D R : ι → EReal} {A B : Set ι} {d r : EReal} (h : Best D R A d r) (hAB : A = B) : Best D R B d r :=
  hAB ▸ h

namespace Ker
open Cert.KernelIdeal Cert.KernelIdeal.Gen

theorem better_fst (s t : Sc × Sc) (i : S56x124.Idx) : (better s t).1 i = if t.1 i < s.1 i then t.1 i else s.1 i := by
  unfold better
  pointwise

theorem better_snd (s t : Sc × Sc) (i : S56x124.Idx) : (better s t).2 i = if t.1 i < s.1 i then t.2 i else s.2 i := by
  unfold better
  pointwise

/-- The better of two bests is the best of both. -/
theorem better_best {ι : Type} {D R : ι → EReal} {A B : Set ι} (s t : Sc × Sc) (i : S56x124.Idx)
    (hs : Best D R A (s.1 i) (s.2 i)) (ht : Best D R B (t.1 i) (t.2 i)) :
    Best D R (A ∪ B) ((better s t).1 i) ((better s t).2 i) := by
  obtain ⟨⟨k, hk, hd, hr⟩, hle⟩ := hs
  obtain ⟨⟨k', hk', hd', hr'⟩, hle'⟩ := ht
  rw [better_fst, better_snd]
  split_ifs with h
  · exact ⟨⟨k', .inr hk', hd', hr'⟩, fun q hq => hq.elim (fun hq => h.le.trans (hle q hq)) (hle' q)⟩
  · exact ⟨⟨k, .inl hk, hd, hr⟩, fun q hq => hq.elim (hle q) (fun hq => (not_lt.mp h).trans (hle' q hq))⟩

/-- The score of row step `a` at a pixel. -/
def sc (P : Pr) (N : Nr) (S : Hn) (y : Fin 56) (l : Fin 124) (a : Fin 7) : EReal :=
  S (ix2 ⟨a.val + y.val, by omega⟩ l) - ∑ c : Fin 27, P (ix3 c y l) * N (ix3 c ⟨a.val + y.val, by omega⟩ l)

theorem score_apply (a : Fin 7) (hN : S27x62x124.Slices ![0, a.val, 0] S27x56x124) (hS : S62x124.Slices ![a.val, 0] S56x124)
    (P : Pr) (N : Nr) (S : Hn) (y : Fin 56) (l : Fin 124) : score a.val hN hS P N S (ix2 y l) = sc P N S y l a := by
  unfold score sc
  pointwise

theorem scores_best (P Q : Pr) (N M : Nr) (S T : Hn) (y : Fin 56) (l : Fin 124) (a : Fin 7) (hN : S27x62x124.Slices ![0, a.val, 0] S27x56x124)
    (hS : S62x124.Slices ![a.val, 0] S56x124) : Best (sc P N S y l) (sc Q M T y l) {a} ((scores a.val hN hS P Q N M S T).1 (ix2 y l))
      ((scores a.val hN hS P Q N M S T).2 (ix2 y l)) :=
  .single (score_apply a hN hS P N S y l) (score_apply a hN hS Q M T y l)

/-- The scan keeps the best of the seven row steps. -/
theorem scan_best (P Q : Pr) (N M : Nr) (S T : Hn) (y : Fin 56) (l : Fin 124) :
    Best (sc P N S y l) (sc Q M T y l) Set.univ ((scan P Q N M S T).1 (ix2 y l)) ((scan P Q N M S T).2 (ix2 y l)) := by
  refine Best.congr (better_best _ _ _ (better_best _ _ _ (better_best _ _ _ (better_best _ _ _ (better_best _ _ _
    (better_best _ _ _ (scores_best P Q N M S T y l 0 _ _) (scores_best P Q N M S T y l 1 _ _))
    (scores_best P Q N M S T y l 2 _ _)) (scores_best P Q N M S T y l 3 _ _)) (scores_best P Q N M S T y l 4 _ _))
    (scores_best P Q N M S T y l 5 _ _)) (scores_best P Q N M S T y l 6 _ _)) ?_
  ext k
  simp only [Set.mem_union, Set.mem_singleton_iff, Set.mem_univ, iff_true]
  omega

theorem shift_apply (k w : ℕ) (hk : k + w = 124) (h1 : S27x56x124.Slices ![0, 0, w] ⟨3, ![27, 56, k]⟩)
    (h2 : S27x56x124.Slices ![0, 0, 0] ⟨3, ![27, 56, w]⟩)
    (h3 : Shape.Concatenates [⟨3, ![27, 56, k]⟩, ⟨3, ![27, 56, w]⟩] S27x56x124 2) (P : Pr) (c : Fin 27) (y : Fin 56) (l : ℕ)
    (hl : k + l < 124) : shift k w h1 h2 h3 P (ix3 c y ⟨k + l, hl⟩) = P (ix3 c y ⟨l, by omega⟩) := by
  unfold shift
  pointwise
  rfl

theorem unshift_apply (k w : ℕ) (hk : k + w = 124) (h1 : S56x124.Slices ![0, k] ⟨2, ![56, w]⟩) (h2 : S56x124.Slices ![0, 0] ⟨2, ![56, k]⟩)
    (h3 : Shape.Concatenates [⟨2, ![56, w]⟩, ⟨2, ![56, k]⟩] S56x124 1) (s : Sc) (y : Fin 56) (l : ℕ)
    (hl : k + l < 124) : unshift k w h1 h2 h3 s (ix2 y ⟨l, by omega⟩) = s (ix2 y ⟨k + l, hl⟩) := by
  unfold unshift
  pointwise
  rw [dif_pos (by omega)]
  rfl

/-- The score of row step `q.2` and lane step `q.1` at a pixel. -/
def full (P : Pr) (N : Nr) (S : Hn) (y : Fin 56) (l : ℕ) (hl : l < 118) (q : Fin 7 × Fin 7) : EReal :=
  S (ix2 ⟨q.2.val + y.val, by omega⟩ ⟨q.1.val + l, by omega⟩)
    - ∑ c : Fin 27, P (ix3 c y ⟨l, by omega⟩) * N (ix3 c ⟨q.2.val + y.val, by omega⟩ ⟨q.1.val + l, by omega⟩)

/-- One more lane step keeps the best. -/
theorem step_best (k : Fin 7) (w : ℕ) (hk : k.val + w = 124) (h1 : S27x56x124.Slices ![0, 0, w] ⟨3, ![27, 56, k.val]⟩)
    (h2 : S27x56x124.Slices ![0, 0, 0] ⟨3, ![27, 56, w]⟩)
    (h3 : Shape.Concatenates [⟨3, ![27, 56, k.val]⟩, ⟨3, ![27, 56, w]⟩] S27x56x124 2)
    (h4 : S56x124.Slices ![0, k.val] ⟨2, ![56, w]⟩) (h5 : S56x124.Slices ![0, 0] ⟨2, ![56, k.val]⟩)
    (h6 : Shape.Concatenates [⟨2, ![56, w]⟩, ⟨2, ![56, k.val]⟩] S56x124 1) (P Q : Pr) (N M : Nr) (S T : Hn) (s : Sc × Sc)
    (y : Fin 56) (l : ℕ) (hl : l < 118) (A : Set (Fin 7 × Fin 7))
    (hs : Best (full P N S y l hl) (full Q M T y l hl) A (s.1 (ix2 y ⟨l, by omega⟩)) (s.2 (ix2 y ⟨l, by omega⟩))) :
    Best (full P N S y l hl) (full Q M T y l hl) (A ∪ (fun a => (k, a)) '' Set.univ)
      ((better s (unshift k.val w h4 h5 h6 (scan (shift k.val w h1 h2 h3 P) (shift k.val w h1 h2 h3 Q) N M S T).1,
        unshift k.val w h4 h5 h6 (scan (shift k.val w h1 h2 h3 P) (shift k.val w h1 h2 h3 Q) N M S T).2)).1 (ix2 y ⟨l, by omega⟩))
      ((better s (unshift k.val w h4 h5 h6 (scan (shift k.val w h1 h2 h3 P) (shift k.val w h1 h2 h3 Q) N M S T).1,
        unshift k.val w h4 h5 h6 (scan (shift k.val w h1 h2 h3 P) (shift k.val w h1 h2 h3 Q) N M S T).2)).2 (ix2 y ⟨l, by omega⟩)) := by
  refine better_best _ _ _ hs ?_
  have hl' : k.val + l < 124 := by omega
  dsimp only
  rw [unshift_apply k.val w hk h4 h5 h6 _ y l hl', unshift_apply k.val w hk h4 h5 h6 _ y l hl']
  refine Best.map _ (fun a => ?_) (fun a => ?_) (scan_best _ _ N M S T y ⟨k.val + l, hl'⟩)
  · simp only [full, sc, shift_apply k.val w hk h1 h2 h3 _ _ y l hl']
  · simp only [full, sc, shift_apply k.val w hk h1 h2 h3 _ _ y l hl']

/-- The search keeps the best of all the row and lane steps. -/
theorem search_best (P Q : Pr) (N M : Nr) (S T : Hn) (y : Fin 56) (l : ℕ) (hl : l < 118) :
    Best (full P N S y l hl) (full Q M T y l hl) Set.univ ((search P Q N M S T).1 (ix2 y ⟨l, by omega⟩))
      ((search P Q N M S T).2 (ix2 y ⟨l, by omega⟩)) := by
  have h0 : Best (full P N S y l hl) (full Q M T y l hl) ((fun a => ((0 : Fin 7), a)) '' Set.univ)
      ((scan P Q N M S T).1 (ix2 y ⟨l, by omega⟩)) ((scan P Q N M S T).2 (ix2 y ⟨l, by omega⟩)) := by
    refine Best.map _ (fun a => ?_) (fun a => ?_) (scan_best P Q N M S T y ⟨l, by omega⟩)
    · simp only [full, sc, Fin.val_zero, Nat.zero_add]
    · simp only [full, sc, Fin.val_zero, Nat.zero_add]
  have h1 := step_best 1 123 rfl slices_S27x56x124_o0_0_123_S27x56x1 slices_S27x56x124_o0_0_0_S27x56x123
    concatenates_S27x56x1_S27x56x123_S27x56x124_d2 slices_S56x124_o0_1_S56x123 slices_S56x124_o0_0_S56x1
    concatenates_S56x123_S56x1_S56x124_d1 P Q N M S T _ y l hl _ h0
  have h2 := step_best 2 122 rfl slices_S27x56x124_o0_0_122_S27x56x2 slices_S27x56x124_o0_0_0_S27x56x122
    concatenates_S27x56x2_S27x56x122_S27x56x124_d2 slices_S56x124_o0_2_S56x122 slices_S56x124_o0_0_S56x2
    concatenates_S56x122_S56x2_S56x124_d1 P Q N M S T _ y l hl _ h1
  have h3 := step_best 3 121 rfl slices_S27x56x124_o0_0_121_S27x56x3 slices_S27x56x124_o0_0_0_S27x56x121
    concatenates_S27x56x3_S27x56x121_S27x56x124_d2 slices_S56x124_o0_3_S56x121 slices_S56x124_o0_0_S56x3
    concatenates_S56x121_S56x3_S56x124_d1 P Q N M S T _ y l hl _ h2
  have h4 := step_best 4 120 rfl slices_S27x56x124_o0_0_120_S27x56x4 slices_S27x56x124_o0_0_0_S27x56x120
    concatenates_S27x56x4_S27x56x120_S27x56x124_d2 slices_S56x124_o0_4_S56x120 slices_S56x124_o0_0_S56x4
    concatenates_S56x120_S56x4_S56x124_d1 P Q N M S T _ y l hl _ h3
  have h5 := step_best 5 119 rfl slices_S27x56x124_o0_0_119_S27x56x5 slices_S27x56x124_o0_0_0_S27x56x119
    concatenates_S27x56x5_S27x56x119_S27x56x124_d2 slices_S56x124_o0_5_S56x119 slices_S56x124_o0_0_S56x5
    concatenates_S56x119_S56x5_S56x124_d1 P Q N M S T _ y l hl _ h4
  have h6 := step_best 6 118 rfl slices_S27x56x124_o0_0_118_S27x56x6 slices_S27x56x124_o0_0_0_S27x56x118
    concatenates_S27x56x6_S27x56x118_S27x56x124_d2 slices_S56x124_o0_6_S56x118 slices_S56x124_o0_0_S56x6
    concatenates_S56x118_S56x6_S56x124_d1 P Q N M S T _ y l hl _ h5
  refine Best.congr h6 ?_
  ext ⟨b, a⟩
  simp only [Set.mem_union, Set.mem_image, Set.mem_univ, true_and, Prod.mk.injEq, exists_eq_right_right', iff_true]
  simp only [exists_and_left, exists_eq, and_true]
  omega

end Ker
end Cert.Match
end
-- ==== Proof.Spec.lean ====
/-
  The problem's mathematics, pixel by pixel, over the extended reals: mirrored places, the soft census transform, the
  down-sampling, the 3 x 3 patch of a pixel and the candidates it is compared with.
-/
module

public import Idealize.ShloMosaic.Lib.Pointwise

@[expose] public section

noncomputable section

open Idealize.ShloMosaic

namespace Cert.Match

/-- Place `i` of a side of `n` padded by `p`, the padding mirrored, as a place of the side. -/
def mir (n p i : ℕ) : ℕ := if i < p then p - i else if i < n + p then i - p else 2 * n - 2 + p - i

theorem mir_lt {n p i : ℕ} (hp : p < n) (hi : i < n + 2 * p) : mir n p i < n := by
  unfold mir; split_ifs <;> omega

/-- What step `k` of a window as wide as `2 p + 1` sees at place `y` of a side of `n`. -/
def see (n p : ℕ) [NeZero n] (k y : ℕ) : Fin n := Fin.ofNat n (mir n p (y + k))

theorem see_val {n p k y : ℕ} [NeZero n] (hp : p < n) (hk : k ≤ 2 * p) (hy : y < n) : (see n p k y).val = mir n p (y + k) := by
  simp only [see, Fin.val_ofNat]
  exact Nat.mod_eq_of_lt (mir_lt hp (by omega))

/-- The soft census transform of a plane. -/
def cen (x : Fin 224 → Fin 224 → EReal) (y z : Fin 224) : EReal :=
  (∑ k : Fin 9, Ideal.tanh (x (see 224 1 (k.val / 3) y) (see 224 1 (k.val % 3) z) - x y z)) * ((1 / 9 : ℝ) : EReal)

/-- A plane down-sampled by the weights. -/
def dn (w : Fin 56 → Fin 224 → EReal) (x : Fin 224 → Fin 224 → EReal) (y z : Fin 56) : EReal :=
  ∑ l : Fin 224, w z l * ∑ k : Fin 224, w y k * x k l

/-- Element `(i, j)` of the 3 x 3 patch of a small plane at a pixel. -/
def patch (x : Fin 56 → Fin 56 → EReal) (i j : ℕ) (y z : Fin 56) : EReal := x (see 56 1 i y) (see 56 1 j z)

/-- Channel `c` of the patches of nine small planes, nine channels a plane. -/
def pat (f : Fin 9 → Fin 56 → Fin 56 → EReal) (c : Fin 81) (y z : Fin 56) : EReal :=
  patch (f ⟨c.val / 9, by omega⟩) (c.val / 3 % 3) (c.val % 3) y z

/-- Channel `c` of candidate `k` of a pixel: one of the 49 near places in image `k / 49`. -/
def cand (f : Fin 9 → Fin 56 → Fin 56 → EReal) (k : Fin 98) (c : Fin 27) (y z : Fin 56) : EReal :=
  pat f ⟨27 + 27 * (k.val / 49) + c.val, by omega⟩ (see 56 3 (k.val % 49 / 7) y) (see 56 3 (k.val % 7) z)

/-- The squared distance from a pixel's patch to candidate `k`. -/
def dist (f : Fin 9 → Fin 56 → Fin 56 → EReal) (k : Fin 98) (y z : Fin 56) : EReal :=
  ∑ c : Fin 27, (pat f ⟨c.val, by omega⟩ y z - cand f k c y z) * (pat f ⟨c.val, by omega⟩ y z - cand f k c y z)

end Cert.Match

end
-- ==== Proof.KerRead.lean ====
/-
  The kernel's arrays read at an element: the padded planes, the census transform, the down-sampled planes, and the patches
  that the selection matrices pick.
-/
module

public import proofs.«01_k».proof.Proof.KerSearch
public import proofs.«01_k».proof.Proof.Spec

@[expose] public section

set_option maxRecDepth 16384

noncomputable section

open Idealize.ShloMosaic Idealize.ShloMosaic.TcCoe Idealize.SL.Sem

namespace Cert.Match.Ker
open Cert.KernelIdeal Cert.KernelIdeal.Gen

section planes
variable (v1 : Vec Ideal S1x3x224x224 .f32) (v3 v5 : Vec Ideal S1x1x3x224x224 .f32)

/-- Element of the nine planes: the prediction's, the first image's, the second image's. -/
theorem nine_apply (c : Fin 9) (y z : Fin 224) : k0_pay2 (F := Ideal) v1 v3 v5 (ix3 c y z) =
    if h : c.val < 3 then v1 (ix4 0 ⟨c.val, h⟩ y z)
    else if h' : c.val - 3 < 3 then v3 (ix5 0 0 ⟨c.val - 3, h'⟩ y z) else v5 (ix5 0 0 ⟨c.val - 3 - 3, by omega⟩ y z) := by
  unfold k0_pay2
  pointwise

/-- The padded planes hold the mirrored places. -/
theorem padded_apply (c : Fin 9) (i j : Fin 3) (y z : Fin 224) :
    k0_pay3 (F := Ideal) v1 v3 v5 (ix3 c ⟨i.val + y.val, by omega⟩ ⟨j.val + z.val, by omega⟩)
      = k0_pay2 (F := Ideal) v1 v3 v5 (ix3 c (see 224 1 i y) (see 224 1 j z)) := by
  have hy : (see 224 1 i y).val = mir 224 1 (y.val + i.val) := see_val (by omega) (by omega) y.isLt
  have hz : (see 224 1 j z).val = mir 224 1 (z.val + j.val) := see_val (by omega) (by omega) z.isLt
  unfold k0_pay3
  generalize k0_pay2 (F := Ideal) v1 v3 v5 = x
  pointwise
  unfold mir at hy hz
  split_ifs <;> first
    | omega
    | (refine congrArg x ?_
       congr 1 <;> refine Fin.ext ?_ <;> simp only <;> split_ifs at hy hz <;> omega)

theorem ninth : (Named.named (F := Ideal) Cert.KernelIdeal.κ "ninth" (φ := .f32) 0x3DE38E39#32 : EReal) = ((1 / 9 : ℝ) : EReal) :=
  IdealRules.named_const.ideal_named_scalar _ _ _ _ rfl

/-- A sum over nine places row by row. -/
theorem sum_nine (f : Fin 3 → Fin 3 → EReal) : ∑ k : Fin 9, f ⟨k.val / 3, by omega⟩ ⟨k.val % 3, by omega⟩
    = f 0 0 + f 0 1 + f 0 2 + f 1 0 + f 1 1 + f 1 2 + f 2 0 + f 2 1 + f 2 2 := by
  rw [Fin.sum_univ_castSucc, Fin.sum_univ_eight]
  rfl

/-- The nine hyperbolic tangents of a pixel summed and divided by nine. -/
def tanhs (x : FVec Ideal S9x224x224 .f32) (p : FVec Ideal S9x226x226 .f32) (s t : FVec Ideal S9x224x224 .f32) : FVec Ideal S9x224x224 .f32 :=
  mulf (addf (addf (addf s t) (tanh (subf (extractStridedSlice S9x224x224 ![0, 2, 1] p slices_S9x226x226_o0_2_1_S9x224x224) x)))
    (tanh (subf (extractStridedSlice S9x224x224 ![0, 2, 2] p slices_S9x226x226_o0_2_2_S9x224x224) x)))
    (broadcast S9x224x224 (Named.named (F := Ideal) Cert.KernelIdeal.κ "ninth" (φ := .f32) 0x3DE38E39#32))

theorem pay6_eq (w : Vec Ideal S56x224 .f32) (x : FVec Ideal S9x224x224 .f32) (p : FVec Ideal S9x226x226 .f32) (s t : FVec Ideal S9x224x224 .f32) :
    k0_pay6 (F := Ideal) w x p s t = k0_pay7 (F := Ideal) w (tanhs x p s t) := by
  simp only [k0_pay6, k0_pay7, tanhs]

theorem tanhs_apply (c : Fin 9) (y z : Fin 224) :
    tanhs (k0_pay2 (F := Ideal) v1 v3 v5) (k0_pay3 (F := Ideal) v1 v3 v5) (k0_pay4 (F := Ideal) v1 v3 v5) (k0_pay5 (F := Ideal) v1 v3 v5) (ix3 c y z)
      = cen (fun y z => k0_pay2 (F := Ideal) v1 v3 v5 (ix3 c y z)) y z := by
  unfold tanhs k0_pay4 k0_pay5
  have h := padded_apply v1 v3 v5 c
  generalize k0_pay3 (F := Ideal) v1 v3 v5 = p at *
  generalize k0_pay2 (F := Ideal) v1 v3 v5 = x at *
  pointwise
  refine congrArg₂ (· * ·) ?_ ninth
  have e : ∀ i j : Fin 3, Ideal.tanh (x (ix3 c (see 224 1 i y) (see 224 1 j z)) - x (ix3 c y z))
      = Ideal.tanh (p (ix3 c ⟨i.val + y.val, by omega⟩ ⟨j.val + z.val, by omega⟩) - x (ix3 c y z)) := fun i j => by rw [h i j y z]
  refine Eq.trans ?_ (sum_nine fun i j => Ideal.tanh (x (ix3 c (see 224 1 i y) (see 224 1 j z)) - x (ix3 c y z))).symm
  have e00 := e 0 0
  have e01 := e 0 1
  have e02 := e 0 2
  have e10 := e 1 0
  have e11 := e 1 1
  have e12 := e 1 2
  have e20 := e 2 0
  have e21 := e 2 1
  have e22 := e 2 2
  simp only [Fin.val_zero, Fin.val_one, Fin.val_two, Nat.zero_add] at e00 e01 e02 e10 e11 e12 e20 e21 e22 ⊢
  rw [e00, e01, e02, e10, e11, e12, e20, e21, e22]
end planes

/-- The down-sampled planes. -/
theorem small_apply (w : Vec Ideal S56x224 .f32) (x : FVec Ideal S9x224x224 .f32) (c : Fin 9) (y z : Fin 56) :
    k0_pay7 (F := Ideal) w x (ix3 c y z) = dn (fun y k => w (ix2 y k)) (fun y z => x (ix3 c y z)) y z := by
  unfold k0_pay7 dn
  pointwise
  refine Finset.sum_congr rfl fun l _ => ?_
  rw [mul_comm]
  exact congrArg _ (Finset.sum_congr rfl fun k _ => mul_comm _ _)

/-- A sum of products with a one at place `m` and zeros elsewhere. -/
theorem sum_pick {n : ℕ} (f : Fin n → EReal) (m : ℕ) (hm : m < n) : ∑ s : Fin n, f s * (if s.val = m then 1 else 0) = f ⟨m, hm⟩ := by
  rw [Finset.sum_eq_single ⟨m, hm⟩ (fun s _ hs => by rw [if_neg (fun h => hs (Fin.ext h)), mul_zero]) (fun h => absurd (Finset.mem_univ _) h)]
  rw [if_pos rfl, mul_one]

section patches
variable (x : FVec Ideal S3x56x112 .f32) (K : Fin 3 → Vec Ideal S1x124x112 .f32)

theorem patch_apply (R : Vec Ideal S168x56 .f32)
    (hR : ∀ (i : Fin 3) (y h : Fin 56), R (ix2 ⟨i.val * 56 + y.val, by omega⟩ h) = if h.val = mir 56 1 (y.val + i.val) then 1 else 0)
    (hK : ∀ (j : Fin 3) (g : Fin 2) (z : Fin 56) (s : Fin 112),
      K j (ix3 0 ⟨62 * g.val + z.val, by omega⟩ s) = if s.val = 56 * g.val + mir 56 1 (z.val + j.val) then 1 else 0)
    (j c i : Fin 3) (g : Fin 2) (y z : Fin 56) :
    k0_pay16 (F := Ideal) x R (K 0) (K 1) (K 2) (ix3 ⟨(j.val * 3 + c.val) * 3 + i.val, by omega⟩ y ⟨62 * g.val + z.val, by omega⟩)
      = x (ix3 c (see 56 1 i y) ⟨56 * g.val + (see 56 1 j z).val, by omega⟩) := by
  have hj : (see 56 1 j z).val = mir 56 1 (z.val + j.val) := see_val (by omega) (by omega) z.isLt
  have hy : (see 56 1 i y).val = mir 56 1 (y.val + i.val) := see_val (by omega) (by omega) y.isLt
  have h : k0_pay16 (F := Ideal) x R (K 0) (K 1) (K 2) (ix3 ⟨(j.val * 3 + c.val) * 3 + i.val, by omega⟩ y ⟨62 * g.val + z.val, by omega⟩)
      = ∑ s : Fin 112, (∑ h : Fin 56, x (ix3 c h s) * R (ix2 ⟨i.val * 56 + y.val, by omega⟩ h)) * K j (ix3 0 ⟨62 * g.val + z.val, by omega⟩ s) := by
    unfold k0_pay16
    pointwise
    fin_cases j <;> rfl
  rw [h]
  simp only [hR, hK, ← hj, ← hy]
  rw [sum_pick _ (56 * g.val + (see 56 1 j z).val) (by omega), sum_pick _ _ (see 56 1 i y).isLt]

theorem near_apply (R : Vec Ideal S186x56 .f32)
    (hR : ∀ (i : Fin 3) (y : Fin 62) (h : Fin 56),
      R (ix2 ⟨i.val * 62 + y.val, by omega⟩ h) = if h.val = mir 56 1 (mir 56 3 y.val + i.val) then 1 else 0)
    (hK : ∀ (j : Fin 3) (g : Fin 2) (z : Fin 62) (s : Fin 112),
      K j (ix3 0 ⟨62 * g.val + z.val, by omega⟩ s) = if s.val = 56 * g.val + mir 56 1 (mir 56 3 z.val + j.val) then 1 else 0)
    (j c i : Fin 3) (g : Fin 2) (a b : Fin 7) (y z : Fin 56) :
    k0_pay21 (F := Ideal) x R (K 0) (K 1) (K 2) (ix3 ⟨(j.val * 3 + c.val) * 3 + i.val, by omega⟩ ⟨a.val + y.val, by omega⟩
        ⟨b.val + (62 * g.val + z.val), by omega⟩)
      = x (ix3 c (see 56 1 i (see 56 3 a y)) ⟨56 * g.val + (see 56 1 j (see 56 3 b z)).val, by omega⟩) := by
  have hz : (see 56 3 b z).val = mir 56 3 (b.val + z.val) := by rw [add_comm b.val]; exact see_val (by omega) (by omega) z.isLt
  have ha : (see 56 3 a y).val = mir 56 3 (a.val + y.val) := by rw [add_comm a.val]; exact see_val (by omega) (by omega) y.isLt
  have hj : (see 56 1 j (see 56 3 b z)).val = mir 56 1 ((see 56 3 b z).val + j.val) := see_val (by omega) (by omega) (Fin.isLt _)
  have hy : (see 56 1 i (see 56 3 a y)).val = mir 56 1 ((see 56 3 a y).val + i.val) := see_val (by omega) (by omega) (Fin.isLt _)
  have h : k0_pay21 (F := Ideal) x R (K 0) (K 1) (K 2) (ix3 ⟨(j.val * 3 + c.val) * 3 + i.val, by omega⟩ ⟨a.val + y.val, by omega⟩
        ⟨b.val + (62 * g.val + z.val), by omega⟩)
      = ∑ s : Fin 112, (∑ h : Fin 56, x (ix3 c h s) * R (ix2 ⟨i.val * 62 + (a.val + y.val), by omega⟩ h))
        * K j (ix3 0 ⟨62 * g.val + (b.val + z.val), by omega⟩ s) := by
    have hl : (⟨b.val + (62 * g.val + z.val), by omega⟩ : Fin 124) = ⟨62 * g.val + (b.val + z.val), by omega⟩ :=
      Fin.ext (by simp only; omega)
    rw [hl]
    unfold k0_pay21
    pointwise
    fin_cases j <;> rfl
  rw [h]
  have hR' := hR i ⟨a.val + y.val, by omega⟩
  have hK' := hK j g ⟨b.val + z.val, by omega⟩
  simp only [← hz, ← hj] at hK'
  simp only [← ha, ← hy] at hR'
  simp only [hR', hK']
  rw [sum_pick _ (56 * g.val + (see 56 1 j (see 56 3 b z)).val) (by omega), sum_pick _ _ (Fin.isLt _)]
end patches

end Cert.Match.Ker
end
-- ==== Proof.KerArrays.lean ====
/-
  What the kernel's arrays hold at one grid point: the patches of the prediction and the candidates, channel by channel.
-/
module

public import proofs.«01_k».proof.Proof.KerRead

@[expose] public section

set_option maxRecDepth 16384

noncomputable section

open Idealize.ShloMosaic Idealize.ShloMosaic.TcCoe Idealize.SL.Sem

namespace Cert.Match.Ker
open Cert.KernelIdeal Cert.KernelIdeal.Gen

/-- The four selection matrices hold a one where a mirrored place is picked and zeros elsewhere. -/
structure Selects (x3 : Vec Ideal S168x56 .f32) (x4 : Vec Ideal S3x124x112 .f32) (x5 : Vec Ideal S186x56 .f32)
    (x6 : Vec Ideal S3x124x112 .f32) : Prop where
  row : ∀ (i : Fin 3) (y h : Fin 56), x3 (ix2 ⟨i.val * 56 + y.val, by omega⟩ h) = if h.val = mir 56 1 (y.val + i.val) then 1 else 0
  col : ∀ (j : Fin 3) (g : Fin 2) (z : Fin 56) (s : Fin 112),
    x4 (ix3 j ⟨62 * g.val + z.val, by omega⟩ s) = if s.val = 56 * g.val + mir 56 1 (z.val + j.val) then 1 else 0
  nearRow : ∀ (i : Fin 3) (y : Fin 62) (h : Fin 56),
    x5 (ix2 ⟨i.val * 62 + y.val, by omega⟩ h) = if h.val = mir 56 1 (mir 56 3 y.val + i.val) then 1 else 0
  nearCol : ∀ (j : Fin 3) (g : Fin 2) (z : Fin 62) (s : Fin 112),
    x6 (ix3 j ⟨62 * g.val + z.val, by omega⟩ s) = if s.val = 56 * g.val + mir 56 1 (mir 56 3 z.val + j.val) then 1 else 0

/-- The nine planes of a grid point: the prediction's three channels, then the two images'. -/
def nine (x0 : Vec Ideal S1x3x224x224 .f32) (x1 : Vec Ideal S1x2x3x224x224 .f32) (c : Fin 9) (y z : Fin 224) : EReal :=
  if h : c.val < 3 then x0 (ix4 0 ⟨c.val, h⟩ y z) else x1 (ix5 0 ⟨(c.val - 3) / 3, by omega⟩ ⟨(c.val - 3) % 3, by omega⟩ y z)

/-- The down-sampled planes of a grid point, of the census transform and raw. -/
def smallC (x0 : Vec Ideal S1x3x224x224 .f32) (x1 : Vec Ideal S1x2x3x224x224 .f32) (x2 : Vec Ideal S56x224 .f32) (c : Fin 9) :
    Fin 56 → Fin 56 → EReal := dn (fun y k => x2 (ix2 y k)) (cen (nine x0 x1 c))
def smallR (x0 : Vec Ideal S1x3x224x224 .f32) (x1 : Vec Ideal S1x2x3x224x224 .f32) (x2 : Vec Ideal S56x224 .f32) (c : Fin 9) :
    Fin 56 → Fin 56 → EReal := dn (fun y k => x2 (ix2 y k)) (nine x0 x1 c)

/-- Where the kernel keeps channel `c` of a patch. -/
def place (c : Fin 27) : Fin 27 := ⟨(c.val % 3 * 3 + c.val / 9) * 3 + c.val / 3 % 3, by omega⟩

theorem place_bijective : Function.Bijective place := by
  refine Function.Injective.bijective_of_finite fun a b h => ?_
  have h' := congrArg Fin.val h
  simp only [place] at h'
  exact Fin.ext (by omega)

theorem sum_place (f : Fin 27 → EReal) : ∑ c : Fin 27, f c = ∑ c : Fin 27, f (place c) := (place_bijective.sum_comp f).symm

section
variable (x0 : Vec Ideal S1x3x224x224 .f32) (x1 : Vec Ideal S1x2x3x224x224 .f32) (x2 : Vec Ideal S56x224 .f32)
  (x3 : Vec Ideal S168x56 .f32) (x4 : Vec Ideal S3x124x112 .f32) (x5 : Vec Ideal S186x56 .f32) (x6 : Vec Ideal S3x124x112 .f32)

theorem pay207_apply (c : Fin 9) (y z : Fin 224) : k0_pay207 (F := Ideal) x0 x1 x2 x3 x4 x5 x6 (ix3 c y z) = nine x0 x1 c y z := by
  unfold k0_pay207 nine
  rw [nine_apply]
  pointwise
  split_ifs with h h'
  · rfl
  · exact congrArg₂ (fun (i : Fin 2) (k : Fin 3) => x1 (ix5 0 i k y z)) (Fin.ext (by simp only [Fin.val_zero]; omega)) (Fin.ext (by simp only; omega))
  · exact congrArg₂ (fun (i : Fin 2) (k : Fin 3) => x1 (ix5 0 i k y z)) (Fin.ext (by simp only [Fin.val_one]; omega)) (Fin.ext (by simp only; omega))

theorem rawSmall_apply (c : Fin 9) (y z : Fin 56) :
    k0_pay7 (F := Ideal) (View.ld x2 r0_0) (k0_pay207 (F := Ideal) x0 x1 x2 x3 x4 x5 x6) (ix3 c y z) = smallR x0 x1 x2 c y z := by
  rw [small_apply]
  simp only [pay207_apply]
  unfold smallR
  have h : ∀ y k, View.ld x2 r0_0 (ix2 y k) = x2 (ix2 y k) := fun y k => by pointwise
  simp only [h]

theorem censusSmall_apply (c : Fin 9) (y z : Fin 56) :
    k0_pay6 (F := Ideal) (View.ld x2 r0_0) (k0_pay207 (F := Ideal) x0 x1 x2 x3 x4 x5 x6) (k0_pay208 (F := Ideal) x0 x1 x2 x3 x4 x5 x6)
      (k0_pay209 (F := Ideal) x0 x1 x2 x3 x4 x5 x6) (k0_pay210 (F := Ideal) x0 x1 x2 x3 x4 x5 x6) (ix3 c y z) = smallC x0 x1 x2 c y z := by
  rw [pay6_eq, small_apply]
  have e : (fun y z => tanhs (k0_pay207 (F := Ideal) x0 x1 x2 x3 x4 x5 x6) (k0_pay208 (F := Ideal) x0 x1 x2 x3 x4 x5 x6)
      (k0_pay209 (F := Ideal) x0 x1 x2 x3 x4 x5 x6) (k0_pay210 (F := Ideal) x0 x1 x2 x3 x4 x5 x6) (ix3 c y z)) = cen (nine x0 x1 c) := by
    funext y z
    refine (tanhs_apply _ _ _ c y z).trans ?_
    refine congrArg (fun f => cen f y z) (funext fun y => funext fun z => ?_)
    exact pay207_apply x0 x1 x2 x3 x4 x5 x6 c y z
  rw [e]
  unfold smallC
  have h : ∀ y k, View.ld x2 r0_0 (ix2 y k) = x2 (ix2 y k) := fun y k => by pointwise
  simp only [h]

/-- The prediction's census planes twice side by side. -/
def predictedTwice : FVec Ideal S3x56x112 .f32 :=
  concatenate S3x56x112 2 [
    ⟨S3x56x56, extractStridedSlice S3x56x56 ![0, 0, 0] (k0_pay6 (F := Ideal) (View.ld x2 r0_0) (k0_pay207 (F := Ideal) x0 x1 x2 x3 x4 x5 x6) (k0_pay208 (F := Ideal) x0 x1 x2 x3 x4 x5 x6)
      (k0_pay209 (F := Ideal) x0 x1 x2 x3 x4 x5 x6) (k0_pay210 (F := Ideal) x0 x1 x2 x3 x4 x5 x6)) slices_S9x56x56_o0_0_0_S3x56x56⟩,
    ⟨S3x56x56, extractStridedSlice S3x56x56 ![0, 0, 0] (k0_pay6 (F := Ideal) (View.ld x2 r0_0) (k0_pay207 (F := Ideal) x0 x1 x2 x3 x4 x5 x6) (k0_pay208 (F := Ideal) x0 x1 x2 x3 x4 x5 x6)
      (k0_pay209 (F := Ideal) x0 x1 x2 x3 x4 x5 x6) (k0_pay210 (F := Ideal) x0 x1 x2 x3 x4 x5 x6)) slices_S9x56x56_o0_0_0_S3x56x56⟩]
    concatenates_S3x56x56_S3x56x56_S3x56x112_d2

theorem pay213_eq : k0_pay213 (F := Ideal) x0 x1 x2 x3 x4 x5 x6 =
    k0_pay16 (F := Ideal) (predictedTwice x0 x1 x2 x3 x4 x5 x6) (View.ld x3 r0_4) (View.ld x4 r0_5) (View.ld x4 r0_6) (View.ld x4 r0_7) := by
  simp only [k0_pay213, k0_pay11, k0_pay12, k0_pay13, k0_pay14, k0_pay15, k0_pay16, predictedTwice]

theorem pay218_eq : k0_pay218 (F := Ideal) x0 x1 x2 x3 x4 x5 x6 =
    k0_pay21 (F := Ideal) (k0_pay211 (F := Ideal) x0 x1 x2 x3 x4 x5 x6) (View.ld x5 r0_8) (View.ld x6 r0_5) (View.ld x6 r0_6) (View.ld x6 r0_7) := by
  simp only [k0_pay218, k0_pay215, k0_pay216, k0_pay217, k0_pay17, k0_pay18, k0_pay19, k0_pay20, k0_pay21]

theorem predictedTwice_apply (c : Fin 3) (y : Fin 56) (g : Fin 2) (z : Fin 56) :
    predictedTwice x0 x1 x2 x3 x4 x5 x6 (ix3 c y ⟨56 * g.val + z.val, by omega⟩) = smallC x0 x1 x2 ⟨c.val, by omega⟩ y z := by
  unfold predictedTwice
  rw [← censusSmall_apply x0 x1 x2 x3 x4 x5 x6]
  generalize k0_pay6 (F := Ideal) (View.ld x2 r0_0) _ _ _ _ = t
  pointwise
  split_ifs with h <;> refine congrArg t (congrArg (ix3 _ y) (Fin.ext ?_)) <;> simp only <;> omega

/-- Channel `c` of the images, side by side, raw. -/
theorem pay212_apply (c : Fin 3) (y : Fin 56) (g : Fin 2) (z : Fin 56) :
    k0_pay212 (F := Ideal) x0 x1 x2 x3 x4 x5 x6 (ix3 c y ⟨56 * g.val + z.val, by omega⟩) = smallR x0 x1 x2 ⟨3 + 3 * g.val + c.val, by omega⟩ y z := by
  unfold k0_pay212 k0_pay10
  rw [← rawSmall_apply x0 x1 x2 x3 x4 x5 x6]
  generalize k0_pay7 (F := Ideal) (View.ld x2 r0_0) _ = t
  pointwise
  split_ifs with h <;> refine congrArg₂ (fun (a : Fin 9) (b : Fin 56) => t (ix3 a y b)) (Fin.ext ?_) (Fin.ext ?_) <;> simp only <;> omega

/-- Channel `c` of the images, side by side, of the census transform. -/
theorem pay211_apply (c : Fin 3) (y : Fin 56) (g : Fin 2) (z : Fin 56) :
    k0_pay211 (F := Ideal) x0 x1 x2 x3 x4 x5 x6 (ix3 c y ⟨56 * g.val + z.val, by omega⟩) = smallC x0 x1 x2 ⟨3 + 3 * g.val + c.val, by omega⟩ y z := by
  unfold k0_pay211 k0_pay9
  rw [← censusSmall_apply x0 x1 x2 x3 x4 x5 x6]
  generalize k0_pay6 (F := Ideal) (View.ld x2 r0_0) _ _ _ _ = t
  pointwise
  split_ifs with h <;> refine congrArg₂ (fun (a : Fin 9) (b : Fin 56) => t (ix3 a y b)) (Fin.ext ?_) (Fin.ext ?_) <;> simp only <;> omega

/-- The prediction's raw planes twice side by side. -/
theorem pay8_apply (c : Fin 3) (y : Fin 56) (g : Fin 2) (z : Fin 56) :
    k0_pay8 (F := Ideal) (View.ld x2 r0_0) (k0_pay207 (F := Ideal) x0 x1 x2 x3 x4 x5 x6) (ix3 c y ⟨56 * g.val + z.val, by omega⟩)
      = smallR x0 x1 x2 ⟨c.val, by omega⟩ y z := by
  unfold k0_pay8
  rw [← rawSmall_apply x0 x1 x2 x3 x4 x5 x6]
  generalize k0_pay7 (F := Ideal) (View.ld x2 r0_0) _ = t
  pointwise
  split_ifs with h <;> refine congrArg t (congrArg (ix3 _ y) (Fin.ext ?_)) <;> simp only <;> omega

/-- Slab `j` of a stack of three, loaded. -/
def slab (x : Vec Ideal S3x124x112 .f32) : Fin 3 → Vec Ideal S1x124x112 .f32 :=
  ![View.ld x r0_5, View.ld x r0_6, View.ld x r0_7]

theorem slab_apply (x : Vec Ideal S3x124x112 .f32) (j : Fin 3) (l : Fin 124) (s : Fin 112) : slab x j (ix3 0 l s) = x (ix3 j l s) := by
  fin_cases j <;> (unfold slab; simp only [Matrix.cons_val]; pointwise)

variable (hs : Selects x3 x4 x5 x6)
include hs

theorem slab_col (j : Fin 3) (g : Fin 2) (z : Fin 56) (s : Fin 112) :
    slab x4 j (ix3 0 ⟨62 * g.val + z.val, by omega⟩ s) = if s.val = 56 * g.val + mir 56 1 (z.val + j.val) then 1 else 0 :=
  (slab_apply x4 j _ s).trans (hs.col j g z s)

theorem slab_nearCol (j : Fin 3) (g : Fin 2) (z : Fin 62) (s : Fin 112) :
    slab x6 j (ix3 0 ⟨62 * g.val + z.val, by omega⟩ s) = if s.val = 56 * g.val + mir 56 1 (mir 56 3 z.val + j.val) then 1 else 0 :=
  (slab_apply x6 j _ s).trans (hs.nearCol j g z s)

theorem load_row (i : Fin 3) (y h : Fin 56) :
    View.ld x3 r0_4 (ix2 ⟨i.val * 56 + y.val, by omega⟩ h) = if h.val = mir 56 1 (y.val + i.val) then 1 else 0 := by
  refine Eq.trans ?_ (hs.row i y h)
  pointwise

theorem load_nearRow (i : Fin 3) (y : Fin 62) (h : Fin 56) :
    View.ld x5 r0_8 (ix2 ⟨i.val * 62 + y.val, by omega⟩ h) = if h.val = mir 56 1 (mir 56 3 y.val + i.val) then 1 else 0 := by
  refine Eq.trans ?_ (hs.nearRow i y h)
  pointwise

/-- The prediction's census patches. -/
theorem pay213_apply (c : Fin 27) (y : Fin 56) (g : Fin 2) (z : Fin 56) :
    k0_pay213 (F := Ideal) x0 x1 x2 x3 x4 x5 x6 (ix3 (place c) y ⟨62 * g.val + z.val, by omega⟩)
      = pat (smallC x0 x1 x2) ⟨c.val, by omega⟩ y z := by
  rw [pay213_eq]
  refine (patch_apply _ (slab x4) _ (load_row x3 x4 x5 x6 hs) (slab_col x3 x4 x5 x6 hs) ⟨c.val % 3, by omega⟩ ⟨c.val / 9, by omega⟩
    ⟨c.val / 3 % 3, by omega⟩ g y z).trans ?_
  exact predictedTwice_apply x0 x1 x2 x3 x4 x5 x6 _ _ g _

/-- The prediction's raw patches. -/
theorem pay214_apply (c : Fin 27) (y : Fin 56) (g : Fin 2) (z : Fin 56) :
    k0_pay214 (F := Ideal) x0 x1 x2 x3 x4 x5 x6 (ix3 (place c) y ⟨62 * g.val + z.val, by omega⟩)
      = pat (smallR x0 x1 x2) ⟨c.val, by omega⟩ y z := by
  unfold k0_pay214
  refine (patch_apply _ (slab x4) _ (load_row x3 x4 x5 x6 hs) (slab_col x3 x4 x5 x6 hs) ⟨c.val % 3, by omega⟩ ⟨c.val / 9, by omega⟩
    ⟨c.val / 3 % 3, by omega⟩ g y z).trans ?_
  exact pay8_apply x0 x1 x2 x3 x4 x5 x6 _ _ g _

omit hs in
/-- The candidate of image `g` with row step `a` and lane step `b`. -/
def cidx (g : Fin 2) (q : Fin 7 × Fin 7) : Fin 98 := ⟨49 * g.val + 7 * q.2.val + q.1.val, by omega⟩

omit hs in
theorem cand_eq (f : Fin 9 → Fin 56 → Fin 56 → EReal) (g : Fin 2) (q : Fin 7 × Fin 7) (c : Fin 27) (y z : Fin 56) :
    cand f (cidx g q) c y z = f ⟨3 + 3 * g.val + c.val / 9, by omega⟩ (see 56 1 (c.val / 3 % 3) (see 56 3 q.2 y)) (see 56 1 (c.val % 3) (see 56 3 q.1 z)) := by
  have e1 : (cidx g q).val % 49 / 7 = q.2.val := by simp only [cidx]; omega
  have e2 : (cidx g q).val % 7 = q.1.val := by simp only [cidx]; omega
  have e3 : (27 + 27 * ((cidx g q).val / 49) + c.val) / 9 = 3 + 3 * g.val + c.val / 9 := by simp only [cidx]; omega
  have e4 : (27 + 27 * ((cidx g q).val / 49) + c.val) / 3 % 3 = c.val / 3 % 3 := by omega
  have e5 : (27 + 27 * ((cidx g q).val / 49) + c.val) % 3 = c.val % 3 := by omega
  unfold cand pat patch
  simp only [e1, e2, e3, e4, e5]

/-- The candidates' census patches. -/
theorem pay218_apply (c : Fin 27) (q : Fin 7 × Fin 7) (y : Fin 56) (g : Fin 2) (z : Fin 56) :
    k0_pay218 (F := Ideal) x0 x1 x2 x3 x4 x5 x6 (ix3 (place c) ⟨q.2.val + y.val, by omega⟩ ⟨q.1.val + (62 * g.val + z.val), by omega⟩)
      = cand (smallC x0 x1 x2) (cidx g q) c y z := by
  rw [pay218_eq, cand_eq]
  refine (near_apply _ (slab x6) _ (load_nearRow x3 x4 x5 x6 hs) (slab_nearCol x3 x4 x5 x6 hs) ⟨c.val % 3, by omega⟩ ⟨c.val / 9, by omega⟩
    ⟨c.val / 3 % 3, by omega⟩ g q.2 q.1 y z).trans ?_
  exact pay211_apply x0 x1 x2 x3 x4 x5 x6 _ _ g _

/-- The candidates' raw patches. -/
theorem pay219_apply (c : Fin 27) (q : Fin 7 × Fin 7) (y : Fin 56) (g : Fin 2) (z : Fin 56) :
    k0_pay219 (F := Ideal) x0 x1 x2 x3 x4 x5 x6 (ix3 (place c) ⟨q.2.val + y.val, by omega⟩ ⟨q.1.val + (62 * g.val + z.val), by omega⟩)
      = cand (smallR x0 x1 x2) (cidx g q) c y z := by
  unfold k0_pay219
  rw [cand_eq]
  refine (near_apply _ (slab x6) _ (load_nearRow x3 x4 x5 x6 hs) (slab_nearCol x3 x4 x5 x6 hs) ⟨c.val % 3, by omega⟩ ⟨c.val / 9, by omega⟩
    ⟨c.val / 3 % 3, by omega⟩ g q.2 q.1 y z).trans ?_
  exact pay212_apply x0 x1 x2 x3 x4 x5 x6 _ _ g _

omit hs in
theorem half_bits : Ideal.ofBits .f32 0x3F000000#32 = ((1 / 2 : ℝ) : EReal) := by
  simp [Ideal.ofBits, Ideal.ieee, -EReal.coe_mul]; norm_num

omit hs in
/-- The census half norm of a place. -/
theorem pay220_eq (i : Fin 62) (l : Fin 124) : k0_pay220 (F := Ideal) x0 x1 x2 x3 x4 x5 x6 (ix2 i l) =
    ((1 / 2 : ℝ) : EReal) * ∑ c : Fin 27, k0_pay218 (F := Ideal) x0 x1 x2 x3 x4 x5 x6 (ix3 c i l) * k0_pay218 (F := Ideal) x0 x1 x2 x3 x4 x5 x6 (ix3 c i l) := by
  unfold k0_pay220 k0_pay218 k0_pay23
  generalize k0_pay20 (F := Ideal) _ _ _ _ = t
  rw [← half_bits]
  pointwise

omit hs in
/-- The raw half norm of a place. -/
theorem pay222_eq (i : Fin 62) (l : Fin 124) : k0_pay25 (F := Ideal) (k0_pay221 (F := Ideal) x0 x1 x2 x3 x4 x5 x6) (ix2 i l) =
    ((1 / 2 : ℝ) : EReal) * ∑ c : Fin 27, k0_pay219 (F := Ideal) x0 x1 x2 x3 x4 x5 x6 (ix3 c i l) * k0_pay219 (F := Ideal) x0 x1 x2 x3 x4 x5 x6 (ix3 c i l) := by
  unfold k0_pay221 k0_pay219 k0_pay24 k0_pay25
  generalize k0_pay21 (F := Ideal) _ _ _ _ _ = t
  rw [← half_bits]
  pointwise

omit hs in
/-- The kernel's score of a candidate: half its norm less its product with the pixel's patch. -/
def hscore (f : Fin 9 → Fin 56 → Fin 56 → EReal) (y z : Fin 56) (k : Fin 98) : EReal :=
  ((1 / 2 : ℝ) : EReal) * (∑ c : Fin 27, cand f k c y z * cand f k c y z) - ∑ c : Fin 27, pat f ⟨c.val, by omega⟩ y z * cand f k c y z

theorem fullC (g : Fin 2) (q : Fin 7 × Fin 7) (y z : Fin 56) :
    full (k0_pay213 (F := Ideal) x0 x1 x2 x3 x4 x5 x6) (k0_pay218 (F := Ideal) x0 x1 x2 x3 x4 x5 x6) (k0_pay220 (F := Ideal) x0 x1 x2 x3 x4 x5 x6)
      y (62 * g.val + z.val) (by omega) q = hscore (smallC x0 x1 x2) y z (cidx g q) := by
  unfold full hscore
  rw [pay220_eq, sum_place, sum_place (fun c => k0_pay213 (F := Ideal) x0 x1 x2 x3 x4 x5 x6 _ * _)]
  simp only [pay213_apply x0 x1 x2 x3 x4 x5 x6 hs, pay218_apply x0 x1 x2 x3 x4 x5 x6 hs]

theorem fullR (g : Fin 2) (q : Fin 7 × Fin 7) (y z : Fin 56) :
    full (k0_pay214 (F := Ideal) x0 x1 x2 x3 x4 x5 x6) (k0_pay219 (F := Ideal) x0 x1 x2 x3 x4 x5 x6)
      (k0_pay25 (F := Ideal) (k0_pay221 (F := Ideal) x0 x1 x2 x3 x4 x5 x6))
      y (62 * g.val + z.val) (by omega) q = hscore (smallR x0 x1 x2) y z (cidx g q) := by
  unfold full hscore
  rw [pay222_eq, sum_place, sum_place (fun c => k0_pay214 (F := Ideal) x0 x1 x2 x3 x4 x5 x6 _ * _)]
  simp only [pay214_apply x0 x1 x2 x3 x4 x5 x6 hs, pay219_apply x0 x1 x2 x3 x4 x5 x6 hs]

/-- The norm of the prediction's raw patch. -/
theorem pay22_apply (y z : Fin 56) : k0_pay22 (F := Ideal) (k0_pay214 (F := Ideal) x0 x1 x2 x3 x4 x5 x6) (ix2 y z) =
    ∑ c : Fin 27, pat (smallR x0 x1 x2) ⟨c.val, by omega⟩ y z * pat (smallR x0 x1 x2) ⟨c.val, by omega⟩ y z := by
  have h := fun c => pay214_apply x0 x1 x2 x3 x4 x5 x6 hs c y 0 z
  simp only [Fin.val_zero, Nat.mul_zero, Nat.zero_add] at h
  simp only [← h]
  rw [← sum_place (fun c => k0_pay214 (F := Ideal) x0 x1 x2 x3 x4 x5 x6 (ix3 c y ⟨z.val, by omega⟩) * k0_pay214 (F := Ideal) x0 x1 x2 x3 x4 x5 x6 (ix3 c y ⟨z.val, by omega⟩))]
  unfold k0_pay22
  generalize k0_pay214 (F := Ideal) x0 x1 x2 x3 x4 x5 x6 = t
  pointwise

end

end Cert.Match.Ker
end
-- ==== Proof.KerBlock.lean ====
/-
  What the kernel stores at one grid point: the sum over the pixels of the raw distance to a candidate whose census distance
  is least.
-/
module

public import proofs.«01_k».proof.Proof.KerArrays

@[expose] public section

set_option maxRecDepth 16384

noncomputable section

open Idealize.ShloMosaic Idealize.ShloMosaic.TcCoe Idealize.SL.Sem

namespace Cert.Match.Ker
open Cert.KernelIdeal Cert.KernelIdeal.Gen

theorem two_bits : Ideal.ofBits .f32 0x40000000#32 = ((2 : ℝ) : EReal) := by
  simp [Ideal.ofBits, Ideal.ieee, -EReal.coe_mul]; norm_num

/-- The total over the pixels. -/
theorem total_apply (n : FVec Ideal S56x56 .f32) (s : Sc × Sc) : total n s (ix3 0 0 0) = ∑ y : Fin 56, ∑ z : Fin 56,
    (n (ix2 y z) + ((2 : ℝ) : EReal) * if s.1 (ix2 y ⟨62 + z.val, by omega⟩) < s.1 (ix2 y ⟨z.val, by omega⟩)
      then s.2 (ix2 y ⟨62 + z.val, by omega⟩) else s.2 (ix2 y ⟨z.val, by omega⟩)) := by
  rw [← two_bits]
  unfold total
  pointwise

/-- The two scores of a pixel over both images. -/
theorem pixel_best (x0 : Vec Ideal S1x3x224x224 .f32) (x1 : Vec Ideal S1x2x3x224x224 .f32) (x2 : Vec Ideal S56x224 .f32)
    (x3 : Vec Ideal S168x56 .f32) (x4 : Vec Ideal S3x124x112 .f32) (x5 : Vec Ideal S186x56 .f32) (x6 : Vec Ideal S3x124x112 .f32)
    (hs : Selects x3 x4 x5 x6) (s : Sc × Sc)
    (h : s = search (k0_pay213 x0 x1 x2 x3 x4 x5 x6) (k0_pay214 x0 x1 x2 x3 x4 x5 x6)
        (k0_pay218 x0 x1 x2 x3 x4 x5 x6) (k0_pay219 x0 x1 x2 x3 x4 x5 x6)
        (k0_pay220 x0 x1 x2 x3 x4 x5 x6) (k0_pay25 (k0_pay221 x0 x1 x2 x3 x4 x5 x6))) (y z : Fin 56) :
    ∃ k : Fin 98, (∀ k', hscore (smallC x0 x1 x2) y z k ≤ hscore (smallC x0 x1 x2) y z k') ∧
      (if s.1 (ix2 y ⟨62 + z.val, by omega⟩) < s.1 (ix2 y ⟨z.val, by omega⟩)
        then s.2 (ix2 y ⟨62 + z.val, by omega⟩) else s.2 (ix2 y ⟨z.val, by omega⟩)) = hscore (smallR x0 x1 x2) y z k := by
  have hb : ∀ g : Fin 2, Best (hscore (smallC x0 x1 x2) y z) (hscore (smallR x0 x1 x2) y z) (cidx g '' Set.univ)
      (s.1 (ix2 y ⟨62 * g.val + z.val, by omega⟩)) (s.2 (ix2 y ⟨62 * g.val + z.val, by omega⟩)) := fun g => by
    rw [h]
    exact Best.map (cidx g) (fun q => (fullC x0 x1 x2 x3 x4 x5 x6 hs g q y z).symm) (fun q => (fullR x0 x1 x2 x3 x4 x5 x6 hs g q y z).symm)
      (search_best _ _ _ _ _ _ y (62 * g.val + z.val) (by omega))
  have h0 := hb 0
  have h1 := hb 1
  simp only [Fin.val_zero, Fin.val_one, Nat.mul_zero, Nat.zero_add, Nat.mul_one] at h0 h1
  have cover : ∀ k : Fin 98, k ∈ cidx 0 '' Set.univ ∨ k ∈ cidx 1 '' Set.univ := fun k => by
    by_cases hk : k.val < 49
    · refine .inl ⟨(⟨k.val % 7, by omega⟩, ⟨k.val / 7, by omega⟩), trivial, Fin.ext ?_⟩
      simp only [cidx, Fin.val_zero]; omega
    · refine .inr ⟨(⟨(k.val - 49) % 7, by omega⟩, ⟨(k.val - 49) / 7, by omega⟩), trivial, Fin.ext ?_⟩
      simp only [cidx, Fin.val_one]; omega
  obtain ⟨⟨k, -, hd, hr⟩, hle⟩ := h0
  obtain ⟨⟨k', -, hd', hr'⟩, hle'⟩ := h1
  split_ifs with hlt
  · refine ⟨k', fun q => ?_, hr'⟩
    rw [← hd']
    exact (cover q).elim (fun hq => hlt.le.trans (hle q hq)) (hle' q)
  · refine ⟨k, fun q => ?_, hr⟩
    rw [← hd]
    exact (cover q).elim (hle q) (fun hq => (not_lt.mp hlt).trans (hle' q hq))

/-- An extended real that is a real. -/
def IsReal (x : EReal) : Prop := ∃ r : ℝ, x = (r : EReal)

/-- The sum of reals is a real. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem IsReal.sum {ι : Type} [Fintype ι] {f : ι → EReal} (h : ∀ i, IsReal (f i)) : IsReal (∑ i, f i) := by
  choose g hg using h
  exact ⟨∑ i, g i, by simp only [hg, coe_sum]⟩

theorem IsReal.mul {x y : EReal} : IsReal x → IsReal y → IsReal (x * y) := by
  rintro ⟨a, rfl⟩ ⟨b, rfl⟩; exact ⟨a * b, (EReal.coe_mul a b).symm⟩

theorem IsReal.sub {x y : EReal} : IsReal x → IsReal y → IsReal (x - y) := by
  rintro ⟨a, rfl⟩ ⟨b, rfl⟩; exact ⟨a - b, (EReal.coe_sub a b).symm⟩

/-- The distance is the norm of the pixel's patch and twice the kernel's score. -/
theorem dist_eq (f : Fin 9 → Fin 56 → Fin 56 → EReal) (hf : ∀ c y z, IsReal (f c y z)) (k : Fin 98) (y z : Fin 56) :
    (∑ c : Fin 27, pat f ⟨c.val, by omega⟩ y z * pat f ⟨c.val, by omega⟩ y z) + ((2 : ℝ) : EReal) * hscore f y z k = dist f k y z := by
  have ha : ∀ c : Fin 27, IsReal (pat f ⟨c.val, by omega⟩ y z) := fun c => hf _ _ _
  have hb : ∀ c : Fin 27, IsReal (cand f k c y z) := fun c => hf _ _ _
  choose a ha using ha
  choose b hb using hb
  unfold hscore dist
  simp only [ha, hb, ← EReal.coe_mul, ← EReal.coe_sub, ← coe_sum, ← EReal.coe_add]
  refine congrArg _ ?_
  rw [mul_sub, ← mul_assoc, Finset.mul_sum, Finset.mul_sum, ← Finset.sum_sub_distrib, ← Finset.sum_add_distrib]
  exact Finset.sum_congr rfl fun c _ => by ring

/-- The candidate of least score is the one of least distance. -/
theorem dist_le (f : Fin 9 → Fin 56 → Fin 56 → EReal) (hf : ∀ c y z, IsReal (f c y z)) (k k' : Fin 98) (y z : Fin 56)
    (h : hscore f y z k ≤ hscore f y z k') : dist f k y z ≤ dist f k' y z := by
  rw [← dist_eq f hf, ← dist_eq f hf]
  have h2 : (0 : EReal) ≤ ((2 : ℝ) : EReal) := EReal.coe_nonneg.mpr (by norm_num)
  exact add_le_add le_rfl (mul_le_mul_of_nonneg_left h h2)

/-- What the kernel stores in every element of its block. -/
theorem out_apply (x0 : Vec Ideal S1x3x224x224 .f32) (x1 : Vec Ideal S1x2x3x224x224 .f32) (x2 : Vec Ideal S56x224 .f32)
    (x3 : Vec Ideal S168x56 .f32) (x4 : Vec Ideal S3x124x112 .f32) (x5 : Vec Ideal S186x56 .f32) (x6 : Vec Ideal S3x124x112 .f32)
    (hs : Selects x3 x4 x5 x6) (hC : ∀ c y z, IsReal (smallC x0 x1 x2 c y z)) (hR : ∀ c y z, IsReal (smallR x0 x1 x2 c y z)) :
    ∃ k : Fin 56 → Fin 56 → Fin 98, (∀ y z k', dist (smallC x0 x1 x2) (k y z) y z ≤ dist (smallC x0 x1 x2) k' y z) ∧
      ∀ (i : Fin 8) (j : Fin 128), out0_7 x0 x1 x2 x3 x4 x5 x6 (ix3 0 i j) = ∑ y : Fin 56, ∑ z : Fin 56, dist (smallR x0 x1 x2) (k y z) y z := by
  have h := fun y z => pixel_best x0 x1 x2 x3 x4 x5 x6 hs _ rfl y z
  choose k hk hv using h
  refine ⟨k, fun y z k' => dist_le _ hC _ _ y z (hk y z k'), fun i j => ?_⟩
  have e : ∀ y z, dist (smallR x0 x1 x2) (k y z) y z = k0_pay22 (F := Ideal) (k0_pay214 (F := Ideal) x0 x1 x2 x3 x4 x5 x6) (ix2 y z) + ((2 : ℝ) : EReal) * hscore (smallR x0 x1 x2) y z (k y z) :=
    fun y z => by rw [pay22_apply x0 x1 x2 x3 x4 x5 x6 hs, dist_eq _ hR]
  simp only [e, ← hv]
  rw [← total_apply, out_eq]
  generalize total _ _ = t
  have hz : (![0, 0, 0] : Fin 3 → Nat) = fun _ => 0 := funext fun a => by fin_cases a <;> rfl
  rw [View.canon_unit_zero hz]
  unfold k0_pay1
  pointwise

end Cert.Match.Ker
end
-- ==== Proof.KerRun.lean ====
/-
  The kernel's program run whole: the blocks each grid point reads, the region's result array, and the host lines after it.
-/
module

public import proofs.«01_k».proof.Proof.KerBlock
public import Idealize.ShloMosaic.Lib.Pipeline.Value
public import Idealize.ShloMosaic.Lib.Pipeline.ValueKit.Acc

@[expose] public section

set_option maxRecDepth 16384

noncomputable section

open Idealize.ShloMosaic Idealize.ShloMosaic.TcCoe Idealize.SL.Sem
open Idealize.ShloMosaic.Pipeline (Dat)

namespace Cert.Match.Ker
open Cert.KernelIdeal Cert.KernelIdeal.Gen

variable (m : (ℓ : Loc nD τ sig) → Buf (Elt Ideal) ℓ) (ρ : Dev nD → PrngReg)

/-- The batch item a grid point computes. -/
def item (t : Fin cfg0.N) : Fin 4 := ⟨t.val, lt_of_lt_of_eq t.isLt N_0⟩

/-- The grid point of a batch item. -/
def point (b : Fin 4) : Fin cfg0.N := ⟨b.val, lt_of_lt_of_eq b.isLt N_0.symm⟩

theorem item_point (b : Fin 4) : item (point b) = b := rfl

theorem index_zero (t : Fin cfg0.N) : win0_0.index t 0 = t.val ∧ win0_0.index t 1 = 0 ∧ win0_0.index t 2 = 0 ∧ win0_0.index t 3 = 0 := by
  rcases fin_N0 t with rfl | rfl | rfl | rfl <;> decide +kernel

theorem index_one (t : Fin cfg0.N) : win0_1.index t 0 = t.val ∧ win0_1.index t 1 = 0 ∧ win0_1.index t 2 = 0 ∧ win0_1.index t 3 = 0
    ∧ win0_1.index t 4 = 0 := by
  rcases fin_N0 t with rfl | rfl | rfl | rfl <;> decide +kernel

theorem index_seven (t : Fin cfg0.N) : win0_7.index t 0 = t.val ∧ win0_7.index t 1 = 0 ∧ win0_7.index t 2 = 0 := by
  rcases fin_N0 t with rfl | rfl | rfl | rfl <;> decide +kernel

/-- The prediction's block at a grid point is the batch item's planes. -/
theorem iblk_pred (c : Dev nD) (t : Fin cfg0.N) (k : Fin 3) (y z : Fin 224) :
    iblk m c 0 t (ix4 0 k y z) = m ((c : Thread nD τ).loc main_arg0) (ix4 (item t) k y z) := by
  unfold iblk
  show V m c main_arg0 ((win0_0.rect t).emb (ix4 0 k y z)) = _
  rw [V_main_arg0]
  obtain ⟨h0, h1, h2, h3⟩ := index_zero t
  refine congrArg _ (funext fun a => Fin.ext ?_)
  rw [Pipeline.Window.rect_emb_val win0_0]
  match a with
  | ⟨0, _⟩ => show win0_0.index t 0 * 1 + 0 = t.val; rw [h0]; omega
  | ⟨1, _⟩ => show win0_0.index t 1 * 3 + k.val = k.val; rw [h1]; omega
  | ⟨2, _⟩ => show win0_0.index t 2 * 224 + y.val = y.val; rw [h2]; omega
  | ⟨3, _⟩ => show win0_0.index t 3 * 224 + z.val = z.val; rw [h3]; omega

/-- The images' block at a grid point is the batch item's planes. -/
theorem iblk_img (c : Dev nD) (t : Fin cfg0.N) (i : Fin 2) (k : Fin 3) (y z : Fin 224) :
    iblk m c 1 t (ix5 0 i k y z) = m ((c : Thread nD τ).loc main_arg1) (ix5 (item t) i k y z) := by
  unfold iblk
  show V m c main_arg1 ((win0_1.rect t).emb (ix5 0 i k y z)) = _
  rw [V_main_arg1]
  obtain ⟨h0, h1, h2, h3, h4⟩ := index_one t
  refine congrArg _ (funext fun a => Fin.ext ?_)
  rw [Pipeline.Window.rect_emb_val win0_1]
  match a with
  | ⟨0, _⟩ => show win0_1.index t 0 * 1 + 0 = t.val; rw [h0]; omega
  | ⟨1, _⟩ => show win0_1.index t 1 * 2 + i.val = i.val; rw [h1]; omega
  | ⟨2, _⟩ => show win0_1.index t 2 * 3 + k.val = k.val; rw [h2]; omega
  | ⟨3, _⟩ => show win0_1.index t 3 * 224 + y.val = y.val; rw [h3]; omega
  | ⟨4, _⟩ => show win0_1.index t 4 * 224 + z.val = z.val; rw [h4]; omega

/-- The tables the program holds when the region is entered: the weights and the four selection matrices. -/
def tabW : Vec Ideal S56x224 .f32 := fun i => Ideal.ofBits .f32 (lit0 (S56x224.rowMajor i))
def tabR : Vec Ideal S168x56 .f32 := fun i => Ideal.ofBits .f32 (lit1 (S168x56.rowMajor i))
def tabC : Vec Ideal S3x124x112 .f32 := fun i => Ideal.ofBits .f32 (lit2 (S3x124x112.rowMajor i))
def tabNR : Vec Ideal S186x56 .f32 := fun i => Ideal.ofBits .f32 (lit3 (S186x56.rowMajor i))
def tabNC : Vec Ideal S3x124x112 .f32 := fun i => Ideal.ofBits .f32 (lit4 (S3x124x112.rowMajor i))

theorem after_tables (W : Valuation τ sig (Elt Ideal)) (a0 : Vec Ideal S56x224 .f32) (a1 : Vec Ideal S168x56 .f32)
    (a2 : Vec Ideal S3x124x112 .f32) (a3 : Vec Ideal S186x56 .f32) (a4 : Vec Ideal S3x124x112 .f32) :
    let ops : List (HloOp τ sig (Elt Ideal)) := [StableHlo.nullary main_cst a0, StableHlo.nullary main_cst_0 a1,
      StableHlo.nullary main_cst_1 a2, StableHlo.nullary main_cst_2 a3, StableHlo.nullary main_cst_3 a4]
    StableHlo.after ops W (Proc.devRef .tc main_cst) = a0 ∧ StableHlo.after ops W (Proc.devRef .tc main_cst_0) = a1
    ∧ StableHlo.after ops W (Proc.devRef .tc main_cst_1) = a2 ∧ StableHlo.after ops W (Proc.devRef .tc main_cst_2) = a3
    ∧ StableHlo.after ops W (Proc.devRef .tc main_cst_3) = a4 := by
  intro ops
  refine ⟨?_, ?_, ?_, ?_, ?_⟩ <;> (unfold ops; after_results)

theorem V_tables (c : Dev nD) : V m c main_cst = tabW ∧ V m c main_cst_0 = tabR ∧ V m c main_cst_1 = tabC
    ∧ V m c main_cst_2 = tabNR ∧ V m c main_cst_3 = tabNC := by
  have h := after_tables (fun b => m (c, b)) tabW tabR tabC tabNR tabNC
  exact h

/-- Windows over a whole array read the array. -/
theorem iblk_table2 (c : Dev nD) (t : Fin cfg0.N) : iblk m c 2 t = V m c main_cst := by
  unfold iblk
  funext y
  show V m c main_cst ((win0_2.rect t).emb y) = _
  refine congrArg _ (funext fun a => Fin.ext ?_)
  exact Pipeline.Window.rect_emb_val_of_index_zero win0_2 t a (by fin_cases a <;> rfl) y
theorem iblk_table3 (c : Dev nD) (t : Fin cfg0.N) : iblk m c 3 t = V m c main_cst_0 := by
  unfold iblk
  funext y
  show V m c main_cst_0 ((win0_3.rect t).emb y) = _
  refine congrArg _ (funext fun a => Fin.ext ?_)
  exact Pipeline.Window.rect_emb_val_of_index_zero win0_3 t a (by fin_cases a <;> rfl) y
theorem iblk_table4 (c : Dev nD) (t : Fin cfg0.N) : iblk m c 4 t = V m c main_cst_1 := by
  unfold iblk
  funext y
  show V m c main_cst_1 ((win0_4.rect t).emb y) = _
  refine congrArg _ (funext fun a => Fin.ext ?_)
  exact Pipeline.Window.rect_emb_val_of_index_zero win0_4 t a (by fin_cases a <;> rfl) y
theorem iblk_table5 (c : Dev nD) (t : Fin cfg0.N) : iblk m c 5 t = V m c main_cst_2 := by
  unfold iblk
  funext y
  show V m c main_cst_2 ((win0_5.rect t).emb y) = _
  refine congrArg _ (funext fun a => Fin.ext ?_)
  exact Pipeline.Window.rect_emb_val_of_index_zero win0_5 t a (by fin_cases a <;> rfl) y
theorem iblk_table6 (c : Dev nD) (t : Fin cfg0.N) : iblk m c 6 t = V m c main_cst_3 := by
  unfold iblk
  funext y
  show V m c main_cst_3 ((win0_6.rect t).emb y) = _
  refine congrArg _ (funext fun a => Fin.ext ?_)
  exact Pipeline.Window.rect_emb_val_of_index_zero win0_6 t a (by fin_cases a <;> rfl) y

/-- What the body leaves in its block at a grid point. -/
def block (c : Dev nD) (t : Fin cfg0.N) : Vec Ideal S1x8x128 .f32 :=
  out0_7 (iblk m c 0 t) (iblk m c 1 t) (iblk m c 2 t) (iblk m c 3 t) (iblk m c 4 t) (iblk m c 5 t) (iblk m c 6 t)

/-- The region's result array: block after block. -/
def blocks (c : Dev nD) : Buf (Elt Ideal) ((c : Thread nD τ).loc main_v0) :=
  fun i : S4x8x128.Idx => block m c (point (i 0)) (ix3 0 (i 1) (i 2))

/-- Block after block, read at a place of a block. -/
theorem blocks_emb (B : Fin cfg0.N → Vec Ideal S1x8x128 .f32) (t : Fin cfg0.N) (y : S1x8x128.Idx) (i : S4x8x128.Idx)
    (e0 : (i 0 : Nat) = t.val) (e1 : (i 1 : Nat) = (y 1).val) (e2 : (i 2 : Nat) = (y 2).val) :
    B (point (i 0)) (ix3 0 (i 1) (i 2)) = B t y := by
  have ep : point (i 0) = t := Fin.ext e0
  rw [ep]
  refine congrArg _ (funext fun a => Fin.ext ?_)
  match a with
  | ⟨0, _⟩ => show 0 = (y 0).val; have : (y 0).val < 1 := (y 0).isLt; omega
  | ⟨1, _⟩ => exact e1
  | ⟨2, _⟩ => exact e2

/-- Where a place of a block lies in the array. -/
theorem emb_seven (t : Fin cfg0.N) (y : S1x8x128.Idx) : ((win0_7.rect t).emb y 0 : Nat) = t.val
    ∧ ((win0_7.rect t).emb y 1 : Nat) = (y 1).val ∧ ((win0_7.rect t).emb y 2 : Nat) = (y 2).val := by
  obtain ⟨h0, h1, h2⟩ := index_seven t
  have y0 : (y 0 : Nat) = 0 := by have : (y 0 : Nat) < 1 := (y 0).isLt; omega
  refine ⟨(Pipeline.Window.rect_emb_val win0_7 t y 0).trans ?_, (Pipeline.Window.rect_emb_val win0_7 t y 1).trans ?_,
    (Pipeline.Window.rect_emb_val win0_7 t y 2).trans ?_⟩
  · rw [h0]; show t.val * 1 + (y 0 : Nat) = t.val; omega
  · rw [h1]; show 0 * 8 + (y 1 : Nat) = (y 1).val; omega
  · rw [h2]; show 0 * 128 + (y 2 : Nat) = (y 2).val; omega

/-- What a grid point writes back is its block of that array. -/
theorem flushed_eq (c : Dev nD) (t : Fin cfg0.N) :
    (dats m 0 c).flushed 7 t = (win0_7.blk t).view.read (Elt Ideal) (blocks m c) := by
  have h : (dats m 0 c).after 7 t = block m c t := after0_7 m c t
  show (cfg0.win 7).cut (grid0.coords t) ((dats m 0 c).after 7 t) = _
  rw [h]
  unfold blocks
  generalize block m c = B
  funext y
  exact (blocks_emb B t y ((win0_7.rect t).emb y) (emb_seven t y).1 (emb_seven t y).2.1 (emb_seven t y).2.2).symm

/-- The blocks fill the array. -/
theorem cover (i : S4x8x128.Idx) : ∃ t : Fin cfg0.N, (cfg0.win 7).flush t = true ∧ i ∈ ((cfg0.win 7).blk t).view.set := by
  refine ⟨point (i 0), flush0_7 _, ?_⟩
  show i ∈ ((View.whole main_v0).slice (win0_7.rect (point (i 0)))).set
  rw [View.set_slice_whole, Rect.mem_set_unit]
  obtain ⟨h0, h1, h2⟩ := index_seven (point (i 0))
  have i1 : (i 1 : Nat) < 8 := (i 1).isLt
  have i2 : (i 2 : Nat) < 128 := (i 2).isLt
  intro a
  match a with
  | ⟨0, _⟩ =>
    show win0_7.index (point (i 0)) 0 * 1 ≤ (i 0 : Nat) ∧ (i 0 : Nat) < win0_7.index (point (i 0)) 0 * 1 + 1
    rw [h0]; show (i 0 : Nat) * 1 ≤ _ ∧ _ < (i 0 : Nat) * 1 + 1; omega
  | ⟨1, _⟩ =>
    show win0_7.index (point (i 0)) 1 * 8 ≤ (i 1 : Nat) ∧ (i 1 : Nat) < win0_7.index (point (i 0)) 1 * 8 + 8
    rw [h1]; omega
  | ⟨2, _⟩ =>
    show win0_7.index (point (i 0)) 2 * 128 ≤ (i 2 : Nat) ∧ (i 2 : Nat) < win0_7.index (point (i 0)) 2 * 128 + 128
    rw [h2]; omega

theorem final (c : Dev nD) : (dats m 0 c).arrAt 7 cfg0.N = blocks m c :=
  (dats m 0 c).arrAt_eq_of_cover 7 (blocks m c) (fun t _ => flushed_eq m c t) cover

/-- The host lines after the region, of the region's result array. -/
def tail (x : FVec Ideal S4x8x128 .f32) : FVec Ideal S_ .f32 :=
  mulf (Host.reduceAdd (shapeCast S4 (extractStridedSlice S4x1x1 ![0, 0, 0] x slices_S4x8x128_S4x1x1_0_0_0) shapeCasts_S4x1x1_S4)
    (constant (F := Ideal) S_ .f32 0x00000000#32) reducesTo_S4_S_d0 h_S_) (constant (F := Ideal) S_ .f32 0x35C624C4#32)

/-- They add one element of each block and scale the sum. -/
theorem tail_apply (x : FVec Ideal S4x8x128 .f32) (j : S_.Idx) :
    tail x j = (∑ b : Fin 4, x (ix3 b 0 0)) * Ideal.ofBits .f32 0x35C624C4#32 := by
  have h0 : tail x j = Ideal.hostReduceAdd reducesTo_S4_S_d0
      (shapeCast S4 (extractStridedSlice S4x1x1 ![0, 0, 0] x slices_S4x8x128_S4x1x1_0_0_0) shapeCasts_S4x1x1_S4) 0 j
        * Ideal.ofBits .f32 0x35C624C4#32 := by
    unfold tail
    pointwise
  rw [h0, Ideal.hostReduceAdd_total reducesTo_S4_S_d0 (fun b => b.elim0), zero_add]
  pointwise
  exact congrArg (· * _) (Fin.sum_idx1 ![4] fun b => x (ix3 b 0 0))

/-- The result after the host lines. -/
theorem after_tail (W : Valuation τ sig (Elt Ideal)) :
    StableHlo.after (hostOps1 (F := Ideal)) W (Proc.devRef .tc main_v4) = tail (W (Proc.devRef .tc main_v0)) := by
  unfold hostOps1
  after_results
  rfl

theorem tail_eq (c : Dev nD) : Pipeline.afterTail₀ cfgs (dats m) 0 (V0 m) [hostOps1] c main_v4 = tail (blocks m c) := by
  unfold Pipeline.afterTail₀
  refine (after_tail _).trans (congrArg tail ?_)
  refine Eq.trans ?_ (final m c)
  exact Pipeline.withArrays_arr spec0 launch0.win.arr_inj c _ _ 7

/-- The kernel's program: its result, and its arguments as they were. -/
theorem run : θ_run defs (onTc (τ := τ) (main (F := Ideal))) ⟨m, fun _ => 0, ρ⟩ fun r => ∀ c : Dev nD,
    r.2.mem ((c : Thread nD τ).loc main_v4) = tail (blocks m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h c).2 main_v4 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Match.Ker
end
-- ==== Proof.TableRows.lean ====
/-
  The printed row-selection matrices of the kernel: each row holds a one at the mirrored place and zeros elsewhere.
-/
module

public import proofs.«01_k».proof.KernelIdeal
public import proofs.«01_k».proof.Proof.Spec

@[expose] public section

set_option maxRecDepth 16384

noncomputable section

namespace Cert.Match
open Cert.KernelIdeal

/-- The prediction's row selections: row `56 i + y` picks the place that step `i` of a 3-window sees at `y`. -/
theorem rowSel_table : ∀ (i : Fin 3) (y h : Fin 56), lit1 ⟨(i.val * 56 + y.val) * 56 + h.val, by omega⟩
    = if h.val = mir 56 1 (y.val + i.val) then 0x3F800000#32 else 0x00000000#32 := by decide +kernel

/-- The images' row selections: row `62 i + y` picks what step `i` sees at the place where the side padded by three has `y`. -/
theorem nearRowSel_table : ∀ (i : Fin 3) (y : Fin 62) (h : Fin 56), lit3 ⟨(i.val * 62 + y.val) * 56 + h.val, by omega⟩
    = if h.val = mir 56 1 (mir 56 3 y.val + i.val) then 0x3F800000#32 else 0x00000000#32 := by decide +kernel

/-- No down-sampling weight is an infinity or no number. -/
theorem weight_table : ∀ (y : Fin 56) (h : Fin 224), ((lit0 ⟨y.val * 224 + h.val, by omega⟩).extractLsb' 23 8 == 255#8) = false := by
  decide +kernel

end Cert.Match

end
-- ==== Proof.TableCols.lean ====
/-
  The prediction's printed column-selection matrices, one step of a 3-window and one half of the lanes at a time.
-/
module

public import proofs.«01_k».proof.KernelIdeal
public import proofs.«01_k».proof.Proof.Spec

@[expose] public section

set_option maxRecDepth 16384

noncomputable section

namespace Cert.Match
open Cert.KernelIdeal

theorem colSel_table_0_0 : ∀ (y : Fin 56) (s : Fin 112), lit2 ⟨(0 * 124 + (62 * 0 + y.val)) * 112 + s.val, by omega⟩
    = if s.val = 56 * 0 + mir 56 1 (y.val + 0) then 0x3F800000#32 else 0x00000000#32 := by decide +kernel

theorem colSel_table_0_1 : ∀ (y : Fin 56) (s : Fin 112), lit2 ⟨(0 * 124 + (62 * 1 + y.val)) * 112 + s.val, by omega⟩
    = if s.val = 56 * 1 + mir 56 1 (y.val + 0) then 0x3F800000#32 else 0x00000000#32 := by decide +kernel

theorem colSel_table_1_0 : ∀ (y : Fin 56) (s : Fin 112), lit2 ⟨(1 * 124 + (62 * 0 + y.val)) * 112 + s.val, by omega⟩
    = if s.val = 56 * 0 + mir 56 1 (y.val + 1) then 0x3F800000#32 else 0x00000000#32 := by decide +kernel

theorem colSel_table_1_1 : ∀ (y : Fin 56) (s : Fin 112), lit2 ⟨(1 * 124 + (62 * 1 + y.val)) * 112 + s.val, by omega⟩
    = if s.val = 56 * 1 + mir 56 1 (y.val + 1) then 0x3F800000#32 else 0x00000000#32 := by decide +kernel

theorem colSel_table_2_0 : ∀ (y : Fin 56) (s : Fin 112), lit2 ⟨(2 * 124 + (62 * 0 + y.val)) * 112 + s.val, by omega⟩
    = if s.val = 56 * 0 + mir 56 1 (y.val + 2) then 0x3F800000#32 else 0x00000000#32 := by decide +kernel

theorem colSel_table_2_1 : ∀ (y : Fin 56) (s : Fin 112), lit2 ⟨(2 * 124 + (62 * 1 + y.val)) * 112 + s.val, by omega⟩
    = if s.val = 56 * 1 + mir 56 1 (y.val + 2) then 0x3F800000#32 else 0x00000000#32 := by decide +kernel

/-- The prediction's column selections: in slab j, lane 62 g + y picks column 56 g + the place step j sees at y. -/
theorem colSel_table (j : Fin 3) (g : Fin 2) (y : Fin 56) (s : Fin 112) (h : (j.val * 124 + (62 * g.val + y.val)) * 112 + s.val < 41664) :
    lit2 ⟨(j.val * 124 + (62 * g.val + y.val)) * 112 + s.val, h⟩
      = if s.val = 56 * g.val + mir 56 1 (y.val + j.val) then 0x3F800000#32 else 0x00000000#32 := by
  match j, g with
  | 0, 0 => exact colSel_table_0_0 y s
  | 0, 1 => exact colSel_table_0_1 y s
  | 1, 0 => exact colSel_table_1_0 y s
  | 1, 1 => exact colSel_table_1_1 y s
  | 2, 0 => exact colSel_table_2_0 y s
  | 2, 1 => exact colSel_table_2_1 y s

end Cert.Match

end
-- ==== Proof.TableNearCols.lean ====
/-
  The images' printed column-selection matrices, one step of a 3-window and one half of the lanes at a time.
-/
module

public import proofs.«01_k».proof.KernelIdeal
public import proofs.«01_k».proof.Proof.Spec

@[expose] public section

set_option maxRecDepth 16384

noncomputable section

namespace Cert.Match
open Cert.KernelIdeal

theorem nearColSel_table_0_0 : ∀ (y : Fin 62) (s : Fin 112), lit4 ⟨(0 * 124 + (62 * 0 + y.val)) * 112 + s.val, by omega⟩
    = if s.val = 56 * 0 + mir 56 1 (mir 56 3 y.val + 0) then 0x3F800000#32 else 0x00000000#32 := by decide +kernel

theorem nearColSel_table_0_1 : ∀ (y : Fin 62) (s : Fin 112), lit4 ⟨(0 * 124 + (62 * 1 + y.val)) * 112 + s.val, by omega⟩
    = if s.val = 56 * 1 + mir 56 1 (mir 56 3 y.val + 0) then 0x3F800000#32 else 0x00000000#32 := by decide +kernel

theorem nearColSel_table_1_0 : ∀ (y : Fin 62) (s : Fin 112), lit4 ⟨(1 * 124 + (62 * 0 + y.val)) * 112 + s.val, by omega⟩
    = if s.val = 56 * 0 + mir 56 1 (mir 56 3 y.val + 1) then 0x3F800000#32 else 0x00000000#32 := by decide +kernel

theorem nearColSel_table_1_1 : ∀ (y : Fin 62) (s : Fin 112), lit4 ⟨(1 * 124 + (62 * 1 + y.val)) * 112 + s.val, by omega⟩
    = if s.val = 56 * 1 + mir 56 1 (mir 56 3 y.val + 1) then 0x3F800000#32 else 0x00000000#32 := by decide +kernel

theorem nearColSel_table_2_0 : ∀ (y : Fin 62) (s : Fin 112), lit4 ⟨(2 * 124 + (62 * 0 + y.val)) * 112 + s.val, by omega⟩
    = if s.val = 56 * 0 + mir 56 1 (mir 56 3 y.val + 2) then 0x3F800000#32 else 0x00000000#32 := by decide +kernel

theorem nearColSel_table_2_1 : ∀ (y : Fin 62) (s : Fin 112), lit4 ⟨(2 * 124 + (62 * 1 + y.val)) * 112 + s.val, by omega⟩
    = if s.val = 56 * 1 + mir 56 1 (mir 56 3 y.val + 2) then 0x3F800000#32 else 0x00000000#32 := by decide +kernel

/-- The images' column selections: in slab j, lane 62 g + y picks column 56 g + what step j sees at the place where the side padded by three has y. -/
theorem nearColSel_table (j : Fin 3) (g : Fin 2) (y : Fin 62) (s : Fin 112) (h : (j.val * 124 + (62 * g.val + y.val)) * 112 + s.val < 41664) :
    lit4 ⟨(j.val * 124 + (62 * g.val + y.val)) * 112 + s.val, h⟩
      = if s.val = 56 * g.val + mir 56 1 (mir 56 3 y.val + j.val) then 0x3F800000#32 else 0x00000000#32 := by
  match j, g with
  | 0, 0 => exact nearColSel_table_0_0 y s
  | 0, 1 => exact nearColSel_table_0_1 y s
  | 1, 0 => exact nearColSel_table_1_0 y s
  | 1, 1 => exact nearColSel_table_1_1 y s
  | 2, 0 => exact nearColSel_table_2_0 y s
  | 2, 1 => exact nearColSel_table_2_1 y s

end Cert.Match

end
-- ==== Proof.RefOps.lean ====
/-
  The reference's stages as functions of arrays: the census transform, the down-sampling, the 3 x 3 patches and their
  7 x 7 neighbours, the squared distances and the first position of the least. The tables of places they gather at are
  arguments.
-/
module

public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.Match.Ref
open Cert.ReferenceIdeal Cert.ReferenceIdeal.Gen Cert.ReferenceIdeal.Value

/-- The nine planes of an item: the prediction's three channels, then three of each image. -/
def planes (p : FVec Ideal S4x3x224x224 .f32) (q : FVec Ideal S4x2x3x224x224 .f32) : FVec Ideal S4x9x224x224 .f32 :=
  concatenate S4x9x224x224 1 [⟨S4x3x224x224, p⟩, ⟨S4x6x224x224, shapeCast _ q shapeCasts_S4x2x3x224x224_S4x6x224x224⟩]
    concatenates_S4x3x224x224_S4x6x224x224_S4x9x224x224_d1

/-- A three-row table of places, as the start indices of a gather along a side of 224. -/
def startL (t : IVec S3x224 32) : IVec S3x224x1 32 := broadcastInDim S3x224x1 ![0, 1] bcast_S3x224_S3x224x1_0_1 t

/-- A three-row table of places, as the start indices of a gather along a side of 56. -/
def startS (t : IVec S3x56 32) : IVec S3x56x1 32 := broadcastInDim S3x56x1 ![0, 1] bcast_S3x56_S3x56x1_0_1 t

/-- A seven-row table of places, as the start indices of a gather along a side of 56. -/
def startN (t : IVec S7x56 32) : IVec S7x56x1 32 := broadcastInDim S7x56x1 ![0, 1] bcast_S7x56_S7x56x1_0_1 t

/-- The rows of the large planes at a table. -/
def rowsL (x : FVec Ideal S4x9x224x224 .f32) (t : IVec S3x224 32) : FVec Ideal S4x9x3x224x224 .f32 :=
  Host.gather gather_S4x9x224x224_S3x224x1_S4x9x3x224x224_014_2_n_n_2_2_491224 x (startL t)

/-- The rows of the large planes at one table and their columns at another. -/
def rcL (x : FVec Ideal S4x9x224x224 .f32) (t u : IVec S3x224 32) : FVec Ideal S4x9x3x224x3x224 .f32 :=
  Host.gather gather_S4x9x3x224x224_S3x224x1_S4x9x3x224x3x224_0123_4_n_n_4_2_4932241 (rowsL x t) (startL u)

/-- The nine neighbours of every pixel of the large planes. -/
def winL (x : FVec Ideal S4x9x224x224 .f32) (t u : IVec S3x224 32) : FVec Ideal S4x9x9x224x224 .f32 :=
  shapeCast _ (transpose S4x9x3x3x224x224 [0, 1, 2, 4, 3, 5] (rcL x t u)
    transposes_S4x9x3x224x3x224_S4x9x3x3x224x224_0_1_2_4_3_5) shapeCasts_S4x9x3x3x224x224_S4x9x9x224x224

/-- The soft census transform. -/
def census (x : FVec Ideal S4x9x224x224 .f32) (t u : IVec S3x224 32) : FVec Ideal S4x9x224x224 .f32 :=
  Host.divf (Host.reduceAdd (Host.tanh (subf (winL x t u)
    (broadcastInDim S4x9x9x224x224 ![0, 1, 2, 3, 4] bcast_S4x9x1x224x224_S4x9x9x224x224_0_1_2_3_4
      (broadcastInDim S4x9x1x224x224 ![0, 1, 3, 4] bcast_S4x9x224x224_S4x9x1x224x224_0_1_3_4 x))))
    (constant S_ .f32 0x00000000#32) reducesTo_S4x9x9x224x224_S4x9x224x224_d2 h_S_)
    (broadcastInDim S4x9x224x224 ![] bcast_S_S4x9x224x224 (constant S_ .f32 0x41100000#32))

/-- The rows down-sampled. -/
def downRows (w : FVec Ideal S56x224 .f32) (x : FVec Ideal S4x9x224x224 .f32) : FVec Ideal S4x9x56x224 .f32 :=
  Host.reduceAdd (mulf (broadcastInDim S4x9x56x224x224 ![0, 1, 2, 3, 4] bcast_S1x1x56x224x1_S4x9x56x224x224_0_1_2_3_4
      (broadcastInDim S1x1x56x224x1 ![2, 3, 4] bcast_S56x224x1_S1x1x56x224x1_2_3_4
        (broadcastInDim S56x224x1 ![0, 1] bcast_S56x224_S56x224x1_0_1 w)))
    (broadcastInDim S4x9x56x224x224 ![0, 1, 2, 3, 4] bcast_S4x9x1x224x224_S4x9x56x224x224_0_1_2_3_4
      (broadcastInDim S4x9x1x224x224 ![0, 1, 3, 4] bcast_S4x9x224x224_S4x9x1x224x224_0_1_3_4 x)))
    (constant S_ .f32 0x00000000#32) reducesTo_S4x9x56x224x224_S4x9x56x224_d3 h_S_

/-- Rows and columns down-sampled. -/
def down (w : FVec Ideal S56x224 .f32) (x : FVec Ideal S4x9x224x224 .f32) : FVec Ideal S4x9x56x56 .f32 :=
  Host.reduceAdd (mulf (broadcastInDim S4x9x56x56x224 ![0, 1, 2, 3, 4] bcast_S1x1x1x56x224_S4x9x56x56x224_0_1_2_3_4
      (broadcastInDim S1x1x1x56x224 ![3, 4] bcast_S56x224_S1x1x1x56x224_3_4 w))
    (broadcastInDim S4x9x56x56x224 ![0, 1, 2, 3, 4] bcast_S4x9x56x1x224_S4x9x56x56x224_0_1_2_3_4
      (broadcastInDim S4x9x56x1x224 ![0, 1, 2, 4] bcast_S4x9x56x224_S4x9x56x1x224_0_1_2_4 (downRows w x))))
    (constant S_ .f32 0x00000000#32) reducesTo_S4x9x56x56x224_S4x9x56x56_d4 h_S_

/-- The rows of the small planes at a table. -/
def rowsS (x : FVec Ideal S4x9x56x56 .f32) (t : IVec S3x56 32) : FVec Ideal S4x9x3x56x56 .f32 :=
  Host.gather gather_S4x9x56x56_S3x56x1_S4x9x3x56x56_014_2_n_n_2_2_49156 x (startS t)

/-- The rows of the small planes at one table and their columns at another. -/
def rcS (x : FVec Ideal S4x9x56x56 .f32) (t u : IVec S3x56 32) : FVec Ideal S4x9x3x56x3x56 .f32 :=
  Host.gather gather_S4x9x3x56x56_S3x56x1_S4x9x3x56x3x56_0123_4_n_n_4_2_493561 (rowsS x t) (startS u)

/-- The 3 x 3 patches of the small planes, nine channels a plane. -/
def patches (x : FVec Ideal S4x9x56x56 .f32) (t u : IVec S3x56 32) : FVec Ideal S4x81x56x56 .f32 :=
  shapeCast _ (shapeCast _ (transpose S4x9x3x3x56x56 [0, 1, 2, 4, 3, 5] (rcS x t u)
    transposes_S4x9x3x56x3x56_S4x9x3x3x56x56_0_1_2_4_3_5) shapeCasts_S4x9x3x3x56x56_S4x9x9x56x56)
    shapeCasts_S4x9x9x56x56_S4x81x56x56

/-- The two images' patches. -/
def images (x : FVec Ideal S4x81x56x56 .f32) : FVec Ideal S4x54x56x56 .f32 :=
  extractStridedSlice S4x54x56x56 ![0, 27, 0, 0] x slices_S4x81x56x56_S4x54x56x56_0_27_0_0

/-- The rows of the images' patches at a table. -/
def rowsN (x : FVec Ideal S4x54x56x56 .f32) (t : IVec S7x56 32) : FVec Ideal S4x54x7x56x56 .f32 :=
  Host.gather gather_S4x54x56x56_S7x56x1_S4x54x7x56x56_014_2_n_n_2_2_454156 x (startN t)

/-- The rows of the images' patches at one table and their columns at another. -/
def rcN (x : FVec Ideal S4x54x56x56 .f32) (t u : IVec S7x56 32) : FVec Ideal S4x54x7x56x7x56 .f32 :=
  Host.gather gather_S4x54x7x56x56_S7x56x1_S4x54x7x56x7x56_0123_4_n_n_4_2_4547561 (rowsN x t) (startN u)

/-- The 7 x 7 neighbours of the images' patches. -/
def near (x : FVec Ideal S4x81x56x56 .f32) (t u : IVec S7x56 32) : FVec Ideal S4x54x49x56x56 .f32 :=
  shapeCast _ (transpose S4x54x7x7x56x56 [0, 1, 2, 4, 3, 5] (rcN (images x) t u)
    transposes_S4x54x7x56x7x56_S4x54x7x7x56x56_0_1_2_4_3_5) shapeCasts_S4x54x7x7x56x56_S4x54x49x56x56

/-- The candidates of every pixel: the 49 neighbours in image 0, then the 49 in image 1. -/
def cands (n : FVec Ideal S4x54x49x56x56 .f32) : FVec Ideal S4x27x98x56x56 .f32 :=
  concatenate S4x27x98x56x56 2
    [⟨S4x27x49x56x56, extractStridedSlice S4x27x49x56x56 ![0, 0, 0, 0, 0] n slices_S4x54x49x56x56_S4x27x49x56x56_0_0_0_0_0⟩,
      ⟨S4x27x49x56x56, extractStridedSlice S4x27x49x56x56 ![0, 27, 0, 0, 0] n slices_S4x54x49x56x56_S4x27x49x56x56_0_27_0_0_0⟩]
    concatenates_S4x27x49x56x56_S4x27x49x56x56_S4x27x98x56x56_d2

/-- The prediction's patches. -/
def predicted (x : FVec Ideal S4x81x56x56 .f32) : FVec Ideal S4x27x56x56 .f32 :=
  extractStridedSlice S4x27x56x56 ![0, 0, 0, 0] x slices_S4x81x56x56_S4x27x56x56_0_0_0_0

/-- The prediction's patch less each candidate. -/
def diffs (x : FVec Ideal S4x81x56x56 .f32) (n : FVec Ideal S4x54x49x56x56 .f32) : FVec Ideal S4x27x98x56x56 .f32 :=
  subf (broadcastInDim S4x27x98x56x56 ![0, 1, 2, 3, 4] bcast_S4x27x1x56x56_S4x27x98x56x56_0_1_2_3_4
    (broadcastInDim S4x27x1x56x56 ![0, 1, 3, 4] bcast_S4x27x56x56_S4x27x1x56x56_0_1_3_4 (predicted x))) (cands n)

/-- The squared distances. -/
def dists (x : FVec Ideal S4x81x56x56 .f32) (n : FVec Ideal S4x54x49x56x56 .f32) : FVec Ideal S4x98x56x56 .f32 :=
  Host.reduceAdd (mulf (diffs x n) (diffs x n)) (constant S_ .f32 0x00000000#32) reducesTo_S4x27x98x56x56_S4x98x56x56_d1 h_S_

/-- The least along the candidates. -/
def least (d : FVec Ideal S4x98x56x56 .f32) : FVec Ideal S4x98x56x56 .f32 :=
  broadcastInDim S4x98x56x56 ![0, 2, 3] bcast_S4x56x56_S4x98x56x56_0_2_3
    (Host.reduce FloatOps.minimumf d (constant S_ .f32 0x7F800000#32) reducesTo_S4x98x56x56_S4x56x56_d1 h_S_)

/-- Which candidates attain the least. -/
def attain (d : FVec Ideal S4x98x56x56 .f32) : IVec S4x98x56x56 1 := cmpf .oeq d (least d)

/-- The first position of the least. -/
def firstLeast (d : FVec Ideal S4x98x56x56 .f32) : IVec S4x56x56 32 :=
  Host.reduce IntOp.minsi (select (attain d) (iotaInDim S4x98x56x56 32 1)
    (broadcastInDim S4x98x56x56 ![] bcast_S_S4x98x56x56 (constantI S_ 32 98#32))) (constantI S_ 32 2147483647#32)
    reducesTo_S4x98x56x56_S4x56x56_d1 h_S_

/-- Which candidate is the one at the given position. -/
def chosen (k : IVec S4x56x56 32) : IVec S4x98x56x56 1 :=
  cmpi .eq (iotaInDim S4x98x56x56 32 1) (broadcastInDim S4x98x56x56 ![0, 2, 3] bcast_S4x56x56_S4x98x56x56_0_2_3 k)

/-- The candidates at the given positions. -/
def matched (k : IVec S4x56x56 32) (n : FVec Ideal S4x54x49x56x56 .f32) : FVec Ideal S4x27x56x56 .f32 :=
  Host.reduceAdd (select (broadcastInDim S4x27x98x56x56 ![0, 1, 2, 3, 4] bcast_S4x1x98x56x56_S4x27x98x56x56_0_1_2_3_4
      (broadcastInDim S4x1x98x56x56 ![0, 2, 3, 4] bcast_S4x98x56x56_S4x1x98x56x56_0_2_3_4 (chosen k))) (cands n)
      (broadcastInDim S4x27x98x56x56 ![] bcast_S_S4x27x98x56x56 (constant S_ .f32 0x00000000#32)))
    (constant S_ .f32 0x00000000#32) reducesTo_S4x27x98x56x56_S4x27x56x56_d2 h_S_

/-- The sum of the squares of the prediction's patches less the matched ones, scaled. -/
def loss (x : FVec Ideal S4x27x56x56 .f32) : FVec Ideal S_ .f32 :=
  mulf (Host.reduceAdd (mulf x x) (constant S_ .f32 0x00000000#32) reducesTo_S4x27x56x56_S_d0_1_2_3 h_S_)
    (constant S_ .f32 0x35C624C4#32)

/-- The down-sampling weights. -/
def weights : FVec Ideal S56x224 .f32 := fun i => FloatOps.ofBits .f32 (lit0 (S56x224.rowMajor i))

/-- The printed tables of places. -/
def tabL (f : Fin 672 → BitVec 32) : IVec S3x224 32 := fun i => f (S3x224.rowMajor i)
def tabS (f : Fin 168 → BitVec 32) : IVec S3x56 32 := fun i => f (S3x56.rowMajor i)
def tabN (f : Fin 392 → BitVec 32) : IVec S7x56 32 := fun i => f (S7x56.rowMajor i)

/-- The census planes' patches. -/
def censusPatches (p : FVec Ideal S4x3x224x224 .f32) (q : FVec Ideal S4x2x3x224x224 .f32) : FVec Ideal S4x81x56x56 .f32 :=
  patches (down weights (census (planes p q) (tabL lit1) (tabL lit2))) (tabS lit3) (tabS lit4)

/-- The raw planes' patches. -/
def rawPatches (p : FVec Ideal S4x3x224x224 .f32) (q : FVec Ideal S4x2x3x224x224 .f32) : FVec Ideal S4x81x56x56 .f32 :=
  patches (down weights (planes p q)) (tabS lit7) (tabS lit8)

/-- The census distances. -/
def censusDists (p : FVec Ideal S4x3x224x224 .f32) (q : FVec Ideal S4x2x3x224x224 .f32) : FVec Ideal S4x98x56x56 .f32 :=
  dists (censusPatches p q) (near (censusPatches p q) (tabN lit5) (tabN lit6))

/-- What the reference computes, of its two arguments. -/
def result (p : FVec Ideal S4x3x224x224 .f32) (q : FVec Ideal S4x2x3x224x224 .f32) : FVec Ideal S_ .f32 :=
  loss (subf (predicted (rawPatches p q))
    (matched (firstLeast (censusDists p q)) (near (rawPatches p q) (tabN lit9) (tabN lit10))))

open Idealize.ShloMosaic.StableHlo in
/-- The printed reference's composed term is those stages. -/
theorem result_eq (V0 : Valuation τ sig (Elt Ideal)) :
    mulf (Host.reduceAdd (mulf (res_main_v97 V0) (res_main_v97 V0)) (constant S_ .f32 0x00000000#32) reducesTo_S4x27x56x56_S_d0_1_2_3 h_S_)
      (constant S_ .f32 0x35C624C4#32)
      = result (V0 (Proc.devRef .tc main_arg0)) (V0 (Proc.devRef .tc main_arg1)) := rfl

end Cert.Match.Ref

end
-- ==== Proof.Gather.lean ====
/-
  A gather along one axis of a rank-4 or a rank-5 array, at a two-dimensional table of places: which element of the
  operand each element of the result is.
-/
module

public import Idealize.ShloMosaic.Lib.StableHlo
public import Idealize.ShloMosaic.PureOps
public import Idealize.ShloMosaic.Lib.Pointwise

@[expose] public section

noncomputable section

open Idealize.ShloMosaic

namespace Cert.Match

/-- The dimension numbers that gather axis 2 of `[B, C, N, M]` at a `[K, N, 1]` table of places. -/
abbrev rowsDims (B C N M K : Nat)
    (wf : GatherDims.WF ⟨4, ![B, C, N, M]⟩ ⟨3, ![K, N, 1]⟩ ⟨5, ![B, C, K, N, M]⟩ [0, 1, 4] [2] [] [2] [] 2 ![B, C, 1, M]) :
    GatherDims ⟨4, ![B, C, N, M]⟩ ⟨3, ![K, N, 1]⟩ ⟨5, ![B, C, K, N, M]⟩ where
  offsetDims := [0, 1, 4]
  collapsedSliceDims := [2]
  operandBatchingDims := []
  startIndicesBatchingDims := []
  startIndexMap := [2]
  indexVectorDim := 2
  sliceSizes := ![B, C, 1, M]
  wf := wf

/-- The gathered rows, read: the operand at the row the table names, read signed and clamped into the axis. -/
theorem rows_apply {α : Type} {B C N M K : Nat} (hN : 0 < N)
    (wf : GatherDims.WF ⟨4, ![B, C, N, M]⟩ ⟨3, ![K, N, 1]⟩ ⟨5, ![B, C, K, N, M]⟩ [0, 1, 4] [2] [] [2] [] 2 ![B, C, 1, M])
    (x : (⟨4, ![B, C, N, M]⟩ : Shape).Idx → α) (t : IVec ⟨3, ![K, N, 1]⟩ 32) (b : Fin B) (c : Fin C) (k : Fin K)
    (n : Fin N) (m : Fin M) :
    Host.gather (rowsDims B C N M K wf) x t (ix5 b c k n m)
      = x (ix4 b c ⟨min (t (ix3 k n 0)).toInt.toNat (N - 1), by omega⟩ m) := by
  unfold Host.gather
  congr 1
  funext a
  refine Fin.ext ?_
  show (rowsDims B C N M K wf).start _ t a + (rowsDims B C N M K wf).batchCoord _ a
      + (rowsDims B C N M K wf).offCoord _ a = _
  rw [GatherDims.batchCoord_eq_zero _ _ _ (fun h => by simp at h)]
  match a with
  | ⟨0, _⟩ => exact (Nat.zero_add _).trans rfl
  | ⟨1, _⟩ => exact (Nat.zero_add _).trans rfl
  | ⟨3, _⟩ => exact (Nat.zero_add _).trans rfl
  | ⟨2, _⟩ =>
    rw [GatherDims.offCoord_eq_zero _ _ _ (fun h => ((GatherDims.mem_sKept _ _).mp h).1 (List.mem_singleton.mpr rfl))]
    simp only [Nat.add_zero]
    unfold GatherDims.start
    refine (dif_pos (show (2 : Fin 4) ∈ (rowsDims B C N M K wf).startIndexMap from List.mem_singleton.mpr rfl)).trans ?_
    have hsi : (rowsDims B C N M K wf).siIdx (ix5 b c k n m) ⟨List.idxOf (2 : Fin 4) (rowsDims B C N M K wf).startIndexMap,
        List.idxOf_lt_length_iff.2 (List.mem_singleton.mpr rfl)⟩ = ix3 k n 0 := by
      funext b; refine Fin.ext ?_
      match b with
      | ⟨0, _⟩ => rfl
      | ⟨1, _⟩ => rfl
      | ⟨2, _⟩ => rfl
    exact congrArg (fun z => min (t z).toInt.toNat (N - 1)) hsi

/-- The dimension numbers that gather axis 4 of `[B, C, L, M, N]` at a `[K, N, 1]` table of places. -/
abbrev colsDims (B C L M N K : Nat)
    (wf : GatherDims.WF ⟨5, ![B, C, L, M, N]⟩ ⟨3, ![K, N, 1]⟩ ⟨6, ![B, C, L, M, K, N]⟩ [0, 1, 2, 3] [4] [] [4] [] 2 ![B, C, L, M, 1]) :
    GatherDims ⟨5, ![B, C, L, M, N]⟩ ⟨3, ![K, N, 1]⟩ ⟨6, ![B, C, L, M, K, N]⟩ where
  offsetDims := [0, 1, 2, 3]
  collapsedSliceDims := [4]
  operandBatchingDims := []
  startIndicesBatchingDims := []
  startIndexMap := [4]
  indexVectorDim := 2
  sliceSizes := ![B, C, L, M, 1]
  wf := wf

/-- The gathered columns, read: the operand at the column the table names, read signed and clamped into the axis. -/
theorem cols_apply {α : Type} {B C L M N K : Nat} (hN : 0 < N)
    (wf : GatherDims.WF ⟨5, ![B, C, L, M, N]⟩ ⟨3, ![K, N, 1]⟩ ⟨6, ![B, C, L, M, K, N]⟩ [0, 1, 2, 3] [4] [] [4] [] 2 ![B, C, L, M, 1])
    (x : (⟨5, ![B, C, L, M, N]⟩ : Shape).Idx → α) (t : IVec ⟨3, ![K, N, 1]⟩ 32) (b : Fin B) (c : Fin C) (l : Fin L)
    (m : Fin M) (k : Fin K) (n : Fin N) :
    Host.gather (colsDims B C L M N K wf) x t (ix6 b c l m k n)
      = x (ix5 b c l m ⟨min (t (ix3 k n 0)).toInt.toNat (N - 1), by omega⟩) := by
  unfold Host.gather
  congr 1
  funext a
  refine Fin.ext ?_
  show (colsDims B C L M N K wf).start _ t a + (colsDims B C L M N K wf).batchCoord _ a
      + (colsDims B C L M N K wf).offCoord _ a = _
  rw [GatherDims.batchCoord_eq_zero _ _ _ (fun h => by simp at h)]
  match a with
  | ⟨0, _⟩ => exact (Nat.zero_add _).trans rfl
  | ⟨1, _⟩ => exact (Nat.zero_add _).trans rfl
  | ⟨2, _⟩ => exact (Nat.zero_add _).trans rfl
  | ⟨3, _⟩ => exact (Nat.zero_add _).trans rfl
  | ⟨4, _⟩ =>
    rw [GatherDims.offCoord_eq_zero _ _ _ (fun h => ((GatherDims.mem_sKept _ _).mp h).1 (List.mem_singleton.mpr rfl))]
    simp only [Nat.add_zero]
    unfold GatherDims.start
    refine (dif_pos (show (4 : Fin 5) ∈ (colsDims B C L M N K wf).startIndexMap from List.mem_singleton.mpr rfl)).trans ?_
    have hsi : (colsDims B C L M N K wf).siIdx (ix6 b c l m k n) ⟨List.idxOf (4 : Fin 5) (colsDims B C L M N K wf).startIndexMap,
        List.idxOf_lt_length_iff.2 (List.mem_singleton.mpr rfl)⟩ = ix3 k n 0 := by
      funext b; refine Fin.ext ?_
      match b with
      | ⟨0, _⟩ => rfl
      | ⟨1, _⟩ => rfl
      | ⟨2, _⟩ => rfl
    exact congrArg (fun z => min (t z).toInt.toNat (N - 1)) hsi

end Cert.Match

end
-- ==== Proof.Fold.lean ====
/-
  A fold with an operation that picks the better of its two arguments picks the best of the initial value and the
  values folded.
-/
module

public import Idealize.ShloMosaic.Lib.Pointwise

@[expose] public section

noncomputable section

open Idealize.ShloMosaic

namespace Cert.Match

/-- The fold is the initial value or one of the values, and is as good as each. -/
theorem fold_pick {ι α : Type} (op : α → α → α) [Std.Commutative op] [Std.Associative op] (r : α → α → Prop)
    (pick : ∀ a b, op a b = a ∨ op a b = b) (left : ∀ a b, r (op a b) a) (right : ∀ a b, r (op a b) b)
    (refl : ∀ a, r a a) (trans : ∀ a b c, r a b → r b c → r a c) (init : α) (f : ι → α) (S : Finset ι) :
    (Finset.fold op init f S = init ∨ ∃ x ∈ S, Finset.fold op init f S = f x)
      ∧ r (Finset.fold op init f S) init ∧ ∀ x ∈ S, r (Finset.fold op init f S) (f x) := by
  classical
  induction S using Finset.induction_on with
  | empty => simp [refl]
  | insert a S ha ih =>
    rw [Finset.fold_insert ha]
    obtain ⟨h1, h2, h3⟩ := ih
    refine ⟨?_, trans _ _ _ (right _ _) h2, ?_⟩
    · rcases pick (f a) (Finset.fold op init f S) with h | h
      · exact .inr ⟨a, Finset.mem_insert_self _ _, h⟩
      · rw [h]
        rcases h1 with h1 | ⟨x, hx, h1⟩
        · exact .inl h1
        · exact .inr ⟨x, Finset.mem_insert_of_mem hx, h1⟩
    · intro x hx
      rcases Finset.mem_insert.mp hx with rfl | hx
      · exact left _ _
      · exact trans _ _ _ (right _ _) (h3 x hx)

/-- The least of finitely many extended reals, from infinity, is attained. -/
theorem fold_min_attained {ι : Type} [Fintype ι] [Nonempty ι] (f : ι → EReal) :
    ∃ x, f x = Finset.fold min (⊤ : EReal) f Finset.univ ∧ ∀ y, f x ≤ f y := by
  obtain ⟨h1, -, h3⟩ := fold_pick (min : EReal → EReal → EReal) (· ≤ ·) (fun a b => min_choice a b)
    (fun a b => min_le_left a b) (fun a b => min_le_right a b) (fun a => le_refl a) (fun a b c => le_trans) ⊤ f Finset.univ
  rcases h1 with h | ⟨x, -, h⟩
  · obtain ⟨x⟩ := ‹Nonempty ι›
    have hall : ∀ y, f y = ⊤ := fun y => top_le_iff.mp (h ▸ h3 y (Finset.mem_univ y))
    exact ⟨x, by rw [hall x, h], fun y => by rw [hall x, hall y]⟩
  · exact ⟨x, h.symm, fun y => h ▸ h3 y (Finset.mem_univ y)⟩

theorem minsi_pick (a b : BitVec 32) : IntOp.minsi a b = a ∨ IntOp.minsi a b = b := by
  unfold IntOp.minsi; split_ifs <;> simp

theorem minsi_left (a b : BitVec 32) : (IntOp.minsi a b).toInt ≤ a.toInt := by
  unfold IntOp.minsi; split_ifs with h
  · exact le_refl _
  · rw [BitVec.slt_iff_toInt_lt] at h; omega

theorem minsi_right (a b : BitVec 32) : (IntOp.minsi a b).toInt ≤ b.toInt := by
  unfold IntOp.minsi; split_ifs with h
  · rw [BitVec.slt_iff_toInt_lt] at h; omega
  · exact le_refl _

/-- The least, read signed, of the positions below `98` that are marked, where each unmarked one counts as `98`: it is a
marked position if there is one. -/
theorem fold_minsi_marked [Std.Commutative (IntOp.minsi (w := 32))] [Std.Associative (IntOp.minsi (w := 32))]
    (P : Fin 98 → Prop) [DecidablePred P] (h : ∃ x, P x) :
    ∃ x, P x ∧ Finset.fold IntOp.minsi 2147483647#32 (fun x : Fin 98 => if P x then BitVec.ofNat 32 x.val else 98#32) Finset.univ
      = BitVec.ofNat 32 x.val := by
  obtain ⟨h1, -, h3⟩ := fold_pick (IntOp.minsi (w := 32)) (fun a b => a.toInt ≤ b.toInt) minsi_pick minsi_left minsi_right
    (fun a => le_refl _) (fun a b c => le_trans) 2147483647#32
    (fun x : Fin 98 => if P x then BitVec.ofNat 32 x.val else 98#32) Finset.univ
  obtain ⟨x0, hx0⟩ := h
  have hlt := h3 x0 (Finset.mem_univ _)
  simp only [if_pos hx0] at hlt
  have hx0' := (by decide : ∀ x : Fin 98, (BitVec.ofNat 32 x.val).toInt < 98) x0
  rcases h1 with h | ⟨x, -, h⟩
  · rw [h] at hlt
    have : (2147483647#32).toInt = 2147483647 := by decide
    omega
  · by_cases hx : P x
    · exact ⟨x, hx, by rw [h]; simp [hx]⟩
    · rw [h] at hlt
      simp only [if_neg hx] at hlt
      have : (98#32).toInt = 98 := by decide
      omega

end Cert.Match

end
-- ==== Proof.RefRead.lean ====
/-
  The reference's stages read at an element: the mirrored windows, the census transform, the down-sampling, the patches
  and their neighbours, the distances and the loss.
-/
module

public import proofs.«01_k».proof.Proof.RefOps
public import proofs.«01_k».proof.Proof.Spec
public import proofs.«01_k».proof.Proof.Gather
public import proofs.«01_k».proof.Proof.Fold

@[expose] public section

set_option maxRecDepth 16384

noncomputable section

open Idealize.ShloMosaic Idealize.ShloMosaic.TcCoe Idealize.SL.Sem

namespace Cert.Match.Ref
open Cert.ReferenceIdeal Cert.ReferenceIdeal.Gen

/-- The tables that hold the mirrored places. -/
def MirL (t : IVec S3x224 32) : Prop := ∀ (k : Fin 3) (y : Fin 224), (t (ix2 k y)).toInt.toNat = (see 224 1 k y).val
def MirS (t : IVec S3x56 32) : Prop := ∀ (k : Fin 3) (y : Fin 56), (t (ix2 k y)).toInt.toNat = (see 56 1 k y).val
def MirN (t : IVec S7x56 32) : Prop := ∀ (k : Fin 7) (y : Fin 56), (t (ix2 k y)).toInt.toNat = (see 56 3 k y).val

theorem startL_apply (t : IVec S3x224 32) (k : Fin 3) (y : Fin 224) : startL t (ix3 k y 0) = t (ix2 k y) := by
  unfold startL; pointwise

theorem startS_apply (t : IVec S3x56 32) (k : Fin 3) (y : Fin 56) : startS t (ix3 k y 0) = t (ix2 k y) := by
  unfold startS; pointwise

theorem startN_apply (t : IVec S7x56 32) (k : Fin 7) (y : Fin 56) : startN t (ix3 k y 0) = t (ix2 k y) := by
  unfold startN; pointwise

/-- A place clamped into its side is itself when it lies inside. -/
theorem clamp_eq {n : ℕ} {v w : BitVec 32} {s : Fin n} (hv : v = w) (hw : w.toInt.toNat = s.val)
    (h : min v.toInt.toNat (n - 1) < n) : (⟨min v.toInt.toNat (n - 1), h⟩ : Fin n) = s := by
  subst hv
  refine Fin.ext ?_
  show min v.toInt.toNat (n - 1) = s.val
  have := s.isLt
  omega

theorem rcL_apply (x : FVec Ideal S4x9x224x224 .f32) (t u : IVec S3x224 32) (ht : MirL t) (hu : MirL u) (b : Fin 4)
    (c : Fin 9) (k l : Fin 3) (y z : Fin 224) : rcL x t u (ix6 b c k y l z) = x (ix4 b c (see 224 1 k y) (see 224 1 l z)) := by
  refine (cols_apply (by decide) _ (rowsL x t) (startL u) b c k y l z).trans ?_
  rw [clamp_eq (startL_apply u l z) (hu l z)]
  refine (rows_apply (by decide) _ x (startL t) b c k y (see 224 1 l z)).trans ?_
  rw [clamp_eq (startL_apply t k y) (ht k y)]

theorem rcS_apply (x : FVec Ideal S4x9x56x56 .f32) (t u : IVec S3x56 32) (ht : MirS t) (hu : MirS u) (b : Fin 4)
    (c : Fin 9) (k l : Fin 3) (y z : Fin 56) : rcS x t u (ix6 b c k y l z) = x (ix4 b c (see 56 1 k y) (see 56 1 l z)) := by
  refine (cols_apply (by decide) _ (rowsS x t) (startS u) b c k y l z).trans ?_
  rw [clamp_eq (startS_apply u l z) (hu l z)]
  refine (rows_apply (by decide) _ x (startS t) b c k y (see 56 1 l z)).trans ?_
  rw [clamp_eq (startS_apply t k y) (ht k y)]

theorem rcN_apply (x : FVec Ideal S4x54x56x56 .f32) (t u : IVec S7x56 32) (ht : MirN t) (hu : MirN u) (b : Fin 4)
    (c : Fin 54) (k l : Fin 7) (y z : Fin 56) : rcN x t u (ix6 b c k y l z) = x (ix4 b c (see 56 3 k y) (see 56 3 l z)) := by
  refine (cols_apply (by decide) _ (rowsN x t) (startN u) b c k y l z).trans ?_
  rw [clamp_eq (startN_apply u l z) (hu l z)]
  refine (rows_apply (by decide) _ x (startN t) b c k y (see 56 3 l z)).trans ?_
  rw [clamp_eq (startN_apply t k y) (ht k y)]

/-- The bit pattern of nine is the number nine. -/
theorem nine_bits : Ideal.ofBits .f32 0x41100000#32 = ((9 : ℝ) : EReal) := by
  simp [Ideal.ofBits, Ideal.ieee, -EReal.coe_mul]; norm_num

theorem census_apply (x : FVec Ideal S4x9x224x224 .f32) (t u : IVec S3x224 32) (ht : MirL t) (hu : MirL u) (b : Fin 4)
    (c : Fin 9) (y z : Fin 224) : census x t u (ix4 b c y z) = cen (fun y z => x (ix4 b c y z)) y z := by
  have h : ∀ k : Fin 9, winL x t u (ix5 b c k y z)
      = x (ix4 b c (see 224 1 (k.val / 3) y) (see 224 1 (k.val % 3) z)) := by
    intro k
    have h0 : winL x t u (ix5 b c k y z) = rcL x t u (ix6 b c ⟨k.val / 3, by omega⟩ y ⟨k.val % 3, by omega⟩ z) := by
      unfold winL; pointwise
    rw [h0, rcL_apply x t u ht hu]
  unfold census
  pointwise
  simp only [h]
  rw [show (1091567616#32 : BitVec 32) = 0x41100000#32 from rfl, nine_bits]
  exact Ideal.div_coe (show (9 : ℝ) ≠ 0 by norm_num) _

theorem down_apply (w : FVec Ideal S56x224 .f32) (x : FVec Ideal S4x9x224x224 .f32) (b : Fin 4) (c : Fin 9)
    (y z : Fin 56) : down w x (ix4 b c y z) = dn (fun y k => w (ix2 y k)) (fun y z => x (ix4 b c y z)) y z := by
  unfold down downRows dn
  pointwise

theorem patches_apply (x : FVec Ideal S4x9x56x56 .f32) (t u : IVec S3x56 32) (ht : MirS t) (hu : MirS u) (b : Fin 4)
    (c : Fin 81) (y z : Fin 56) : patches x t u (ix4 b c y z) = pat (fun c y z => x (ix4 b c y z)) c y z := by
  have h0 : patches x t u (ix4 b c y z) = rcS x t u (ix6 b ⟨c.val / 9, by omega⟩ ⟨c.val / 3 % 3, by omega⟩ y ⟨c.val % 3, by omega⟩ z) := by
    unfold patches; pointwise
  rw [h0, rcS_apply x t u ht hu]
  rfl

theorem near_apply (x : FVec Ideal S4x81x56x56 .f32) (t u : IVec S7x56 32) (ht : MirN t) (hu : MirN u) (b : Fin 4)
    (c : Fin 54) (k : Fin 49) (y z : Fin 56) :
    near x t u (ix5 b c k y z) = x (ix4 b ⟨27 + c.val, by omega⟩ (see 56 3 (k.val / 7) y) (see 56 3 (k.val % 7) z)) := by
  have h0 : near x t u (ix5 b c k y z) = rcN (images x) t u (ix6 b c ⟨k.val / 7, by omega⟩ y ⟨k.val % 7, by omega⟩ z) := by
    unfold near; pointwise
  rw [h0, rcN_apply _ t u ht hu]
  unfold images
  pointwise

/-- A candidate's channel. -/
theorem cands_apply (x : FVec Ideal S4x81x56x56 .f32) (t u : IVec S7x56 32) (ht : MirN t) (hu : MirN u)
    (f : Fin 4 → Fin 9 → Fin 56 → Fin 56 → EReal) (hx : ∀ b c y z, x (ix4 b c y z) = pat (f b) c y z) (b : Fin 4)
    (c : Fin 27) (k : Fin 98) (y z : Fin 56) : cands (near x t u) (ix5 b c k y z) = cand (f b) k c y z := by
  unfold cands
  pointwise
  split_ifs with hk
  · rw [near_apply x t u ht hu, hx]
    unfold cand
    congr 2
    · show 27 + c.val = 27 + 27 * (k.val / 49) + c.val
      omega
    · rw [Nat.mod_eq_of_lt hk]
  · rw [near_apply x t u ht hu, hx]
    unfold cand
    have := k.isLt
    congr 2
    · show 27 + (27 + c.val) = 27 + 27 * (k.val / 49) + c.val
      omega
    · show (k.val - 49) / 7 = k.val % 49 / 7
      omega
    · show (k.val - 49) % 7 = k.val % 7
      omega
  · exact absurd rfl ‹_›

theorem dists_apply (x : FVec Ideal S4x81x56x56 .f32) (t u : IVec S7x56 32) (ht : MirN t) (hu : MirN u)
    (f : Fin 4 → Fin 9 → Fin 56 → Fin 56 → EReal) (hx : ∀ b c y z, x (ix4 b c y z) = pat (f b) c y z) (b : Fin 4)
    (k : Fin 98) (y z : Fin 56) : dists x (near x t u) (ix4 b k y z) = dist (f b) k y z := by
  have hd : ∀ c : Fin 27, diffs x (near x t u) (ix5 b c k y z) = pat (f b) ⟨c.val, by omega⟩ y z - cand (f b) k c y z := by
    intro c
    rw [← cands_apply x t u ht hu f hx, ← hx]
    unfold diffs predicted
    pointwise
  unfold dists dist
  pointwise
  simp only [hd]

/-- The first position of the least is a position of the least. -/
theorem firstLeast_apply (d : FVec Ideal S4x98x56x56 .f32) (b : Fin 4) (y z : Fin 56) :
    ∃ k : Fin 98, (∀ k', d (ix4 b k y z) ≤ d (ix4 b k' y z)) ∧ firstLeast d (ix3 b y z) = BitVec.ofNat 32 k.val := by
  obtain ⟨x0, hx0, -⟩ := fold_min_attained (fun x : Fin 98 => d (ix4 b x y z))
  have hinf : Ideal.ofBits .f32 0x7F800000#32 = (⊤ : EReal) := by simp [Ideal.ofBits, Ideal.ieee]
  have ha : ∀ k : Fin 98, attain d (ix4 b k y z)
      = BitVec.ofBool (decide (d (ix4 b k y z) = Finset.fold min ⊤ (fun x : Fin 98 => d (ix4 b x y z)) Finset.univ)) := by
    intro k
    rw [← hinf]
    unfold attain least
    pointwise
  have hf : firstLeast d (ix3 b y z) = Finset.fold IntOp.minsi 2147483647#32
      (fun x : Fin 98 => if d (ix4 b x y z) = Finset.fold min ⊤ (fun x : Fin 98 => d (ix4 b x y z)) Finset.univ
        then BitVec.ofNat 32 x.val else 98#32) Finset.univ := by
    unfold firstLeast
    pointwise
    congr 1
    funext x
    rw [ha x]
    unfold Scalar.select
    by_cases h : d (ix4 b x y z) = Finset.fold min ⊤ (fun x : Fin 98 => d (ix4 b x y z)) Finset.univ <;> simp [h]
  rw [hf]
  obtain ⟨k, hk, he⟩ := fold_minsi_marked
    (fun x : Fin 98 => d (ix4 b x y z) = Finset.fold min ⊤ (fun x : Fin 98 => d (ix4 b x y z)) Finset.univ) ⟨x0, hx0⟩
  obtain ⟨x1, hx1, hle⟩ := fold_min_attained (fun x : Fin 98 => d (ix4 b x y z))
  exact ⟨k, fun k' => (hk.trans hx1.symm).le.trans (hle k'), he⟩

/-- The matched candidate. -/
theorem matched_apply (i : IVec S4x56x56 32) (n : FVec Ideal S4x54x49x56x56 .f32) (b : Fin 4) (c : Fin 27) (k : Fin 98)
    (y z : Fin 56) (h : i (ix3 b y z) = BitVec.ofNat 32 k.val) : matched i n (ix4 b c y z) = cands n (ix5 b c k y z) := by
  have h0 : matched i n (ix4 b c y z) = ∑ x : Fin 98,
      Scalar.select (IntOp.cmpi .eq (BitVec.ofNat 32 x.val) (i (ix3 b y z))) (cands n (ix5 b c x y z)) 0 := by
    unfold matched chosen
    pointwise
  have hs : ∀ x : Fin 98, Scalar.select (IntOp.cmpi .eq (BitVec.ofNat 32 x.val) (BitVec.ofNat 32 k.val))
      (cands n (ix5 b c x y z)) 0 = if x = k then cands n (ix5 b c x y z) else 0 := by
    intro x
    have hne : (BitVec.ofNat 32 x.val = BitVec.ofNat 32 k.val) ↔ x = k :=
      (by decide : ∀ x k : Fin 98, (BitVec.ofNat 32 x.val = BitVec.ofNat 32 k.val) ↔ x = k) x k
    unfold Scalar.select IntOp.cmpi
    by_cases hx : x = k
    · simp [hx]
    · have hb : (BitVec.ofNat 32 x.val == BitVec.ofNat 32 k.val) = false := beq_eq_false_iff_ne.mpr (mt hne.mp hx)
      simp [hx, hb]
  rw [h0, h]
  simp only [hs, Finset.sum_ite_eq', Finset.mem_univ, if_true]

/-- The loss: the sum of all squares, scaled. -/
theorem loss_apply (x : FVec Ideal S4x27x56x56 .f32) (j : S_.Idx) :
    loss x j = (∑ b : Fin 4, ∑ c : Fin 27, ∑ y : Fin 56, ∑ z : Fin 56, x (ix4 b c y z) * x (ix4 b c y z))
      * Ideal.ofBits .f32 0x35C624C4#32 := by
  have h0 : loss x j = Ideal.hostReduceAdd reducesTo_S4x27x56x56_S_d0_1_2_3 (mulf x x) 0 j * Ideal.ofBits .f32 0x35C624C4#32 := by
    unfold loss
    pointwise
  rw [h0, Ideal.hostReduceAdd_total reducesTo_S4x27x56x56_S_d0_1_2_3 (fun b => b.elim0), zero_add, sum_idx4]
  rfl

/-- The nine planes of item `b`. -/
def plane (p : FVec Ideal S4x3x224x224 .f32) (q : FVec Ideal S4x2x3x224x224 .f32) (b : Fin 4) (c : Fin 9) (y z : Fin 224) : EReal :=
  if h : c.val < 3 then p (ix4 b ⟨c.val, h⟩ y z)
  else q (ix5 b ⟨(c.val - 3) / 3, by omega⟩ ⟨(c.val - 3) % 3, by omega⟩ y z)

theorem planes_apply (p : FVec Ideal S4x3x224x224 .f32) (q : FVec Ideal S4x2x3x224x224 .f32) (b : Fin 4) (c : Fin 9)
    (y z : Fin 224) : planes p q (ix4 b c y z) = plane p q b c y z := by
  unfold planes plane
  pointwise

/-- The weights, and the small census and raw planes. -/
def wt (y : Fin 56) (k : Fin 224) : EReal := weights (ix2 y k)
def smallCensus (p : FVec Ideal S4x3x224x224 .f32) (q : FVec Ideal S4x2x3x224x224 .f32) (b : Fin 4) (c : Fin 9) :
    Fin 56 → Fin 56 → EReal := dn wt (cen (plane p q b c))
def smallRaw (p : FVec Ideal S4x3x224x224 .f32) (q : FVec Ideal S4x2x3x224x224 .f32) (b : Fin 4) (c : Fin 9) :
    Fin 56 → Fin 56 → EReal := dn wt (plane p q b c)

end Cert.Match.Ref

end
-- ==== Proof.KerItem.lean ====
/-
  What the kernel's run holds at each batch item: its tables are the selections and the weights, its small planes the
  problem's, and these are real numbers where the arguments are.
-/
module

public import proofs.«01_k».proof.Proof.KerRun
public import proofs.«01_k».proof.Proof.TableRows
public import proofs.«01_k».proof.Proof.TableCols
public import proofs.«01_k».proof.Proof.TableNearCols
public import proofs.«01_k».proof.Proof.RefRead

@[expose] public section

set_option maxRecDepth 16384

noncomputable section

open Idealize.ShloMosaic Idealize.ShloMosaic.TcCoe Idealize.SL.Sem

namespace Cert.Match.Ker
open Cert.KernelIdeal Cert.KernelIdeal.Gen

/-- The pattern of one, or of zero, chosen by a condition, denotes the one or the zero. -/
theorem pick_bits (P : Prop) [Decidable P] :
    Ideal.ofBits .f32 (if P then 0x3F800000#32 else 0x00000000#32) = if P then (1 : EReal) else 0 := by
  have h1 : Ideal.ofBits .f32 0x3F800000#32 = (1 : EReal) := by
    simp [Ideal.ofBits, Ideal.ieee, -EReal.coe_mul]
    norm_num
  have h0 : Ideal.ofBits .f32 0x00000000#32 = (0 : EReal) := by
    simp [Ideal.ofBits, Ideal.ieee, -EReal.coe_mul]
  split_ifs
  · exact h1
  · exact h0

/-- The four printed tables are the four selections. -/
theorem selects : Selects tabR tabC tabNR tabNC where
  row i y h := by
    refine Eq.trans ?_ (pick_bits _)
    refine Eq.trans ?_ (congrArg (Ideal.ofBits .f32) (rowSel_table i y h))
    exact congrArg (fun n => Ideal.ofBits .f32 (lit1 n)) (Fin.ext (Shape.rowMajor_val_two _))
  col j g z s := by
    refine Eq.trans ?_ (pick_bits _)
    refine Eq.trans ?_ (congrArg (Ideal.ofBits .f32) (colSel_table j g z s (by omega)))
    exact congrArg (fun n => Ideal.ofBits .f32 (lit2 n)) (Fin.ext (Shape.rowMajor_val_three _))
  nearRow i y h := by
    refine Eq.trans ?_ (pick_bits _)
    refine Eq.trans ?_ (congrArg (Ideal.ofBits .f32) (nearRowSel_table i y h))
    exact congrArg (fun n => Ideal.ofBits .f32 (lit3 n)) (Fin.ext (Shape.rowMajor_val_two _))
  nearCol j g z s := by
    refine Eq.trans ?_ (pick_bits _)
    refine Eq.trans ?_ (congrArg (Ideal.ofBits .f32) (nearColSel_table j g z s (by omega)))
    exact congrArg (fun n => Ideal.ofBits .f32 (lit4 n)) (Fin.ext (Shape.rowMajor_val_three _))

/-- The kernel's weights and the reference's are one table. -/
theorem weights_same : Cert.KernelIdeal.lit0 = Cert.ReferenceIdeal.lit0 := rfl

theorem tabW_apply (y : Fin 56) (k : Fin 224) : tabW (ix2 y k) = Ref.wt y k := by
  unfold tabW Ref.wt Ref.weights
  rw [weights_same]
  rfl

/-- A binary32 pattern whose exponent is not all ones denotes a real. -/
theorem ofBits_real (b : BitVec 32) (h : (b.extractLsb' 23 8 == 255#8) = false) : IsReal (Ideal.ofBits .f32 b) := by
  have hne : (b.extractLsb' 23 8).toNat ≠ 2 ^ 8 - 1 := fun he =>
    (beq_eq_false_iff_ne.mp h) (BitVec.eq_of_toNat_eq (by rw [he]; rfl))
  show IsReal (Ideal.ieee 8 23 b)
  unfold Ideal.ieee
  rw [if_neg hne]
  split_ifs <;> exact ⟨_, rfl⟩

theorem wt_real (y : Fin 56) (k : Fin 224) : IsReal (Ref.wt y k) := by
  rw [← tabW_apply]
  have e : tabW (ix2 y k) = Ideal.ofBits .f32 (lit0 ⟨y.val * 224 + k.val, by omega⟩) :=
    congrArg (fun n => Ideal.ofBits .f32 (lit0 n)) (Fin.ext (Shape.rowMajor_val_two _))
  rw [e]
  exact ofBits_real _ (weight_table y k)

theorem tanh_real (x : EReal) : IsReal (Ideal.tanh x) := by
  induction x with
  | bot => exact ⟨-1, show (-1 : EReal) = ((-1 : ℝ) : EReal) by rw [EReal.coe_neg, EReal.coe_one]⟩
  | top => exact ⟨1, show (1 : EReal) = ((1 : ℝ) : EReal) from EReal.coe_one.symm⟩
  | coe r => exact ⟨Real.tanh r, rfl⟩

/-- The census transform is real everywhere. -/
theorem cen_real (x : Fin 224 → Fin 224 → EReal) (y z : Fin 224) : IsReal (cen x y z) :=
  IsReal.mul (IsReal.sum fun _ => tanh_real _) ⟨_, rfl⟩

/-- A real plane, down-sampled by the weights, is real. -/
theorem dn_real (x : Fin 224 → Fin 224 → EReal) (h : ∀ y z, IsReal (x y z)) (y z : Fin 56) : IsReal (dn Ref.wt x y z) :=
  IsReal.sum fun _ => IsReal.mul (wt_real _ _) (IsReal.sum fun _ => IsReal.mul (wt_real _ _) (h _ _))

variable (m : (ℓ : Loc nD τ sig) → Buf (Elt Ideal) ℓ)

/-- The two arguments, as the reference takes them. -/
def argP (c : Dev nD) : FVec Ideal Cert.ReferenceIdeal.S4x3x224x224 .f32 := m ((c : Thread nD τ).loc main_arg0)
def argQ (c : Dev nD) : FVec Ideal Cert.ReferenceIdeal.S4x2x3x224x224 .f32 := m ((c : Thread nD τ).loc main_arg1)

theorem nine_eq (c : Dev nD) (t : Fin cfg0.N) (k : Fin 9) : nine (iblk m c 0 t) (iblk m c 1 t) k = Ref.plane (argP m c) (argQ m c) (item t) k := by
  funext y z
  unfold nine Ref.plane
  split_ifs with h
  · exact iblk_pred m c t _ y z
  · exact iblk_img m c t _ _ y z

theorem weights_eq (c : Dev nD) (t : Fin cfg0.N) : (fun (y : Fin 56) (k : Fin 224) => iblk m c 2 t (ix2 y k)) = Ref.wt := by
  funext y k
  rw [iblk_table2, (V_tables m c).1]
  exact tabW_apply y k

/-- At each grid point the kernel's small planes are the problem's. -/
theorem smallC_eq (c : Dev nD) (t : Fin cfg0.N) (k : Fin 9) :
    smallC (iblk m c 0 t) (iblk m c 1 t) (iblk m c 2 t) k = Ref.smallCensus (argP m c) (argQ m c) (item t) k := by
  unfold smallC Ref.smallCensus
  rw [nine_eq]
  exact congrArg (fun w => dn w _) (weights_eq m c t)

theorem smallR_eq (c : Dev nD) (t : Fin cfg0.N) (k : Fin 9) :
    smallR (iblk m c 0 t) (iblk m c 1 t) (iblk m c 2 t) k = Ref.smallRaw (argP m c) (argQ m c) (item t) k := by
  unfold smallR Ref.smallRaw
  rw [nine_eq]
  exact congrArg (fun w => dn w _) (weights_eq m c t)

/-- The table blocks are the selections. -/
theorem selects_blk (c : Dev nD) (t : Fin cfg0.N) : Selects (iblk m c 3 t) (iblk m c 4 t) (iblk m c 5 t) (iblk m c 6 t) := by
  rw [iblk_table3, iblk_table4, iblk_table5, iblk_table6]
  obtain ⟨-, h1, h2, h3, h4⟩ := V_tables m c
  rw [h1, h2, h3, h4]
  exact selects

/-- The block's value, for planes known by other names. -/
theorem out_of (x0 : Vec Ideal S1x3x224x224 .f32) (x1 : Vec Ideal S1x2x3x224x224 .f32) (x2 : Vec Ideal S56x224 .f32)
    (x3 : Vec Ideal S168x56 .f32) (x4 : Vec Ideal S3x124x112 .f32) (x5 : Vec Ideal S186x56 .f32) (x6 : Vec Ideal S3x124x112 .f32)
    (hs : Selects x3 x4 x5 x6) (f g : Fin 9 → Fin 56 → Fin 56 → EReal) (hf : smallC x0 x1 x2 = f) (hg : smallR x0 x1 x2 = g)
    (hC : ∀ c y z, IsReal (f c y z)) (hR : ∀ c y z, IsReal (g c y z)) :
    ∃ k : Fin 56 → Fin 56 → Fin 98, (∀ y z k', dist f (k y z) y z ≤ dist f k' y z) ∧
      out0_7 x0 x1 x2 x3 x4 x5 x6 (ix3 0 0 0) = ∑ y : Fin 56, ∑ z : Fin 56, dist g (k y z) y z := by
  subst hf hg
  obtain ⟨k, hk, ho⟩ := out_apply x0 x1 x2 x3 x4 x5 x6 hs hC hR
  exact ⟨k, hk, ho 0 0⟩

/-- The planes of real arguments are real. -/
theorem plane_real (p : FVec Ideal Cert.ReferenceIdeal.S4x3x224x224 .f32) (q : FVec Ideal Cert.ReferenceIdeal.S4x2x3x224x224 .f32)
    (hp : ∀ i, IsReal (p i)) (hq : ∀ i, IsReal (q i)) (b : Fin 4) (k : Fin 9) (y z : Fin 224) : IsReal (Ref.plane p q b k y z) := by
  unfold Ref.plane
  split_ifs
  · exact hp _
  · exact hq _

/-- One element of a batch item's block. -/
theorem block_value (c : Dev nD) (b : Fin 4) (hpl : ∀ k y z, IsReal (Ref.plane (argP m c) (argQ m c) b k y z)) :
    ∃ k : Fin 56 → Fin 56 → Fin 98,
      (∀ y z k', dist (Ref.smallCensus (argP m c) (argQ m c) b) (k y z) y z ≤ dist (Ref.smallCensus (argP m c) (argQ m c) b) k' y z)
      ∧ block m c (point b) (ix3 0 0 0) = ∑ y : Fin 56, ∑ z : Fin 56, dist (Ref.smallRaw (argP m c) (argQ m c) b) (k y z) y z := by
  have hs := selects_blk m c (point b)
  have eC : smallC (iblk m c 0 (point b)) (iblk m c 1 (point b)) (iblk m c 2 (point b)) = Ref.smallCensus (argP m c) (argQ m c) b :=
    funext fun k => smallC_eq m c (point b) k
  have eR : smallR (iblk m c 0 (point b)) (iblk m c 1 (point b)) (iblk m c 2 (point b)) = Ref.smallRaw (argP m c) (argQ m c) b :=
    funext fun k => smallR_eq m c (point b) k
  exact out_of _ _ _ _ _ _ _ hs _ _ eC eR (fun k y z => dn_real _ (cen_real _) y z) (fun k y z => dn_real _ (hpl k) y z)

/-- The host lines of the region's result array. -/
theorem tail_eq_sum (c : Dev nD) (j : S_.Idx) :
    tail (blocks m c) j = (∑ b : Fin 4, block m c (point b) (ix3 0 0 0)) * Ideal.ofBits .f32 0x35C624C4#32 := by
  unfold blocks
  generalize block m c = B
  rw [tail_apply]
  rfl

/-- What the kernel's program computes of real arguments: each pixel's squared raw distance to a candidate whose census
distance is least, summed and scaled. -/
theorem tail_blocks (c : Dev nD) (hp : ∀ i, IsReal (argP m c i)) (hq : ∀ i, IsReal (argQ m c i)) :
    ∃ k : Fin 4 → Fin 56 → Fin 56 → Fin 98,
      (∀ b y z k', dist (Ref.smallCensus (argP m c) (argQ m c) b) (k b y z) y z ≤ dist (Ref.smallCensus (argP m c) (argQ m c) b) k' y z)
      ∧ ∀ j, tail (blocks m c) j = (∑ b : Fin 4, ∑ y : Fin 56, ∑ z : Fin 56, dist (Ref.smallRaw (argP m c) (argQ m c) b) (k b y z) y z)
          * Ideal.ofBits .f32 0x35C624C4#32 := by
  have h : ∀ b : Fin 4, _ := fun b => block_value m c b (plane_real (argP m c) (argQ m c) hp hq b)
  choose k hk ho using h
  refine ⟨k, hk, fun j => ?_⟩
  have e : (∑ b : Fin 4, block m c (point b) (ix3 0 0 0))
      = ∑ b : Fin 4, ∑ y : Fin 56, ∑ z : Fin 56, dist (Ref.smallRaw (argP m c) (argQ m c) b) (k b y z) y z :=
    Finset.sum_congr rfl fun b _ => ho b
  rw [tail_eq_sum, e]

end Cert.Match.Ker
end
-- ==== Proof.RefTables.lean ====
/-
  The reference's printed tables of places are the mirrored ones, and what the reference computes, in the problem's
  words.
-/
module

public import proofs.«01_k».proof.Proof.RefRead

@[expose] public section

set_option maxRecDepth 16384

noncomputable section

open Idealize.ShloMosaic Idealize.ShloMosaic.TcCoe Idealize.SL.Sem

namespace Cert.Match.Ref
open Cert.ReferenceIdeal Cert.ReferenceIdeal.Gen

theorem lit1_table : ∀ (k : Fin 3) (y : Fin 224), (lit1 ⟨k.val * 224 + y.val, by omega⟩).toInt.toNat = mir 224 1 (y.val + k.val) := by
  decide +kernel

theorem lit3_table : ∀ (k : Fin 3) (y : Fin 56), (lit3 ⟨k.val * 56 + y.val, by omega⟩).toInt.toNat = mir 56 1 (y.val + k.val) := by
  decide +kernel

theorem lit5_table : ∀ (k : Fin 7) (y : Fin 56), (lit5 ⟨k.val * 56 + y.val, by omega⟩).toInt.toNat = mir 56 3 (y.val + k.val) := by
  decide +kernel

theorem lit2_eq : lit2 = lit1 := rfl
theorem lit4_eq : lit4 = lit3 := rfl
theorem lit7_eq : lit7 = lit3 := rfl
theorem lit8_eq : lit8 = lit3 := rfl
theorem lit6_eq : lit6 = lit5 := rfl
theorem lit9_eq : lit9 = lit5 := rfl
theorem lit10_eq : lit10 = lit5 := rfl

theorem mirL : MirL (tabL lit1) := fun k y => by
  rw [see_val (by decide) (by omega) y.isLt, ← lit1_table k y]
  exact congrArg (fun i => (lit1 i).toInt.toNat) (Fin.ext (Shape.rowMajor_val_two (ix2 k y)))

theorem mirS : MirS (tabS lit3) := fun k y => by
  rw [see_val (by decide) (by omega) y.isLt, ← lit3_table k y]
  exact congrArg (fun i => (lit3 i).toInt.toNat) (Fin.ext (Shape.rowMajor_val_two (ix2 k y)))

theorem mirN : MirN (tabN lit5) := fun k y => by
  rw [see_val (by decide) (by omega) y.isLt, ← lit5_table k y]
  exact congrArg (fun i => (lit5 i).toInt.toNat) (Fin.ext (Shape.rowMajor_val_two (ix2 k y)))

theorem censusPatches_apply (p : FVec Ideal S4x3x224x224 .f32) (q : FVec Ideal S4x2x3x224x224 .f32) (b : Fin 4)
    (c : Fin 81) (y z : Fin 56) : censusPatches p q (ix4 b c y z) = pat (smallCensus p q b) c y z := by
  unfold censusPatches
  rw [lit4_eq, lit2_eq, patches_apply _ _ _ mirS mirS]
  congr 1
  funext c y z
  rw [down_apply]
  unfold smallCensus
  congr 1
  funext y z
  rw [census_apply _ _ _ mirL mirL]
  congr 1
  funext y z
  exact planes_apply p q b c y z

theorem rawPatches_apply (p : FVec Ideal S4x3x224x224 .f32) (q : FVec Ideal S4x2x3x224x224 .f32) (b : Fin 4)
    (c : Fin 81) (y z : Fin 56) : rawPatches p q (ix4 b c y z) = pat (smallRaw p q b) c y z := by
  unfold rawPatches
  rw [lit7_eq, lit8_eq, patches_apply _ _ _ mirS mirS]
  congr 1
  funext c y z
  rw [down_apply]
  unfold smallRaw
  congr 1
  funext y z
  exact planes_apply p q b c y z

theorem censusDists_apply (p : FVec Ideal S4x3x224x224 .f32) (q : FVec Ideal S4x2x3x224x224 .f32) (b : Fin 4)
    (k : Fin 98) (y z : Fin 56) : censusDists p q (ix4 b k y z) = dist (smallCensus p q b) k y z := by
  unfold censusDists
  rw [lit6_eq]
  exact dists_apply _ _ _ mirN mirN _ (censusPatches_apply p q) b k y z

/-- The matched candidates of the raw planes, at positions `k`. -/
theorem matchedRaw_apply (p : FVec Ideal S4x3x224x224 .f32) (q : FVec Ideal S4x2x3x224x224 .f32) (i : IVec S4x56x56 32)
    (k : Fin 4 → Fin 56 → Fin 56 → Fin 98) (h : ∀ b y z, i (ix3 b y z) = BitVec.ofNat 32 (k b y z).val) (b : Fin 4)
    (c : Fin 27) (y z : Fin 56) :
    matched i (near (rawPatches p q) (tabN lit9) (tabN lit10)) (ix4 b c y z) = cand (smallRaw p q b) (k b y z) c y z := by
  rw [matched_apply _ _ b c (k b y z) y z (h b y z), lit9_eq, lit10_eq,
    cands_apply _ _ _ mirN mirN _ (rawPatches_apply p q)]

theorem predictedRaw_apply (p : FVec Ideal S4x3x224x224 .f32) (q : FVec Ideal S4x2x3x224x224 .f32) (b : Fin 4)
    (c : Fin 27) (y z : Fin 56) : predicted (rawPatches p q) (ix4 b c y z) = pat (smallRaw p q b) ⟨c.val, by omega⟩ y z := by
  have h0 : predicted (rawPatches p q) (ix4 b c y z) = rawPatches p q (ix4 b ⟨c.val, by omega⟩ y z) := by
    unfold predicted; pointwise
  rw [h0, rawPatches_apply]

/-- The loss of a difference whose elements are known. -/
theorem loss_sub (x n : FVec Ideal S4x27x56x56 .f32) (f g : Fin 4 → Fin 27 → Fin 56 → Fin 56 → EReal)
    (hx : ∀ b c y z, x (ix4 b c y z) = f b c y z) (hn : ∀ b c y z, n (ix4 b c y z) = g b c y z) (j : S_.Idx) :
    loss (subf x n) j = (∑ b : Fin 4, ∑ y : Fin 56, ∑ z : Fin 56, ∑ c : Fin 27,
      (f b c y z - g b c y z) * (f b c y z - g b c y z)) * Ideal.ofBits .f32 0x35C624C4#32 := by
  have h : ∀ b c y z, subf x n (ix4 b c y z) = f b c y z - g b c y z := fun b c y z => by
    rw [← hx, ← hn]; rfl
  rw [loss_apply]
  congr 1
  refine Finset.sum_congr rfl fun b _ => ?_
  simp only [h]
  rw [Finset.sum_comm]
  refine Finset.sum_congr rfl fun y _ => ?_
  rw [Finset.sum_comm]

/-- What the reference computes: each pixel's squared raw distance to a candidate whose census distance is least,
summed and scaled. -/
theorem result_apply (p : FVec Ideal S4x3x224x224 .f32) (q : FVec Ideal S4x2x3x224x224 .f32) :
    ∃ k : Fin 4 → Fin 56 → Fin 56 → Fin 98,
      (∀ b y z k', dist (smallCensus p q b) (k b y z) y z ≤ dist (smallCensus p q b) k' y z)
      ∧ ∀ j, result p q j = (∑ b : Fin 4, ∑ y : Fin 56, ∑ z : Fin 56, dist (smallRaw p q b) (k b y z) y z)
          * Ideal.ofBits .f32 0x35C624C4#32 := by
  choose k hk he using firstLeast_apply (censusDists p q)
  refine ⟨k, fun b y z k' => ?_, fun j => ?_⟩
  · have := hk b y z k'
    rwa [censusDists_apply, censusDists_apply] at this
  · exact loss_sub _ _ _ _ (predictedRaw_apply p q) (matchedRaw_apply p q _ k he) j

end Cert.Match.Ref

end
-- ==== Proof.PreRead.lean ====
/-
  What the precondition says of the two arguments: they are real numbers, and candidates tied for the least census
  distance of a pixel have equal raw distances.
-/
module

public import proofs.«01_k».proof.Pre_finite_and_no_split_tie
public import proofs.«01_k».proof.Proof.Gen.Pre_finite_and_no_split_tie
public import proofs.«01_k».proof.Proof.RefTables
public import proofs.«01_k».proof.Proof.KerBlock

@[expose] public section

set_option maxRecDepth 16384

noncomputable section

open Idealize.ShloMosaic Idealize.ShloMosaic.TcCoe Idealize.SL.Sem

namespace Cert.Match.Ref
open Cert.ReferenceIdeal Cert.ReferenceIdeal.Gen

/-- The raw distances of every candidate. -/
def rawDists (p : FVec Ideal S4x3x224x224 .f32) (q : FVec Ideal S4x2x3x224x224 .f32) : FVec Ideal S4x98x56x56 .f32 :=
  dists (rawPatches p q) (near (rawPatches p q) (tabN lit9) (tabN lit10))

/-- Infinity everywhere. -/
def infs : FVec Ideal S4x98x56x56 .f32 := broadcastInDim S4x98x56x56 ![] bcast_S_S4x98x56x56 (constant S_ .f32 0x7F800000#32)

/-- Whether a raw distance is the least among the candidates marked. -/
def leastMarked (a : IVec S4x98x56x56 1) (r : FVec Ideal S4x98x56x56 .f32) : IVec S4x98x56x56 1 := cmpf .oeq r (least (select a r infs))

/-- A candidate of least census distance has the least raw distance among these. -/
def noSplit (d r : FVec Ideal S4x98x56x56 .f32) : IVec S4x98x56x56 1 := ori (noti (attain d)) (leastMarked (attain d) r)

/-- The precondition's third part says that no tie is split. -/
theorem pre_split (p : FVec Ideal S4x3x224x224 .f32) (q : FVec Ideal S4x2x3x224x224 .f32) :
    (Cert.Pre_finite_and_no_split_tie.fn (F := Ideal) p q).2.2 = noSplit (censusDists p q) (rawDists p q) := by
  rfl

/-- The precondition's first part bounds every entry of the first argument. -/
theorem pre_pred (p : FVec Ideal S4x3x224x224 .f32) (q : FVec Ideal S4x2x3x224x224 .f32) (i : S4x3x224x224.Idx) :
    (Cert.Pre_finite_and_no_split_tie.fn (F := Ideal) p q).1 i = Ideal.cmp .olt (max (p i) (-(p i))) (Ideal.ofBits .f32 0x7F800000#32) := rfl

/-- The precondition's second part bounds every entry of the second argument. -/
theorem pre_img (p : FVec Ideal S4x3x224x224 .f32) (q : FVec Ideal S4x2x3x224x224 .f32) (i : S4x2x3x224x224.Idx) :
    (Cert.Pre_finite_and_no_split_tie.fn (F := Ideal) p q).2.1 i = Ideal.cmp .olt (max (q i) (-(q i))) (Ideal.ofBits .f32 0x7F800000#32) := rfl

/-- A magnitude below infinity is a real number's. -/
theorem real_of_below {x : EReal} (h : Ideal.cmp .olt (max x (-x)) (Ideal.ofBits .f32 0x7F800000#32) = 1#1) : Ker.IsReal x := by
  have hinf : Ideal.ofBits .f32 0x7F800000#32 = ⊤ := by simp [Ideal.ofBits, Ideal.ieee]
  rw [hinf] at h
  have hlt : max x (-x) < ⊤ := by
    by_contra hn
    simp [Ideal.cmp, hn] at h
  induction x with
  | bot => simp at hlt
  | top => simp at hlt
  | coe r => exact ⟨r, rfl⟩

/-- A candidate attains the least distance of its pixel. -/
theorem attain_apply (d : FVec Ideal S4x98x56x56 .f32) (b : Fin 4) (k : Fin 98) (y z : Fin 56) :
    attain d (ix4 b k y z)
      = BitVec.ofBool (decide (d (ix4 b k y z) = Finset.fold min ⊤ (fun x : Fin 98 => d (ix4 b x y z)) Finset.univ)) := by
  have hinf : Ideal.ofBits .f32 0x7F800000#32 = ⊤ := by simp [Ideal.ofBits, Ideal.ieee]
  rw [← hinf]
  unfold attain least
  pointwise

/-- A marked candidate's distance against the least of the marked. -/
theorem leastMarked_apply (a : IVec S4x98x56x56 1) (r : FVec Ideal S4x98x56x56 .f32) (b : Fin 4) (k : Fin 98) (y z : Fin 56) :
    leastMarked a r (ix4 b k y z)
      = BitVec.ofBool (decide (r (ix4 b k y z) = Finset.fold min ⊤
          (fun x : Fin 98 => Scalar.select (a (ix4 b x y z)) (r (ix4 b x y z)) ⊤) Finset.univ)) := by
  have hinf : Ideal.ofBits .f32 0x7F800000#32 = ⊤ := by simp [Ideal.ofBits, Ideal.ieee]
  rw [← hinf]
  unfold leastMarked least infs
  pointwise

/-- The least distance is attained by any candidate whose distance is no more than the others'. -/
theorem attain_of_le (d : FVec Ideal S4x98x56x56 .f32) (b : Fin 4) (k : Fin 98) (y z : Fin 56)
    (h : ∀ k', d (ix4 b k y z) ≤ d (ix4 b k' y z)) : attain d (ix4 b k y z) = 1#1 := by
  obtain ⟨x, hx, hle⟩ := fold_min_attained fun x : Fin 98 => d (ix4 b x y z)
  rw [attain_apply, ← hx, decide_eq_true (le_antisymm (h x) (hle k))]
  rfl

/-- Where no tie is split, two candidates of least census distance have one raw distance. -/
theorem raw_of_noSplit (d r : FVec Ideal S4x98x56x56 .f32) (hs : noSplit d r = fun _ => 1#1) (b : Fin 4) (k l : Fin 98) (y z : Fin 56)
    (hk : ∀ k', d (ix4 b k y z) ≤ d (ix4 b k' y z)) (hl : ∀ k', d (ix4 b l y z) ≤ d (ix4 b k' y z)) :
    r (ix4 b k y z) = r (ix4 b l y z) := by
  have key : ∀ k, (∀ k', d (ix4 b k y z) ≤ d (ix4 b k' y z)) → r (ix4 b k y z) = Finset.fold min ⊤
      (fun x : Fin 98 => Scalar.select (attain d (ix4 b x y z)) (r (ix4 b x y z)) ⊤) Finset.univ := by
    intro k hk
    have h1 := congrFun hs (ix4 b k y z)
    have h2 : noSplit d r (ix4 b k y z) = ~~~ (attain d (ix4 b k y z)) ||| leastMarked (attain d) r (ix4 b k y z) := rfl
    rw [h2, attain_of_le d b k y z hk, leastMarked_apply] at h1
    by_contra hn
    rw [decide_eq_false hn] at h1
    exact absurd h1 (by decide)
  rw [key k hk, key l hl]

/-- The raw distance of a candidate is that of its patches. -/
theorem rawDists_apply (p : FVec Ideal S4x3x224x224 .f32) (q : FVec Ideal S4x2x3x224x224 .f32) (b : Fin 4) (k : Fin 98) (y z : Fin 56) :
    rawDists p q (ix4 b k y z) = dist (smallRaw p q b) k y z := by
  rw [rawDists, lit9_eq, lit10_eq]
  exact dists_apply _ _ _ mirN mirN _ (rawPatches_apply p q) b k y z

/-- Under the precondition the arguments are real, and candidates of least census distance have one raw distance. -/
theorem pre_read (p : FVec Ideal S4x3x224x224 .f32) (q : FVec Ideal S4x2x3x224x224 .f32)
    (h : (Cert.Pre_finite_and_no_split_tie.fn (F := Ideal) p q).1 = (fun _ => 1#1)
      ∧ (Cert.Pre_finite_and_no_split_tie.fn (F := Ideal) p q).2.1 = (fun _ => 1#1)
      ∧ (Cert.Pre_finite_and_no_split_tie.fn (F := Ideal) p q).2.2 = (fun _ => 1#1)) :
    (∀ i, Ker.IsReal (p i)) ∧ (∀ i, Ker.IsReal (q i)) ∧ ∀ b k l y z,
      (∀ k', dist (smallCensus p q b) k y z ≤ dist (smallCensus p q b) k' y z) →
      (∀ k', dist (smallCensus p q b) l y z ≤ dist (smallCensus p q b) k' y z) →
      dist (smallRaw p q b) k y z = dist (smallRaw p q b) l y z := by
  obtain ⟨h1, h2, h3⟩ := h
  refine ⟨fun i => real_of_below ((pre_pred p q i).symm.trans (congrFun h1 i)),
    fun i => real_of_below ((pre_img p q i).symm.trans (congrFun h2 i)), fun b k l y z hk hl => ?_⟩
  rw [← rawDists_apply, ← rawDists_apply]
  refine raw_of_noSplit (censusDists p q) _ ((pre_split p q).symm.trans h3) b k l y z ?_ ?_
  · intro k'; rw [censusDists_apply, censusDists_apply]; exact hk k'
  · intro k'; rw [censusDists_apply, censusDists_apply]; exact hl k'

end Cert.Match.Ref
end
-- ==== Proof.Algebraic.lean ====
/-
  The value claim: under the precondition the idealized kernel and the reference end with the same result.
-/
module

public import proofs.«01_k».proof.Defs
public import proofs.«01_k».proof.Proof.Gen.ReferenceIdeal.Run
public import proofs.«01_k».proof.Proof.Gen.KernelIdeal.Frame
public import proofs.«01_k».proof.Proof.KerItem
public import proofs.«01_k».proof.Proof.PreRead
public import Idealize.ShloMosaic.Lib.Quiescent

@[expose] public section

set_option maxRecDepth 16384

noncomputable section

open Idealize.ShloMosaic Idealize.ShloMosaic.TcCoe Idealize.SL.Sem

namespace Cert.Proof

open Cert.Match

/-- The kernel's result is the reference's, for arguments the precondition admits. -/
theorem results_eq (m : (ℓ : Loc Cert.KernelIdeal.nD Cert.KernelIdeal.τ Cert.KernelIdeal.sig) → Buf (Elt Ideal) ℓ)
    (hpre : Cert.Pre_KernelIdeal_finite_and_no_split_tie m) (c : Dev Cert.KernelIdeal.nD) :
    Ref.result (Ker.argP m c) (Ker.argQ m c) = Ker.tail (Ker.blocks m c) := by
  obtain ⟨hp, hq, htie⟩ := Ref.pre_read (Ker.argP m c) (Ker.argQ m c) (hpre c)
  obtain ⟨k, hk, ek⟩ := Ker.tail_blocks m c hp hq
  obtain ⟨l, hl, el⟩ := Ref.result_apply (Ker.argP m c) (Ker.argQ m c)
  funext j
  have e : (∑ b : Fin 4, ∑ y : Fin 56, ∑ z : Fin 56, dist (Ref.smallRaw (Ker.argP m c) (Ker.argQ m c) b) (l b y z) y z)
      = ∑ b : Fin 4, ∑ y : Fin 56, ∑ z : Fin 56, dist (Ref.smallRaw (Ker.argP m c) (Ker.argQ m c) b) (k b y z) y z :=
    Finset.sum_congr rfl fun b _ => Finset.sum_congr rfl fun y _ => Finset.sum_congr rfl fun z _ =>
      htie b (l b y z) (k b y z) y z (hl b y z) (hk b y z)
  rw [el j, ek j, e]

/-- From arguments that agree, the idealized kernel and the reference both run and end with the same result, their
    arguments unchanged. -/
theorem algebraic : Cert.algebraic_KernelIdeal_ReferenceIdeal_pre_finite_and_no_split_tie := by
  intro m ρ m' ρ' hpre hagree
  refine ⟨fun c => Ker.tail (Ker.blocks m c), Ker.run m ρ, ?_⟩
  refine (θ_run Cert.ReferenceIdeal.defs _ _).mono (fun _ h c => ⟨(h c).1.trans ?_, (h c).2⟩)
    (Cert.ReferenceIdeal.Value.run (F := Ideal) m' ρ')
  refine (Ref.result_eq _).trans ?_
  have e : Ref.result (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      = Ker.tail (Ker.blocks m c) := by
    rw [(hagree c).1, (hagree c).2]
    exact results_eq m hpre c
  exact e

/-- The idealized kernel's frame, under the precondition. -/
theorem frame_pi_pre : Cert.quiescent_KernelIdeal_pre_finite_and_no_split_tie := fun m ρ _ => Cert.KernelIdeal.Gen.frame m ρ

/-- The reference's frame, under the precondition. -/
theorem frame_ri_pre : Cert.quiescent_ReferenceIdeal_pre_finite_and_no_split_tie := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.lean ====
/-
  The certificate's claims, assembled from the modules that prove them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_and_no_split_tie
public import proofs.«01_k».proof.Proof.Frames
public import proofs.«01_k».proof.Proof.Algebraic
public import Idealize.ShloMosaic.Adequacy
public import Idealize.ShloMosaic.Init

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_finite_and_no_split_tie.Gen.facts,
    frame_p, frame_pi, frame_pi_pre, frame_ri, frame_ri_pre, preserves, algebraic⟩

end Cert.Proof

end
